-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![1, 1024, 1024]⟩ ⟨3, ![16, 1024, 1024]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x1024x1024 : Shape := ⟨3, ![1, 1024, 1024]⟩
abbrev S1024x1024 : Shape := ⟨2, ![1024, 1024]⟩
abbrev S16x64x1024 : Shape := ⟨3, ![16, 64, 1024]⟩
abbrev S4x4x64x1024 : Shape := ⟨4, ![4, 4, 64, 1024]⟩
abbrev S4x64x1024 : Shape := ⟨3, ![4, 64, 1024]⟩
abbrev S2x4x4 : Shape := ⟨3, ![2, 4, 4]⟩
abbrev S2x4 : Shape := ⟨2, ![2, 4]⟩
abbrev S_ : Shape := ⟨0, ![]⟩
abbrev S1x1x1 : Shape := ⟨3, ![1, 1, 1]⟩
abbrev S1x1x32x1024 : Shape := ⟨4, ![1, 1, 32, 1024]⟩
abbrev S32x1024 : Shape := ⟨2, ![32, 1024]⟩
abbrev S1x32x1024 : Shape := ⟨3, ![1, 32, 1024]⟩
abbrev S1x1 : Shape := ⟨2, ![1, 1]⟩

abbrev nBuf : Space → Nat
  | .hbm => 2
  | .vmem => 9
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .local _ .vmem, ⟨0, _⟩ => ⟨S1x1024x1024, .bf16⟩
  | .local _ .vmem, ⟨1, _⟩ => ⟨S1024x1024, .bf16⟩
  | .local _ .vmem, ⟨2, _⟩ => ⟨S16x64x1024, .bf16⟩
  | .local _ .vmem, ⟨3, _⟩ => ⟨S4x4x64x1024, .bf16⟩
  | .local _ .vmem, ⟨4, _⟩ => ⟨S4x64x1024, .f32⟩
  | .local _ .vmem, ⟨5, _⟩ => ⟨S4x64x1024, .bf16⟩
  | .local _ .vmem, ⟨6, _⟩ => ⟨S4x64x1024, .bf16⟩
  | .local _ .vmem, ⟨7, _⟩ => ⟨S4x64x1024, .bf16⟩
  | .local _ .vmem, ⟨8, _⟩ => ⟨S4x4x64x1024, .bf16⟩
  | _, _ => ⟨S1x1024x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 162 → Bool
  | ⟨i, _⟩ => dmaSemScopedAt i

abbrev sig : RefSig :=
  (ofTc nBuf bufTy 1 162 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_scratch5 : Ref sig .tc := ⟨.vmem, 7, rfl⟩
abbrev cc0_scratch6 : Ref sig .tc := ⟨.vmem, 8, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let c4_i32_11 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v31 : BitVec 32 := Scalar.muli c4_i32_11 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_12 : BitVec 32 := 1#32
  let v32 : BitVec 32 := Scalar.addi v12 c1_i32_12
  let c4_i32_13 : BitVec 32 := 4#32
  let c0_i32_14 : BitVec 32 := 0#32
  let v33 : BitVec 1 := Scalar.cmpi .eq c4_i32_13 c0_i32_14
  let c1_i32_15 : BitVec 32 := 1#32
  let v34 : BitVec 32 := Scalar.select v33 c1_i32_15 c4_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let v43 : BitVec 32 := Scalar.addi v31 v42
  let c1_i32_20 : BitVec 32 := 1#32
  let v44 : BitVec 32 := Scalar.muli v43 c1_i32_20
  let v45 : BitVec 32 := Scalar.addi c0_i32_21 v44
  v45.toNat
def k0_dev2 (d0 : Dev nD) : Nat :=
  let c0_i32_31 : BitVec 32 := 0#32
  let c4_i32_22 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v46 : BitVec 32 := Scalar.muli c4_i32_22 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32 : BitVec 32 := 2#32
  let v47 : BitVec 32 := Scalar.addi v12 c2_i32
  let c4_i32_23 : BitVec 32 := 4#32
  let c0_i32_24 : BitVec 32 := 0#32
  let v48 : BitVec 1 := Scalar.cmpi .eq c4_i32_23 c0_i32_24
  let c1_i32_25 : BitVec 32 := 1#32
  let v49 : BitVec 32 := Scalar.select v48 c1_i32_25 c4_i32_23
  let v50 : BitVec 32 := Scalar.remsi v47 v49
  let c0_i32_27 : BitVec 32 := 0#32
  let v52 : BitVec 1 := Scalar.cmpi .slt v50 c0_i32_27
  let c0_i32_28 : BitVec 32 := 0#32
  let v53 : BitVec 1 := Scalar.cmpi .slt v49 c0_i32_28
  let v54 : BitVec 1 := Scalar.xori v52 v53
  let c0_i32_26 : BitVec 32 := 0#32
  let v51 : BitVec 1 := Scalar.cmpi .ne v50 c0_i32_26
  let v55 : BitVec 1 := Scalar.andi v54 v51
  let v56 : BitVec 32 := Scalar.addi v50 v49
  let v57 : BitVec 32 := Scalar.select v55 v56 v50
  let v58 : BitVec 32 := Scalar.addi v46 v57
  let c1_i32_30 : BitVec 32 := 1#32
  let v59 : BitVec 32 := Scalar.muli v58 c1_i32_30
  let v60 : BitVec 32 := Scalar.addi c0_i32_31 v59
  v60.toNat
def k0_dev3 (d0 : Dev nD) : Nat :=
  let c0_i32_41 : BitVec 32 := 0#32
  let c4_i32_32 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v61 : BitVec 32 := Scalar.muli c4_i32_32 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32 : BitVec 32 := 3#32
  let v62 : BitVec 32 := Scalar.addi v12 c3_i32
  let c4_i32_33 : BitVec 32 := 4#32
  let c0_i32_34 : BitVec 32 := 0#32
  let v63 : BitVec 1 := Scalar.cmpi .eq c4_i32_33 c0_i32_34
  let c1_i32_35 : BitVec 32 := 1#32
  let v64 : BitVec 32 := Scalar.select v63 c1_i32_35 c4_i32_33
  let v65 : BitVec 32 := Scalar.remsi v62 v64
  let c0_i32_37 : BitVec 32 := 0#32
  let v67 : BitVec 1 := Scalar.cmpi .slt v65 c0_i32_37
  let c0_i32_38 : BitVec 32 := 0#32
  let v68 : BitVec 1 := Scalar.cmpi .slt v64 c0_i32_38
  let v69 : BitVec 1 := Scalar.xori v67 v68
  let c0_i32_36 : BitVec 32 := 0#32
  let v66 : BitVec 1 := Scalar.cmpi .ne v65 c0_i32_36
  let v70 : BitVec 1 := Scalar.andi v69 v66
  let v71 : BitVec 32 := Scalar.addi v65 v64
  let v72 : BitVec 32 := Scalar.select v70 v71 v65
  let v73 : BitVec 32 := Scalar.addi v61 v72
  let c1_i32_40 : BitVec 32 := 1#32
  let v74 : BitVec 32 := Scalar.muli v73 c1_i32_40
  let v75 : BitVec 32 := Scalar.addi c0_i32_41 v74
  v75.toNat
def k0_dev4 (d0 : Dev nD) : Nat :=
  let c0_i32_52 : BitVec 32 := 0#32
  let c4_i32_49 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_42 : BitVec 32 := 1#32
  let v76 : BitVec 32 := Scalar.addi v29 c1_i32_42
  let c4_i32_43 : BitVec 32 := 4#32
  let c0_i32_44 : BitVec 32 := 0#32
  let v77 : BitVec 1 := Scalar.cmpi .eq c4_i32_43 c0_i32_44
  let c1_i32_45 : BitVec 32 := 1#32
  let v78 : BitVec 32 := Scalar.select v77 c1_i32_45 c4_i32_43
  let v79 : BitVec 32 := Scalar.remsi v76 v78
  let c0_i32_47 : BitVec 32 := 0#32
  let v81 : BitVec 1 := Scalar.cmpi .slt v79 c0_i32_47
  let c0_i32_48 : BitVec 32 := 0#32
  let v82 : BitVec 1 := Scalar.cmpi .slt v78 c0_i32_48
  let v83 : BitVec 1 := Scalar.xori v81 v82
  let c0_i32_46 : BitVec 32 := 0#32
  let v80 : BitVec 1 := Scalar.cmpi .ne v79 c0_i32_46
  let v84 : BitVec 1 := Scalar.andi v83 v80
  let v85 : BitVec 32 := Scalar.addi v79 v78
  let v86 : BitVec 32 := Scalar.select v84 v85 v79
  let v87 : BitVec 32 := Scalar.muli c4_i32_49 v86
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v88 : BitVec 32 := Scalar.addi v87 v12
  let c1_i32_51 : BitVec 32 := 1#32
  let v89 : BitVec 32 := Scalar.muli v88 c1_i32_51
  let v90 : BitVec 32 := Scalar.addi c0_i32_52 v89
  v90.toNat
def k0_dev5 (d0 : Dev nD) : Nat :=
  let c0_i32_63 : BitVec 32 := 0#32
  let c4_i32_60 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_53 : BitVec 32 := 2#32
  let v91 : BitVec 32 := Scalar.addi v29 c2_i32_53
  let c4_i32_54 : BitVec 32 := 4#32
  let c0_i32_55 : BitVec 32 := 0#32
  let v92 : BitVec 1 := Scalar.cmpi .eq c4_i32_54 c0_i32_55
  let c1_i32_56 : BitVec 32 := 1#32
  let v93 : BitVec 32 := Scalar.select v92 c1_i32_56 c4_i32_54
  let v94 : BitVec 32 := Scalar.remsi v91 v93
  let c0_i32_58 : BitVec 32 := 0#32
  let v96 : BitVec 1 := Scalar.cmpi .slt v94 c0_i32_58
  let c0_i32_59 : BitVec 32 := 0#32
  let v97 : BitVec 1 := Scalar.cmpi .slt v93 c0_i32_59
  let v98 : BitVec 1 := Scalar.xori v96 v97
  let c0_i32_57 : BitVec 32 := 0#32
  let v95 : BitVec 1 := Scalar.cmpi .ne v94 c0_i32_57
  let v99 : BitVec 1 := Scalar.andi v98 v95
  let v100 : BitVec 32 := Scalar.addi v94 v93
  let v101 : BitVec 32 := Scalar.select v99 v100 v94
  let v102 : BitVec 32 := Scalar.muli c4_i32_60 v101
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v103 : BitVec 32 := Scalar.addi v102 v12
  let c1_i32_62 : BitVec 32 := 1#32
  let v104 : BitVec 32 := Scalar.muli v103 c1_i32_62
  let v105 : BitVec 32 := Scalar.addi c0_i32_63 v104
  v105.toNat
def k0_dev6 (d0 : Dev nD) : Nat :=
  let c0_i32_74 : BitVec 32 := 0#32
  let c4_i32_71 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_64 : BitVec 32 := 3#32
  let v106 : BitVec 32 := Scalar.addi v29 c3_i32_64
  let c4_i32_65 : BitVec 32 := 4#32
  let c0_i32_66 : BitVec 32 := 0#32
  let v107 : BitVec 1 := Scalar.cmpi .eq c4_i32_65 c0_i32_66
  let c1_i32_67 : BitVec 32 := 1#32
  let v108 : BitVec 32 := Scalar.select v107 c1_i32_67 c4_i32_65
  let v109 : BitVec 32 := Scalar.remsi v106 v108
  let c0_i32_69 : BitVec 32 := 0#32
  let v111 : BitVec 1 := Scalar.cmpi .slt v109 c0_i32_69
  let c0_i32_70 : BitVec 32 := 0#32
  let v112 : BitVec 1 := Scalar.cmpi .slt v108 c0_i32_70
  let v113 : BitVec 1 := Scalar.xori v111 v112
  let c0_i32_68 : BitVec 32 := 0#32
  let v110 : BitVec 1 := Scalar.cmpi .ne v109 c0_i32_68
  let v114 : BitVec 1 := Scalar.andi v113 v110
  let v115 : BitVec 32 := Scalar.addi v109 v108
  let v116 : BitVec 32 := Scalar.select v114 v115 v109
  let v117 : BitVec 32 := Scalar.muli c4_i32_71 v116
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v118 : BitVec 32 := Scalar.addi v117 v12
  let c1_i32_73 : BitVec 32 := 1#32
  let v119 : BitVec 32 := Scalar.muli v118 c1_i32_73
  let v120 : BitVec 32 := Scalar.addi c0_i32_74 v119
  v120.toNat
def k0_off1 (d0 : Dev nD) (c0_i32_88 : BitVec 32) (c1_i32_80 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v127 : BitVec 32 := Scalar.addi v12 c1_i32_80
  let c4_i32_81 : BitVec 32 := 4#32
  let c0_i32_82 : BitVec 32 := 0#32
  let v128 : BitVec 1 := Scalar.cmpi .eq c4_i32_81 c0_i32_82
  let c1_i32_83 : BitVec 32 := 1#32
  let v129 : BitVec 32 := Scalar.select v128 c1_i32_83 c4_i32_81
  let v130 : BitVec 32 := Scalar.remsi v127 v129
  let c0_i32_85 : BitVec 32 := 0#32
  let v132 : BitVec 1 := Scalar.cmpi .slt v130 c0_i32_85
  let c0_i32_86 : BitVec 32 := 0#32
  let v133 : BitVec 1 := Scalar.cmpi .slt v129 c0_i32_86
  let v134 : BitVec 1 := Scalar.xori v132 v133
  let c0_i32_84 : BitVec 32 := 0#32
  let v131 : BitVec 1 := Scalar.cmpi .ne v130 c0_i32_84
  let v135 : BitVec 1 := Scalar.andi v134 v131
  let v136 : BitVec 32 := Scalar.addi v130 v129
  let v137 : BitVec 32 := Scalar.select v135 v136 v130
  let v140 : BitVec 32 := Scalar.addi c0_i32_88 v137
  let c0_i32_101 : BitVec 32 := 0#32
  let c0_i32_102 : BitVec 32 := 0#32
  ![v140.toNat, 0, 0]
def k0_dev7 (d0 : Dev nD) : Nat :=
  let c0_i32_98 : BitVec 32 := 0#32
  let c4_i32_87 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v138 : BitVec 32 := Scalar.muli c4_i32_87 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_80 : BitVec 32 := 1#32
  let v127 : BitVec 32 := Scalar.addi v12 c1_i32_80
  let c4_i32_81 : BitVec 32 := 4#32
  let c0_i32_82 : BitVec 32 := 0#32
  let v128 : BitVec 1 := Scalar.cmpi .eq c4_i32_81 c0_i32_82
  let c1_i32_83 : BitVec 32 := 1#32
  let v129 : BitVec 32 := Scalar.select v128 c1_i32_83 c4_i32_81
  let v130 : BitVec 32 := Scalar.remsi v127 v129
  let c0_i32_85 : BitVec 32 := 0#32
  let v132 : BitVec 1 := Scalar.cmpi .slt v130 c0_i32_85
  let c0_i32_86 : BitVec 32 := 0#32
  let v133 : BitVec 1 := Scalar.cmpi .slt v129 c0_i32_86
  let v134 : BitVec 1 := Scalar.xori v132 v133
  let c0_i32_84 : BitVec 32 := 0#32
  let v131 : BitVec 1 := Scalar.cmpi .ne v130 c0_i32_84
  let v135 : BitVec 1 := Scalar.andi v134 v131
  let v136 : BitVec 32 := Scalar.addi v130 v129
  let v137 : BitVec 32 := Scalar.select v135 v136 v130
  let v139 : BitVec 32 := Scalar.addi v138 v137
  let c1_i32_97 : BitVec 32 := 1#32
  let v141 : BitVec 32 := Scalar.muli v139 c1_i32_97
  let v142 : BitVec 32 := Scalar.addi c0_i32_98 v141
  v142.toNat
def k0_dev8 (d0 : Dev nD) : Nat :=
  let c0_i32_113 : BitVec 32 := 0#32
  let c4_i32_87 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v138 : BitVec 32 := Scalar.muli c4_i32_87 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_80 : BitVec 32 := 1#32
  let v127 : BitVec 32 := Scalar.addi v12 c1_i32_80
  let c4_i32_81 : BitVec 32 := 4#32
  let c0_i32_82 : BitVec 32 := 0#32
  let v128 : BitVec 1 := Scalar.cmpi .eq c4_i32_81 c0_i32_82
  let c1_i32_83 : BitVec 32 := 1#32
  let v129 : BitVec 32 := Scalar.select v128 c1_i32_83 c4_i32_81
  let v130 : BitVec 32 := Scalar.remsi v127 v129
  let c0_i32_85 : BitVec 32 := 0#32
  let v132 : BitVec 1 := Scalar.cmpi .slt v130 c0_i32_85
  let c0_i32_86 : BitVec 32 := 0#32
  let v133 : BitVec 1 := Scalar.cmpi .slt v129 c0_i32_86
  let v134 : BitVec 1 := Scalar.xori v132 v133
  let c0_i32_84 : BitVec 32 := 0#32
  let v131 : BitVec 1 := Scalar.cmpi .ne v130 c0_i32_84
  let v135 : BitVec 1 := Scalar.andi v134 v131
  let v136 : BitVec 32 := Scalar.addi v130 v129
  let v137 : BitVec 32 := Scalar.select v135 v136 v130
  let v139 : BitVec 32 := Scalar.addi v138 v137
  let c1_i32_112 : BitVec 32 := 1#32
  let v152 : BitVec 32 := Scalar.muli v139 c1_i32_112
  let v153 : BitVec 32 := Scalar.addi c0_i32_113 v152
  v153.toNat
def k0_dev9 (d0 : Dev nD) : Nat :=
  let c0_i32_127 : BitVec 32 := 0#32
  let c4_i32_87 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v138 : BitVec 32 := Scalar.muli c4_i32_87 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_80 : BitVec 32 := 1#32
  let v127 : BitVec 32 := Scalar.addi v12 c1_i32_80
  let c4_i32_81 : BitVec 32 := 4#32
  let c0_i32_82 : BitVec 32 := 0#32
  let v128 : BitVec 1 := Scalar.cmpi .eq c4_i32_81 c0_i32_82
  let c1_i32_83 : BitVec 32 := 1#32
  let v129 : BitVec 32 := Scalar.select v128 c1_i32_83 c4_i32_81
  let v130 : BitVec 32 := Scalar.remsi v127 v129
  let c0_i32_85 : BitVec 32 := 0#32
  let v132 : BitVec 1 := Scalar.cmpi .slt v130 c0_i32_85
  let c0_i32_86 : BitVec 32 := 0#32
  let v133 : BitVec 1 := Scalar.cmpi .slt v129 c0_i32_86
  let v134 : BitVec 1 := Scalar.xori v132 v133
  let c0_i32_84 : BitVec 32 := 0#32
  let v131 : BitVec 1 := Scalar.cmpi .ne v130 c0_i32_84
  let v135 : BitVec 1 := Scalar.andi v134 v131
  let v136 : BitVec 32 := Scalar.addi v130 v129
  let v137 : BitVec 32 := Scalar.select v135 v136 v130
  let v139 : BitVec 32 := Scalar.addi v138 v137
  let c1_i32_126 : BitVec 32 := 1#32
  let v163 : BitVec 32 := Scalar.muli v139 c1_i32_126
  let v164 : BitVec 32 := Scalar.addi c0_i32_127 v163
  v164.toNat
def k0_dev10 (d0 : Dev nD) : Nat :=
  let c0_i32_141 : BitVec 32 := 0#32
  let c4_i32_87 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v138 : BitVec 32 := Scalar.muli c4_i32_87 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_80 : BitVec 32 := 1#32
  let v127 : BitVec 32 := Scalar.addi v12 c1_i32_80
  let c4_i32_81 : BitVec 32 := 4#32
  let c0_i32_82 : BitVec 32 := 0#32
  let v128 : BitVec 1 := Scalar.cmpi .eq c4_i32_81 c0_i32_82
  let c1_i32_83 : BitVec 32 := 1#32
  let v129 : BitVec 32 := Scalar.select v128 c1_i32_83 c4_i32_81
  let v130 : BitVec 32 := Scalar.remsi v127 v129
  let c0_i32_85 : BitVec 32 := 0#32
  let v132 : BitVec 1 := Scalar.cmpi .slt v130 c0_i32_85
  let c0_i32_86 : BitVec 32 := 0#32
  let v133 : BitVec 1 := Scalar.cmpi .slt v129 c0_i32_86
  let v134 : BitVec 1 := Scalar.xori v132 v133
  let c0_i32_84 : BitVec 32 := 0#32
  let v131 : BitVec 1 := Scalar.cmpi .ne v130 c0_i32_84
  let v135 : BitVec 1 := Scalar.andi v134 v131
  let v136 : BitVec 32 := Scalar.addi v130 v129
  let v137 : BitVec 32 := Scalar.select v135 v136 v130
  let v139 : BitVec 32 := Scalar.addi v138 v137
  let c1_i32_140 : BitVec 32 := 1#32
  let v174 : BitVec 32 := Scalar.muli v139 c1_i32_140
  let v175 : BitVec 32 := Scalar.addi c0_i32_141 v174
  v175.toNat
def k0_dev11 (d0 : Dev nD) : Nat :=
  let c0_i32_164 : BitVec 32 := 0#32
  let c4_i32_153 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v195 : BitVec 32 := Scalar.muli c4_i32_153 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_146 : BitVec 32 := 2#32
  let v184 : BitVec 32 := Scalar.addi v12 c2_i32_146
  let c4_i32_147 : BitVec 32 := 4#32
  let c0_i32_148 : BitVec 32 := 0#32
  let v185 : BitVec 1 := Scalar.cmpi .eq c4_i32_147 c0_i32_148
  let c1_i32_149 : BitVec 32 := 1#32
  let v186 : BitVec 32 := Scalar.select v185 c1_i32_149 c4_i32_147
  let v187 : BitVec 32 := Scalar.remsi v184 v186
  let c0_i32_151 : BitVec 32 := 0#32
  let v189 : BitVec 1 := Scalar.cmpi .slt v187 c0_i32_151
  let c0_i32_152 : BitVec 32 := 0#32
  let v190 : BitVec 1 := Scalar.cmpi .slt v186 c0_i32_152
  let v191 : BitVec 1 := Scalar.xori v189 v190
  let c0_i32_150 : BitVec 32 := 0#32
  let v188 : BitVec 1 := Scalar.cmpi .ne v187 c0_i32_150
  let v192 : BitVec 1 := Scalar.andi v191 v188
  let v193 : BitVec 32 := Scalar.addi v187 v186
  let v194 : BitVec 32 := Scalar.select v192 v193 v187
  let v196 : BitVec 32 := Scalar.addi v195 v194
  let c1_i32_163 : BitVec 32 := 1#32
  let v198 : BitVec 32 := Scalar.muli v196 c1_i32_163
  let v199 : BitVec 32 := Scalar.addi c0_i32_164 v198
  v199.toNat
def k0_dev12 (d0 : Dev nD) : Nat :=
  let c0_i32_179 : BitVec 32 := 0#32
  let c4_i32_153 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v195 : BitVec 32 := Scalar.muli c4_i32_153 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_146 : BitVec 32 := 2#32
  let v184 : BitVec 32 := Scalar.addi v12 c2_i32_146
  let c4_i32_147 : BitVec 32 := 4#32
  let c0_i32_148 : BitVec 32 := 0#32
  let v185 : BitVec 1 := Scalar.cmpi .eq c4_i32_147 c0_i32_148
  let c1_i32_149 : BitVec 32 := 1#32
  let v186 : BitVec 32 := Scalar.select v185 c1_i32_149 c4_i32_147
  let v187 : BitVec 32 := Scalar.remsi v184 v186
  let c0_i32_151 : BitVec 32 := 0#32
  let v189 : BitVec 1 := Scalar.cmpi .slt v187 c0_i32_151
  let c0_i32_152 : BitVec 32 := 0#32
  let v190 : BitVec 1 := Scalar.cmpi .slt v186 c0_i32_152
  let v191 : BitVec 1 := Scalar.xori v189 v190
  let c0_i32_150 : BitVec 32 := 0#32
  let v188 : BitVec 1 := Scalar.cmpi .ne v187 c0_i32_150
  let v192 : BitVec 1 := Scalar.andi v191 v188
  let v193 : BitVec 32 := Scalar.addi v187 v186
  let v194 : BitVec 32 := Scalar.select v192 v193 v187
  let v196 : BitVec 32 := Scalar.addi v195 v194
  let c1_i32_178 : BitVec 32 := 1#32
  let v209 : BitVec 32 := Scalar.muli v196 c1_i32_178
  let v210 : BitVec 32 := Scalar.addi c0_i32_179 v209
  v210.toNat
def k0_dev13 (d0 : Dev nD) : Nat :=
  let c0_i32_194 : BitVec 32 := 0#32
  let c4_i32_153 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v195 : BitVec 32 := Scalar.muli c4_i32_153 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_146 : BitVec 32 := 2#32
  let v184 : BitVec 32 := Scalar.addi v12 c2_i32_146
  let c4_i32_147 : BitVec 32 := 4#32
  let c0_i32_148 : BitVec 32 := 0#32
  let v185 : BitVec 1 := Scalar.cmpi .eq c4_i32_147 c0_i32_148
  let c1_i32_149 : BitVec 32 := 1#32
  let v186 : BitVec 32 := Scalar.select v185 c1_i32_149 c4_i32_147
  let v187 : BitVec 32 := Scalar.remsi v184 v186
  let c0_i32_151 : BitVec 32 := 0#32
  let v189 : BitVec 1 := Scalar.cmpi .slt v187 c0_i32_151
  let c0_i32_152 : BitVec 32 := 0#32
  let v190 : BitVec 1 := Scalar.cmpi .slt v186 c0_i32_152
  let v191 : BitVec 1 := Scalar.xori v189 v190
  let c0_i32_150 : BitVec 32 := 0#32
  let v188 : BitVec 1 := Scalar.cmpi .ne v187 c0_i32_150
  let v192 : BitVec 1 := Scalar.andi v191 v188
  let v193 : BitVec 32 := Scalar.addi v187 v186
  let v194 : BitVec 32 := Scalar.select v192 v193 v187
  let v196 : BitVec 32 := Scalar.addi v195 v194
  let c1_i32_193 : BitVec 32 := 1#32
  let v220 : BitVec 32 := Scalar.muli v196 c1_i32_193
  let v221 : BitVec 32 := Scalar.addi c0_i32_194 v220
  v221.toNat
def k0_dev14 (d0 : Dev nD) : Nat :=
  let c0_i32_209 : BitVec 32 := 0#32
  let c4_i32_153 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v195 : BitVec 32 := Scalar.muli c4_i32_153 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_146 : BitVec 32 := 2#32
  let v184 : BitVec 32 := Scalar.addi v12 c2_i32_146
  let c4_i32_147 : BitVec 32 := 4#32
  let c0_i32_148 : BitVec 32 := 0#32
  let v185 : BitVec 1 := Scalar.cmpi .eq c4_i32_147 c0_i32_148
  let c1_i32_149 : BitVec 32 := 1#32
  let v186 : BitVec 32 := Scalar.select v185 c1_i32_149 c4_i32_147
  let v187 : BitVec 32 := Scalar.remsi v184 v186
  let c0_i32_151 : BitVec 32 := 0#32
  let v189 : BitVec 1 := Scalar.cmpi .slt v187 c0_i32_151
  let c0_i32_152 : BitVec 32 := 0#32
  let v190 : BitVec 1 := Scalar.cmpi .slt v186 c0_i32_152
  let v191 : BitVec 1 := Scalar.xori v189 v190
  let c0_i32_150 : BitVec 32 := 0#32
  let v188 : BitVec 1 := Scalar.cmpi .ne v187 c0_i32_150
  let v192 : BitVec 1 := Scalar.andi v191 v188
  let v193 : BitVec 32 := Scalar.addi v187 v186
  let v194 : BitVec 32 := Scalar.select v192 v193 v187
  let v196 : BitVec 32 := Scalar.addi v195 v194
  let c1_i32_208 : BitVec 32 := 1#32
  let v231 : BitVec 32 := Scalar.muli v196 c1_i32_208
  let v232 : BitVec 32 := Scalar.addi c0_i32_209 v231
  v232.toNat
def k0_dev15 (d0 : Dev nD) : Nat :=
  let c0_i32_232 : BitVec 32 := 0#32
  let c4_i32_221 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v252 : BitVec 32 := Scalar.muli c4_i32_221 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_214 : BitVec 32 := 3#32
  let v241 : BitVec 32 := Scalar.addi v12 c3_i32_214
  let c4_i32_215 : BitVec 32 := 4#32
  let c0_i32_216 : BitVec 32 := 0#32
  let v242 : BitVec 1 := Scalar.cmpi .eq c4_i32_215 c0_i32_216
  let c1_i32_217 : BitVec 32 := 1#32
  let v243 : BitVec 32 := Scalar.select v242 c1_i32_217 c4_i32_215
  let v244 : BitVec 32 := Scalar.remsi v241 v243
  let c0_i32_219 : BitVec 32 := 0#32
  let v246 : BitVec 1 := Scalar.cmpi .slt v244 c0_i32_219
  let c0_i32_220 : BitVec 32 := 0#32
  let v247 : BitVec 1 := Scalar.cmpi .slt v243 c0_i32_220
  let v248 : BitVec 1 := Scalar.xori v246 v247
  let c0_i32_218 : BitVec 32 := 0#32
  let v245 : BitVec 1 := Scalar.cmpi .ne v244 c0_i32_218
  let v249 : BitVec 1 := Scalar.andi v248 v245
  let v250 : BitVec 32 := Scalar.addi v244 v243
  let v251 : BitVec 32 := Scalar.select v249 v250 v244
  let v253 : BitVec 32 := Scalar.addi v252 v251
  let c1_i32_231 : BitVec 32 := 1#32
  let v255 : BitVec 32 := Scalar.muli v253 c1_i32_231
  let v256 : BitVec 32 := Scalar.addi c0_i32_232 v255
  v256.toNat
def k0_dev16 (d0 : Dev nD) : Nat :=
  let c0_i32_247 : BitVec 32 := 0#32
  let c4_i32_221 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v252 : BitVec 32 := Scalar.muli c4_i32_221 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_214 : BitVec 32 := 3#32
  let v241 : BitVec 32 := Scalar.addi v12 c3_i32_214
  let c4_i32_215 : BitVec 32 := 4#32
  let c0_i32_216 : BitVec 32 := 0#32
  let v242 : BitVec 1 := Scalar.cmpi .eq c4_i32_215 c0_i32_216
  let c1_i32_217 : BitVec 32 := 1#32
  let v243 : BitVec 32 := Scalar.select v242 c1_i32_217 c4_i32_215
  let v244 : BitVec 32 := Scalar.remsi v241 v243
  let c0_i32_219 : BitVec 32 := 0#32
  let v246 : BitVec 1 := Scalar.cmpi .slt v244 c0_i32_219
  let c0_i32_220 : BitVec 32 := 0#32
  let v247 : BitVec 1 := Scalar.cmpi .slt v243 c0_i32_220
  let v248 : BitVec 1 := Scalar.xori v246 v247
  let c0_i32_218 : BitVec 32 := 0#32
  let v245 : BitVec 1 := Scalar.cmpi .ne v244 c0_i32_218
  let v249 : BitVec 1 := Scalar.andi v248 v245
  let v250 : BitVec 32 := Scalar.addi v244 v243
  let v251 : BitVec 32 := Scalar.select v249 v250 v244
  let v253 : BitVec 32 := Scalar.addi v252 v251
  let c1_i32_246 : BitVec 32 := 1#32
  let v266 : BitVec 32 := Scalar.muli v253 c1_i32_246
  let v267 : BitVec 32 := Scalar.addi c0_i32_247 v266
  v267.toNat
def k0_dev17 (d0 : Dev nD) : Nat :=
  let c0_i32_262 : BitVec 32 := 0#32
  let c4_i32_221 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v252 : BitVec 32 := Scalar.muli c4_i32_221 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_214 : BitVec 32 := 3#32
  let v241 : BitVec 32 := Scalar.addi v12 c3_i32_214
  let c4_i32_215 : BitVec 32 := 4#32
  let c0_i32_216 : BitVec 32 := 0#32
  let v242 : BitVec 1 := Scalar.cmpi .eq c4_i32_215 c0_i32_216
  let c1_i32_217 : BitVec 32 := 1#32
  let v243 : BitVec 32 := Scalar.select v242 c1_i32_217 c4_i32_215
  let v244 : BitVec 32 := Scalar.remsi v241 v243
  let c0_i32_219 : BitVec 32 := 0#32
  let v246 : BitVec 1 := Scalar.cmpi .slt v244 c0_i32_219
  let c0_i32_220 : BitVec 32 := 0#32
  let v247 : BitVec 1 := Scalar.cmpi .slt v243 c0_i32_220
  let v248 : BitVec 1 := Scalar.xori v246 v247
  let c0_i32_218 : BitVec 32 := 0#32
  let v245 : BitVec 1 := Scalar.cmpi .ne v244 c0_i32_218
  let v249 : BitVec 1 := Scalar.andi v248 v245
  let v250 : BitVec 32 := Scalar.addi v244 v243
  let v251 : BitVec 32 := Scalar.select v249 v250 v244
  let v253 : BitVec 32 := Scalar.addi v252 v251
  let c1_i32_261 : BitVec 32 := 1#32
  let v277 : BitVec 32 := Scalar.muli v253 c1_i32_261
  let v278 : BitVec 32 := Scalar.addi c0_i32_262 v277
  v278.toNat
def k0_dev18 (d0 : Dev nD) : Nat :=
  let c0_i32_277 : BitVec 32 := 0#32
  let c4_i32_221 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v252 : BitVec 32 := Scalar.muli c4_i32_221 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_214 : BitVec 32 := 3#32
  let v241 : BitVec 32 := Scalar.addi v12 c3_i32_214
  let c4_i32_215 : BitVec 32 := 4#32
  let c0_i32_216 : BitVec 32 := 0#32
  let v242 : BitVec 1 := Scalar.cmpi .eq c4_i32_215 c0_i32_216
  let c1_i32_217 : BitVec 32 := 1#32
  let v243 : BitVec 32 := Scalar.select v242 c1_i32_217 c4_i32_215
  let v244 : BitVec 32 := Scalar.remsi v241 v243
  let c0_i32_219 : BitVec 32 := 0#32
  let v246 : BitVec 1 := Scalar.cmpi .slt v244 c0_i32_219
  let c0_i32_220 : BitVec 32 := 0#32
  let v247 : BitVec 1 := Scalar.cmpi .slt v243 c0_i32_220
  let v248 : BitVec 1 := Scalar.xori v246 v247
  let c0_i32_218 : BitVec 32 := 0#32
  let v245 : BitVec 1 := Scalar.cmpi .ne v244 c0_i32_218
  let v249 : BitVec 1 := Scalar.andi v248 v245
  let v250 : BitVec 32 := Scalar.addi v244 v243
  let v251 : BitVec 32 := Scalar.select v249 v250 v244
  let v253 : BitVec 32 := Scalar.addi v252 v251
  let c1_i32_276 : BitVec 32 := 1#32
  let v288 : BitVec 32 := Scalar.muli v253 c1_i32_276
  let v289 : BitVec 32 := Scalar.addi c0_i32_277 v288
  v289.toNat
def k0_off2 (d0 : Dev nD) (c0_i32_290 : BitVec 32) (c1_i32_282 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v298 : BitVec 32 := Scalar.addi v12 c1_i32_282
  let c4_i32_283 : BitVec 32 := 4#32
  let c0_i32_284 : BitVec 32 := 0#32
  let v299 : BitVec 1 := Scalar.cmpi .eq c4_i32_283 c0_i32_284
  let c1_i32_285 : BitVec 32 := 1#32
  let v300 : BitVec 32 := Scalar.select v299 c1_i32_285 c4_i32_283
  let v301 : BitVec 32 := Scalar.remsi v298 v300
  let c0_i32_287 : BitVec 32 := 0#32
  let v303 : BitVec 1 := Scalar.cmpi .slt v301 c0_i32_287
  let c0_i32_288 : BitVec 32 := 0#32
  let v304 : BitVec 1 := Scalar.cmpi .slt v300 c0_i32_288
  let v305 : BitVec 1 := Scalar.xori v303 v304
  let c0_i32_286 : BitVec 32 := 0#32
  let v302 : BitVec 1 := Scalar.cmpi .ne v301 c0_i32_286
  let v306 : BitVec 1 := Scalar.andi v305 v302
  let v307 : BitVec 32 := Scalar.addi v301 v300
  let v308 : BitVec 32 := Scalar.select v306 v307 v301
  let v311 : BitVec 32 := Scalar.addi c0_i32_290 v308
  let c32_i32_302 : BitVec 32 := 32#32
  let c0_i32_303 : BitVec 32 := 0#32
  ![v311.toNat, 32, 0]
def k0_dev19 (d0 : Dev nD) : Nat :=
  let c0_i32_300 : BitVec 32 := 0#32
  let c4_i32_289 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v309 : BitVec 32 := Scalar.muli c4_i32_289 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_282 : BitVec 32 := 1#32
  let v298 : BitVec 32 := Scalar.addi v12 c1_i32_282
  let c4_i32_283 : BitVec 32 := 4#32
  let c0_i32_284 : BitVec 32 := 0#32
  let v299 : BitVec 1 := Scalar.cmpi .eq c4_i32_283 c0_i32_284
  let c1_i32_285 : BitVec 32 := 1#32
  let v300 : BitVec 32 := Scalar.select v299 c1_i32_285 c4_i32_283
  let v301 : BitVec 32 := Scalar.remsi v298 v300
  let c0_i32_287 : BitVec 32 := 0#32
  let v303 : BitVec 1 := Scalar.cmpi .slt v301 c0_i32_287
  let c0_i32_288 : BitVec 32 := 0#32
  let v304 : BitVec 1 := Scalar.cmpi .slt v300 c0_i32_288
  let v305 : BitVec 1 := Scalar.xori v303 v304
  let c0_i32_286 : BitVec 32 := 0#32
  let v302 : BitVec 1 := Scalar.cmpi .ne v301 c0_i32_286
  let v306 : BitVec 1 := Scalar.andi v305 v302
  let v307 : BitVec 32 := Scalar.addi v301 v300
  let v308 : BitVec 32 := Scalar.select v306 v307 v301
  let v310 : BitVec 32 := Scalar.addi v309 v308
  let c1_i32_299 : BitVec 32 := 1#32
  let v312 : BitVec 32 := Scalar.muli v310 c1_i32_299
  let v313 : BitVec 32 := Scalar.addi c0_i32_300 v312
  v313.toNat
def k0_dev20 (d0 : Dev nD) : Nat :=
  let c0_i32_314 : BitVec 32 := 0#32
  let c4_i32_289 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v309 : BitVec 32 := Scalar.muli c4_i32_289 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_282 : BitVec 32 := 1#32
  let v298 : BitVec 32 := Scalar.addi v12 c1_i32_282
  let c4_i32_283 : BitVec 32 := 4#32
  let c0_i32_284 : BitVec 32 := 0#32
  let v299 : BitVec 1 := Scalar.cmpi .eq c4_i32_283 c0_i32_284
  let c1_i32_285 : BitVec 32 := 1#32
  let v300 : BitVec 32 := Scalar.select v299 c1_i32_285 c4_i32_283
  let v301 : BitVec 32 := Scalar.remsi v298 v300
  let c0_i32_287 : BitVec 32 := 0#32
  let v303 : BitVec 1 := Scalar.cmpi .slt v301 c0_i32_287
  let c0_i32_288 : BitVec 32 := 0#32
  let v304 : BitVec 1 := Scalar.cmpi .slt v300 c0_i32_288
  let v305 : BitVec 1 := Scalar.xori v303 v304
  let c0_i32_286 : BitVec 32 := 0#32
  let v302 : BitVec 1 := Scalar.cmpi .ne v301 c0_i32_286
  let v306 : BitVec 1 := Scalar.andi v305 v302
  let v307 : BitVec 32 := Scalar.addi v301 v300
  let v308 : BitVec 32 := Scalar.select v306 v307 v301
  let v310 : BitVec 32 := Scalar.addi v309 v308
  let c1_i32_313 : BitVec 32 := 1#32
  let v323 : BitVec 32 := Scalar.muli v310 c1_i32_313
  let v324 : BitVec 32 := Scalar.addi c0_i32_314 v323
  v324.toNat
def k0_dev21 (d0 : Dev nD) : Nat :=
  let c0_i32_329 : BitVec 32 := 0#32
  let c4_i32_289 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v309 : BitVec 32 := Scalar.muli c4_i32_289 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_282 : BitVec 32 := 1#32
  let v298 : BitVec 32 := Scalar.addi v12 c1_i32_282
  let c4_i32_283 : BitVec 32 := 4#32
  let c0_i32_284 : BitVec 32 := 0#32
  let v299 : BitVec 1 := Scalar.cmpi .eq c4_i32_283 c0_i32_284
  let c1_i32_285 : BitVec 32 := 1#32
  let v300 : BitVec 32 := Scalar.select v299 c1_i32_285 c4_i32_283
  let v301 : BitVec 32 := Scalar.remsi v298 v300
  let c0_i32_287 : BitVec 32 := 0#32
  let v303 : BitVec 1 := Scalar.cmpi .slt v301 c0_i32_287
  let c0_i32_288 : BitVec 32 := 0#32
  let v304 : BitVec 1 := Scalar.cmpi .slt v300 c0_i32_288
  let v305 : BitVec 1 := Scalar.xori v303 v304
  let c0_i32_286 : BitVec 32 := 0#32
  let v302 : BitVec 1 := Scalar.cmpi .ne v301 c0_i32_286
  let v306 : BitVec 1 := Scalar.andi v305 v302
  let v307 : BitVec 32 := Scalar.addi v301 v300
  let v308 : BitVec 32 := Scalar.select v306 v307 v301
  let v310 : BitVec 32 := Scalar.addi v309 v308
  let c1_i32_328 : BitVec 32 := 1#32
  let v334 : BitVec 32 := Scalar.muli v310 c1_i32_328
  let v335 : BitVec 32 := Scalar.addi c0_i32_329 v334
  v335.toNat
def k0_dev22 (d0 : Dev nD) : Nat :=
  let c0_i32_344 : BitVec 32 := 0#32
  let c4_i32_289 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v309 : BitVec 32 := Scalar.muli c4_i32_289 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_282 : BitVec 32 := 1#32
  let v298 : BitVec 32 := Scalar.addi v12 c1_i32_282
  let c4_i32_283 : BitVec 32 := 4#32
  let c0_i32_284 : BitVec 32 := 0#32
  let v299 : BitVec 1 := Scalar.cmpi .eq c4_i32_283 c0_i32_284
  let c1_i32_285 : BitVec 32 := 1#32
  let v300 : BitVec 32 := Scalar.select v299 c1_i32_285 c4_i32_283
  let v301 : BitVec 32 := Scalar.remsi v298 v300
  let c0_i32_287 : BitVec 32 := 0#32
  let v303 : BitVec 1 := Scalar.cmpi .slt v301 c0_i32_287
  let c0_i32_288 : BitVec 32 := 0#32
  let v304 : BitVec 1 := Scalar.cmpi .slt v300 c0_i32_288
  let v305 : BitVec 1 := Scalar.xori v303 v304
  let c0_i32_286 : BitVec 32 := 0#32
  let v302 : BitVec 1 := Scalar.cmpi .ne v301 c0_i32_286
  let v306 : BitVec 1 := Scalar.andi v305 v302
  let v307 : BitVec 32 := Scalar.addi v301 v300
  let v308 : BitVec 32 := Scalar.select v306 v307 v301
  let v310 : BitVec 32 := Scalar.addi v309 v308
  let c1_i32_343 : BitVec 32 := 1#32
  let v345 : BitVec 32 := Scalar.muli v310 c1_i32_343
  let v346 : BitVec 32 := Scalar.addi c0_i32_344 v345
  v346.toNat
def k0_dev23 (d0 : Dev nD) : Nat :=
  let c0_i32_367 : BitVec 32 := 0#32
  let c4_i32_356 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v366 : BitVec 32 := Scalar.muli c4_i32_356 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_349 : BitVec 32 := 2#32
  let v355 : BitVec 32 := Scalar.addi v12 c2_i32_349
  let c4_i32_350 : BitVec 32 := 4#32
  let c0_i32_351 : BitVec 32 := 0#32
  let v356 : BitVec 1 := Scalar.cmpi .eq c4_i32_350 c0_i32_351
  let c1_i32_352 : BitVec 32 := 1#32
  let v357 : BitVec 32 := Scalar.select v356 c1_i32_352 c4_i32_350
  let v358 : BitVec 32 := Scalar.remsi v355 v357
  let c0_i32_354 : BitVec 32 := 0#32
  let v360 : BitVec 1 := Scalar.cmpi .slt v358 c0_i32_354
  let c0_i32_355 : BitVec 32 := 0#32
  let v361 : BitVec 1 := Scalar.cmpi .slt v357 c0_i32_355
  let v362 : BitVec 1 := Scalar.xori v360 v361
  let c0_i32_353 : BitVec 32 := 0#32
  let v359 : BitVec 1 := Scalar.cmpi .ne v358 c0_i32_353
  let v363 : BitVec 1 := Scalar.andi v362 v359
  let v364 : BitVec 32 := Scalar.addi v358 v357
  let v365 : BitVec 32 := Scalar.select v363 v364 v358
  let v367 : BitVec 32 := Scalar.addi v366 v365
  let c1_i32_366 : BitVec 32 := 1#32
  let v369 : BitVec 32 := Scalar.muli v367 c1_i32_366
  let v370 : BitVec 32 := Scalar.addi c0_i32_367 v369
  v370.toNat
def k0_dev24 (d0 : Dev nD) : Nat :=
  let c0_i32_382 : BitVec 32 := 0#32
  let c4_i32_356 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v366 : BitVec 32 := Scalar.muli c4_i32_356 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_349 : BitVec 32 := 2#32
  let v355 : BitVec 32 := Scalar.addi v12 c2_i32_349
  let c4_i32_350 : BitVec 32 := 4#32
  let c0_i32_351 : BitVec 32 := 0#32
  let v356 : BitVec 1 := Scalar.cmpi .eq c4_i32_350 c0_i32_351
  let c1_i32_352 : BitVec 32 := 1#32
  let v357 : BitVec 32 := Scalar.select v356 c1_i32_352 c4_i32_350
  let v358 : BitVec 32 := Scalar.remsi v355 v357
  let c0_i32_354 : BitVec 32 := 0#32
  let v360 : BitVec 1 := Scalar.cmpi .slt v358 c0_i32_354
  let c0_i32_355 : BitVec 32 := 0#32
  let v361 : BitVec 1 := Scalar.cmpi .slt v357 c0_i32_355
  let v362 : BitVec 1 := Scalar.xori v360 v361
  let c0_i32_353 : BitVec 32 := 0#32
  let v359 : BitVec 1 := Scalar.cmpi .ne v358 c0_i32_353
  let v363 : BitVec 1 := Scalar.andi v362 v359
  let v364 : BitVec 32 := Scalar.addi v358 v357
  let v365 : BitVec 32 := Scalar.select v363 v364 v358
  let v367 : BitVec 32 := Scalar.addi v366 v365
  let c1_i32_381 : BitVec 32 := 1#32
  let v380 : BitVec 32 := Scalar.muli v367 c1_i32_381
  let v381 : BitVec 32 := Scalar.addi c0_i32_382 v380
  v381.toNat
def k0_dev25 (d0 : Dev nD) : Nat :=
  let c0_i32_397 : BitVec 32 := 0#32
  let c4_i32_356 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v366 : BitVec 32 := Scalar.muli c4_i32_356 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_349 : BitVec 32 := 2#32
  let v355 : BitVec 32 := Scalar.addi v12 c2_i32_349
  let c4_i32_350 : BitVec 32 := 4#32
  let c0_i32_351 : BitVec 32 := 0#32
  let v356 : BitVec 1 := Scalar.cmpi .eq c4_i32_350 c0_i32_351
  let c1_i32_352 : BitVec 32 := 1#32
  let v357 : BitVec 32 := Scalar.select v356 c1_i32_352 c4_i32_350
  let v358 : BitVec 32 := Scalar.remsi v355 v357
  let c0_i32_354 : BitVec 32 := 0#32
  let v360 : BitVec 1 := Scalar.cmpi .slt v358 c0_i32_354
  let c0_i32_355 : BitVec 32 := 0#32
  let v361 : BitVec 1 := Scalar.cmpi .slt v357 c0_i32_355
  let v362 : BitVec 1 := Scalar.xori v360 v361
  let c0_i32_353 : BitVec 32 := 0#32
  let v359 : BitVec 1 := Scalar.cmpi .ne v358 c0_i32_353
  let v363 : BitVec 1 := Scalar.andi v362 v359
  let v364 : BitVec 32 := Scalar.addi v358 v357
  let v365 : BitVec 32 := Scalar.select v363 v364 v358
  let v367 : BitVec 32 := Scalar.addi v366 v365
  let c1_i32_396 : BitVec 32 := 1#32
  let v391 : BitVec 32 := Scalar.muli v367 c1_i32_396
  let v392 : BitVec 32 := Scalar.addi c0_i32_397 v391
  v392.toNat
def k0_dev26 (d0 : Dev nD) : Nat :=
  let c0_i32_412 : BitVec 32 := 0#32
  let c4_i32_356 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v366 : BitVec 32 := Scalar.muli c4_i32_356 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_349 : BitVec 32 := 2#32
  let v355 : BitVec 32 := Scalar.addi v12 c2_i32_349
  let c4_i32_350 : BitVec 32 := 4#32
  let c0_i32_351 : BitVec 32 := 0#32
  let v356 : BitVec 1 := Scalar.cmpi .eq c4_i32_350 c0_i32_351
  let c1_i32_352 : BitVec 32 := 1#32
  let v357 : BitVec 32 := Scalar.select v356 c1_i32_352 c4_i32_350
  let v358 : BitVec 32 := Scalar.remsi v355 v357
  let c0_i32_354 : BitVec 32 := 0#32
  let v360 : BitVec 1 := Scalar.cmpi .slt v358 c0_i32_354
  let c0_i32_355 : BitVec 32 := 0#32
  let v361 : BitVec 1 := Scalar.cmpi .slt v357 c0_i32_355
  let v362 : BitVec 1 := Scalar.xori v360 v361
  let c0_i32_353 : BitVec 32 := 0#32
  let v359 : BitVec 1 := Scalar.cmpi .ne v358 c0_i32_353
  let v363 : BitVec 1 := Scalar.andi v362 v359
  let v364 : BitVec 32 := Scalar.addi v358 v357
  let v365 : BitVec 32 := Scalar.select v363 v364 v358
  let v367 : BitVec 32 := Scalar.addi v366 v365
  let c1_i32_411 : BitVec 32 := 1#32
  let v402 : BitVec 32 := Scalar.muli v367 c1_i32_411
  let v403 : BitVec 32 := Scalar.addi c0_i32_412 v402
  v403.toNat
def k0_dev27 (d0 : Dev nD) : Nat :=
  let c0_i32_435 : BitVec 32 := 0#32
  let c4_i32_424 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v423 : BitVec 32 := Scalar.muli c4_i32_424 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_417 : BitVec 32 := 3#32
  let v412 : BitVec 32 := Scalar.addi v12 c3_i32_417
  let c4_i32_418 : BitVec 32 := 4#32
  let c0_i32_419 : BitVec 32 := 0#32
  let v413 : BitVec 1 := Scalar.cmpi .eq c4_i32_418 c0_i32_419
  let c1_i32_420 : BitVec 32 := 1#32
  let v414 : BitVec 32 := Scalar.select v413 c1_i32_420 c4_i32_418
  let v415 : BitVec 32 := Scalar.remsi v412 v414
  let c0_i32_422 : BitVec 32 := 0#32
  let v417 : BitVec 1 := Scalar.cmpi .slt v415 c0_i32_422
  let c0_i32_423 : BitVec 32 := 0#32
  let v418 : BitVec 1 := Scalar.cmpi .slt v414 c0_i32_423
  let v419 : BitVec 1 := Scalar.xori v417 v418
  let c0_i32_421 : BitVec 32 := 0#32
  let v416 : BitVec 1 := Scalar.cmpi .ne v415 c0_i32_421
  let v420 : BitVec 1 := Scalar.andi v419 v416
  let v421 : BitVec 32 := Scalar.addi v415 v414
  let v422 : BitVec 32 := Scalar.select v420 v421 v415
  let v424 : BitVec 32 := Scalar.addi v423 v422
  let c1_i32_434 : BitVec 32 := 1#32
  let v426 : BitVec 32 := Scalar.muli v424 c1_i32_434
  let v427 : BitVec 32 := Scalar.addi c0_i32_435 v426
  v427.toNat
def k0_dev28 (d0 : Dev nD) : Nat :=
  let c0_i32_450 : BitVec 32 := 0#32
  let c4_i32_424 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v423 : BitVec 32 := Scalar.muli c4_i32_424 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_417 : BitVec 32 := 3#32
  let v412 : BitVec 32 := Scalar.addi v12 c3_i32_417
  let c4_i32_418 : BitVec 32 := 4#32
  let c0_i32_419 : BitVec 32 := 0#32
  let v413 : BitVec 1 := Scalar.cmpi .eq c4_i32_418 c0_i32_419
  let c1_i32_420 : BitVec 32 := 1#32
  let v414 : BitVec 32 := Scalar.select v413 c1_i32_420 c4_i32_418
  let v415 : BitVec 32 := Scalar.remsi v412 v414
  let c0_i32_422 : BitVec 32 := 0#32
  let v417 : BitVec 1 := Scalar.cmpi .slt v415 c0_i32_422
  let c0_i32_423 : BitVec 32 := 0#32
  let v418 : BitVec 1 := Scalar.cmpi .slt v414 c0_i32_423
  let v419 : BitVec 1 := Scalar.xori v417 v418
  let c0_i32_421 : BitVec 32 := 0#32
  let v416 : BitVec 1 := Scalar.cmpi .ne v415 c0_i32_421
  let v420 : BitVec 1 := Scalar.andi v419 v416
  let v421 : BitVec 32 := Scalar.addi v415 v414
  let v422 : BitVec 32 := Scalar.select v420 v421 v415
  let v424 : BitVec 32 := Scalar.addi v423 v422
  let c1_i32_449 : BitVec 32 := 1#32
  let v437 : BitVec 32 := Scalar.muli v424 c1_i32_449
  let v438 : BitVec 32 := Scalar.addi c0_i32_450 v437
  v438.toNat
def k0_dev29 (d0 : Dev nD) : Nat :=
  let c0_i32_465 : BitVec 32 := 0#32
  let c4_i32_424 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v423 : BitVec 32 := Scalar.muli c4_i32_424 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_417 : BitVec 32 := 3#32
  let v412 : BitVec 32 := Scalar.addi v12 c3_i32_417
  let c4_i32_418 : BitVec 32 := 4#32
  let c0_i32_419 : BitVec 32 := 0#32
  let v413 : BitVec 1 := Scalar.cmpi .eq c4_i32_418 c0_i32_419
  let c1_i32_420 : BitVec 32 := 1#32
  let v414 : BitVec 32 := Scalar.select v413 c1_i32_420 c4_i32_418
  let v415 : BitVec 32 := Scalar.remsi v412 v414
  let c0_i32_422 : BitVec 32 := 0#32
  let v417 : BitVec 1 := Scalar.cmpi .slt v415 c0_i32_422
  let c0_i32_423 : BitVec 32 := 0#32
  let v418 : BitVec 1 := Scalar.cmpi .slt v414 c0_i32_423
  let v419 : BitVec 1 := Scalar.xori v417 v418
  let c0_i32_421 : BitVec 32 := 0#32
  let v416 : BitVec 1 := Scalar.cmpi .ne v415 c0_i32_421
  let v420 : BitVec 1 := Scalar.andi v419 v416
  let v421 : BitVec 32 := Scalar.addi v415 v414
  let v422 : BitVec 32 := Scalar.select v420 v421 v415
  let v424 : BitVec 32 := Scalar.addi v423 v422
  let c1_i32_464 : BitVec 32 := 1#32
  let v448 : BitVec 32 := Scalar.muli v424 c1_i32_464
  let v449 : BitVec 32 := Scalar.addi c0_i32_465 v448
  v449.toNat
def k0_dev30 (d0 : Dev nD) : Nat :=
  let c0_i32_480 : BitVec 32 := 0#32
  let c4_i32_424 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v423 : BitVec 32 := Scalar.muli c4_i32_424 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_417 : BitVec 32 := 3#32
  let v412 : BitVec 32 := Scalar.addi v12 c3_i32_417
  let c4_i32_418 : BitVec 32 := 4#32
  let c0_i32_419 : BitVec 32 := 0#32
  let v413 : BitVec 1 := Scalar.cmpi .eq c4_i32_418 c0_i32_419
  let c1_i32_420 : BitVec 32 := 1#32
  let v414 : BitVec 32 := Scalar.select v413 c1_i32_420 c4_i32_418
  let v415 : BitVec 32 := Scalar.remsi v412 v414
  let c0_i32_422 : BitVec 32 := 0#32
  let v417 : BitVec 1 := Scalar.cmpi .slt v415 c0_i32_422
  let c0_i32_423 : BitVec 32 := 0#32
  let v418 : BitVec 1 := Scalar.cmpi .slt v414 c0_i32_423
  let v419 : BitVec 1 := Scalar.xori v417 v418
  let c0_i32_421 : BitVec 32 := 0#32
  let v416 : BitVec 1 := Scalar.cmpi .ne v415 c0_i32_421
  let v420 : BitVec 1 := Scalar.andi v419 v416
  let v421 : BitVec 32 := Scalar.addi v415 v414
  let v422 : BitVec 32 := Scalar.select v420 v421 v415
  let v424 : BitVec 32 := Scalar.addi v423 v422
  let c1_i32_479 : BitVec 32 := 1#32
  let v459 : BitVec 32 := Scalar.muli v424 c1_i32_479
  let v460 : BitVec 32 := Scalar.addi c0_i32_480 v459
  v460.toNat
def k0_off3 (d0 : Dev nD) (c0_i32_530 : BitVec 32) (c0_i32_531 : BitVec 32) : Fin 3 → Nat :=
  let c0_532 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v493 : BitVec 32 := Scalar.addi c0_i32_530 v12
  let c64_i32 : BitVec 32 := 64#32
  let v494 : BitVec 32 := Scalar.muli v493 c64_i32
  let v495 : BitVec 32 := Scalar.addi v494 c0_i32_531
  let v496 : Index := Scalar.indexCast v495
  let c0_533 : Index := 0#32
  ![0, v496.toNat, 0]
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_549 : BitVec 32 := 0#32
  let v519 : BitVec 1 := Scalar.cmpi .ne v29 c0_i32_549
  let v520 : BitVec 32 := Scalar.extui v519
  let c0_i32_550 : BitVec 32 := 0#32
  let v521 : BitVec 1 := Scalar.cmpi .ne v520 c0_i32_550
  v521

def k0_off4 (d0 : Dev nD) : Fin 2 → Nat :=
  let c0_i32_3344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_3335 : BitVec 32 := 0#32
  let v2826 : BitVec 32 := Scalar.subi v29 c0_i32_3335
  let c4_i32_3336 : BitVec 32 := 4#32
  let c0_i32_3337 : BitVec 32 := 0#32
  let v2827 : BitVec 1 := Scalar.cmpi .eq c4_i32_3336 c0_i32_3337
  let c1_i32_3338 : BitVec 32 := 1#32
  let v2828 : BitVec 32 := Scalar.select v2827 c1_i32_3338 c4_i32_3336
  let v2829 : BitVec 32 := Scalar.remsi v2826 v2828
  let c0_i32_3340 : BitVec 32 := 0#32
  let v2831 : BitVec 1 := Scalar.cmpi .slt v2829 c0_i32_3340
  let c0_i32_3341 : BitVec 32 := 0#32
  let v2832 : BitVec 1 := Scalar.cmpi .slt v2828 c0_i32_3341
  let v2833 : BitVec 1 := Scalar.xori v2831 v2832
  let c0_i32_3339 : BitVec 32 := 0#32
  let v2830 : BitVec 1 := Scalar.cmpi .ne v2829 c0_i32_3339
  let v2834 : BitVec 1 := Scalar.andi v2833 v2830
  let v2835 : BitVec 32 := Scalar.addi v2829 v2828
  let v2836 : BitVec 32 := Scalar.select v2834 v2835 v2829
  ![0, v2836.toNat]
def k0_off5 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_3328 : BitVec 32 := 0#32
  let v2815 : BitVec 32 := Scalar.subi v29 c0_i32_3328
  let c4_i32_3329 : BitVec 32 := 4#32
  let c0_i32_3330 : BitVec 32 := 0#32
  let v2816 : BitVec 1 := Scalar.cmpi .eq c4_i32_3329 c0_i32_3330
  let c1_i32_3331 : BitVec 32 := 1#32
  let v2817 : BitVec 32 := Scalar.select v2816 c1_i32_3331 c4_i32_3329
  let v2818 : BitVec 32 := Scalar.remsi v2815 v2817
  let c0_i32_3333 : BitVec 32 := 0#32
  let v2820 : BitVec 1 := Scalar.cmpi .slt v2818 c0_i32_3333
  let c0_i32_3334 : BitVec 32 := 0#32
  let v2821 : BitVec 1 := Scalar.cmpi .slt v2817 c0_i32_3334
  let v2822 : BitVec 1 := Scalar.xori v2820 v2821
  let c0_i32_3332 : BitVec 32 := 0#32
  let v2819 : BitVec 1 := Scalar.cmpi .ne v2818 c0_i32_3332
  let v2823 : BitVec 1 := Scalar.andi v2822 v2819
  let v2824 : BitVec 32 := Scalar.addi v2818 v2817
  let v2825 : BitVec 32 := Scalar.select v2823 v2824 v2818
  let c0_i32_3349 : BitVec 32 := 0#32
  let c0_i32_3350 : BitVec 32 := 0#32
  ![v2825.toNat, 0, 0]
def k0_dev31 (d0 : Dev nD) : Nat :=
  let c0_i32_3348 : BitVec 32 := 0#32
  let c0_i32_3342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2837 : BitVec 32 := Scalar.addi c0_i32_3342 v12
  let c1_i32_3347 : BitVec 32 := 1#32
  let v2838 : BitVec 32 := Scalar.muli v2837 c1_i32_3347
  let v2839 : BitVec 32 := Scalar.addi c0_i32_3348 v2838
  v2839.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_619 : BitVec 32 := 1#32
  let v572 : BitVec 1 := Scalar.cmpi .ne v29 c1_i32_619
  let v573 : BitVec 32 := Scalar.extui v572
  let c0_i32_620 : BitVec 32 := 0#32
  let v574 : BitVec 1 := Scalar.cmpi .ne v573 c0_i32_620
  v574

def k0_off6 (d0 : Dev nD) : Fin 2 → Nat :=
  let c0_i32_3344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3335 : BitVec 32 := 1#32
  let v2826 : BitVec 32 := Scalar.subi v29 c1_i32_3335
  let c4_i32_3336 : BitVec 32 := 4#32
  let c0_i32_3337 : BitVec 32 := 0#32
  let v2827 : BitVec 1 := Scalar.cmpi .eq c4_i32_3336 c0_i32_3337
  let c1_i32_3338 : BitVec 32 := 1#32
  let v2828 : BitVec 32 := Scalar.select v2827 c1_i32_3338 c4_i32_3336
  let v2829 : BitVec 32 := Scalar.remsi v2826 v2828
  let c0_i32_3340 : BitVec 32 := 0#32
  let v2831 : BitVec 1 := Scalar.cmpi .slt v2829 c0_i32_3340
  let c0_i32_3341 : BitVec 32 := 0#32
  let v2832 : BitVec 1 := Scalar.cmpi .slt v2828 c0_i32_3341
  let v2833 : BitVec 1 := Scalar.xori v2831 v2832
  let c0_i32_3339 : BitVec 32 := 0#32
  let v2830 : BitVec 1 := Scalar.cmpi .ne v2829 c0_i32_3339
  let v2834 : BitVec 1 := Scalar.andi v2833 v2830
  let v2835 : BitVec 32 := Scalar.addi v2829 v2828
  let v2836 : BitVec 32 := Scalar.select v2834 v2835 v2829
  ![0, v2836.toNat]
def k0_off7 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3328 : BitVec 32 := 1#32
  let v2815 : BitVec 32 := Scalar.subi v29 c1_i32_3328
  let c4_i32_3329 : BitVec 32 := 4#32
  let c0_i32_3330 : BitVec 32 := 0#32
  let v2816 : BitVec 1 := Scalar.cmpi .eq c4_i32_3329 c0_i32_3330
  let c1_i32_3331 : BitVec 32 := 1#32
  let v2817 : BitVec 32 := Scalar.select v2816 c1_i32_3331 c4_i32_3329
  let v2818 : BitVec 32 := Scalar.remsi v2815 v2817
  let c0_i32_3333 : BitVec 32 := 0#32
  let v2820 : BitVec 1 := Scalar.cmpi .slt v2818 c0_i32_3333
  let c0_i32_3334 : BitVec 32 := 0#32
  let v2821 : BitVec 1 := Scalar.cmpi .slt v2817 c0_i32_3334
  let v2822 : BitVec 1 := Scalar.xori v2820 v2821
  let c0_i32_3332 : BitVec 32 := 0#32
  let v2819 : BitVec 1 := Scalar.cmpi .ne v2818 c0_i32_3332
  let v2823 : BitVec 1 := Scalar.andi v2822 v2819
  let v2824 : BitVec 32 := Scalar.addi v2818 v2817
  let v2825 : BitVec 32 := Scalar.select v2823 v2824 v2818
  let c0_i32_3349 : BitVec 32 := 0#32
  let c0_i32_3350 : BitVec 32 := 0#32
  ![v2825.toNat, 0, 0]
def k0_dev32 (d0 : Dev nD) : Nat :=
  let c0_i32_3348 : BitVec 32 := 0#32
  let c4_i32_3342 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2837 : BitVec 32 := Scalar.addi c4_i32_3342 v12
  let c1_i32_3347 : BitVec 32 := 1#32
  let v2838 : BitVec 32 := Scalar.muli v2837 c1_i32_3347
  let v2839 : BitVec 32 := Scalar.addi c0_i32_3348 v2838
  v2839.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_689 : BitVec 32 := 2#32
  let v625 : BitVec 1 := Scalar.cmpi .ne v29 c2_i32_689
  let v626 : BitVec 32 := Scalar.extui v625
  let c0_i32_690 : BitVec 32 := 0#32
  let v627 : BitVec 1 := Scalar.cmpi .ne v626 c0_i32_690
  v627

def k0_off8 (d0 : Dev nD) : Fin 2 → Nat :=
  let c0_i32_3344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3335 : BitVec 32 := 2#32
  let v2826 : BitVec 32 := Scalar.subi v29 c2_i32_3335
  let c4_i32_3336 : BitVec 32 := 4#32
  let c0_i32_3337 : BitVec 32 := 0#32
  let v2827 : BitVec 1 := Scalar.cmpi .eq c4_i32_3336 c0_i32_3337
  let c1_i32_3338 : BitVec 32 := 1#32
  let v2828 : BitVec 32 := Scalar.select v2827 c1_i32_3338 c4_i32_3336
  let v2829 : BitVec 32 := Scalar.remsi v2826 v2828
  let c0_i32_3340 : BitVec 32 := 0#32
  let v2831 : BitVec 1 := Scalar.cmpi .slt v2829 c0_i32_3340
  let c0_i32_3341 : BitVec 32 := 0#32
  let v2832 : BitVec 1 := Scalar.cmpi .slt v2828 c0_i32_3341
  let v2833 : BitVec 1 := Scalar.xori v2831 v2832
  let c0_i32_3339 : BitVec 32 := 0#32
  let v2830 : BitVec 1 := Scalar.cmpi .ne v2829 c0_i32_3339
  let v2834 : BitVec 1 := Scalar.andi v2833 v2830
  let v2835 : BitVec 32 := Scalar.addi v2829 v2828
  let v2836 : BitVec 32 := Scalar.select v2834 v2835 v2829
  ![0, v2836.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3328 : BitVec 32 := 2#32
  let v2815 : BitVec 32 := Scalar.subi v29 c2_i32_3328
  let c4_i32_3329 : BitVec 32 := 4#32
  let c0_i32_3330 : BitVec 32 := 0#32
  let v2816 : BitVec 1 := Scalar.cmpi .eq c4_i32_3329 c0_i32_3330
  let c1_i32_3331 : BitVec 32 := 1#32
  let v2817 : BitVec 32 := Scalar.select v2816 c1_i32_3331 c4_i32_3329
  let v2818 : BitVec 32 := Scalar.remsi v2815 v2817
  let c0_i32_3333 : BitVec 32 := 0#32
  let v2820 : BitVec 1 := Scalar.cmpi .slt v2818 c0_i32_3333
  let c0_i32_3334 : BitVec 32 := 0#32
  let v2821 : BitVec 1 := Scalar.cmpi .slt v2817 c0_i32_3334
  let v2822 : BitVec 1 := Scalar.xori v2820 v2821
  let c0_i32_3332 : BitVec 32 := 0#32
  let v2819 : BitVec 1 := Scalar.cmpi .ne v2818 c0_i32_3332
  let v2823 : BitVec 1 := Scalar.andi v2822 v2819
  let v2824 : BitVec 32 := Scalar.addi v2818 v2817
  let v2825 : BitVec 32 := Scalar.select v2823 v2824 v2818
  let c0_i32_3349 : BitVec 32 := 0#32
  let c0_i32_3350 : BitVec 32 := 0#32
  ![v2825.toNat, 0, 0]
def k0_dev33 (d0 : Dev nD) : Nat :=
  let c0_i32_3348 : BitVec 32 := 0#32
  let c8_i32_3342 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2837 : BitVec 32 := Scalar.addi c8_i32_3342 v12
  let c1_i32_3347 : BitVec 32 := 1#32
  let v2838 : BitVec 32 := Scalar.muli v2837 c1_i32_3347
  let v2839 : BitVec 32 := Scalar.addi c0_i32_3348 v2838
  v2839.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_759 : BitVec 32 := 3#32
  let v678 : BitVec 1 := Scalar.cmpi .ne v29 c3_i32_759
  let v679 : BitVec 32 := Scalar.extui v678
  let c0_i32_760 : BitVec 32 := 0#32
  let v680 : BitVec 1 := Scalar.cmpi .ne v679 c0_i32_760
  v680

def k0_off10 (d0 : Dev nD) : Fin 2 → Nat :=
  let c0_i32_3344 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3335 : BitVec 32 := 3#32
  let v2826 : BitVec 32 := Scalar.subi v29 c3_i32_3335
  let c4_i32_3336 : BitVec 32 := 4#32
  let c0_i32_3337 : BitVec 32 := 0#32
  let v2827 : BitVec 1 := Scalar.cmpi .eq c4_i32_3336 c0_i32_3337
  let c1_i32_3338 : BitVec 32 := 1#32
  let v2828 : BitVec 32 := Scalar.select v2827 c1_i32_3338 c4_i32_3336
  let v2829 : BitVec 32 := Scalar.remsi v2826 v2828
  let c0_i32_3340 : BitVec 32 := 0#32
  let v2831 : BitVec 1 := Scalar.cmpi .slt v2829 c0_i32_3340
  let c0_i32_3341 : BitVec 32 := 0#32
  let v2832 : BitVec 1 := Scalar.cmpi .slt v2828 c0_i32_3341
  let v2833 : BitVec 1 := Scalar.xori v2831 v2832
  let c0_i32_3339 : BitVec 32 := 0#32
  let v2830 : BitVec 1 := Scalar.cmpi .ne v2829 c0_i32_3339
  let v2834 : BitVec 1 := Scalar.andi v2833 v2830
  let v2835 : BitVec 32 := Scalar.addi v2829 v2828
  let v2836 : BitVec 32 := Scalar.select v2834 v2835 v2829
  ![0, v2836.toNat]
def k0_off11 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3328 : BitVec 32 := 3#32
  let v2815 : BitVec 32 := Scalar.subi v29 c3_i32_3328
  let c4_i32_3329 : BitVec 32 := 4#32
  let c0_i32_3330 : BitVec 32 := 0#32
  let v2816 : BitVec 1 := Scalar.cmpi .eq c4_i32_3329 c0_i32_3330
  let c1_i32_3331 : BitVec 32 := 1#32
  let v2817 : BitVec 32 := Scalar.select v2816 c1_i32_3331 c4_i32_3329
  let v2818 : BitVec 32 := Scalar.remsi v2815 v2817
  let c0_i32_3333 : BitVec 32 := 0#32
  let v2820 : BitVec 1 := Scalar.cmpi .slt v2818 c0_i32_3333
  let c0_i32_3334 : BitVec 32 := 0#32
  let v2821 : BitVec 1 := Scalar.cmpi .slt v2817 c0_i32_3334
  let v2822 : BitVec 1 := Scalar.xori v2820 v2821
  let c0_i32_3332 : BitVec 32 := 0#32
  let v2819 : BitVec 1 := Scalar.cmpi .ne v2818 c0_i32_3332
  let v2823 : BitVec 1 := Scalar.andi v2822 v2819
  let v2824 : BitVec 32 := Scalar.addi v2818 v2817
  let v2825 : BitVec 32 := Scalar.select v2823 v2824 v2818
  let c0_i32_3349 : BitVec 32 := 0#32
  let c0_i32_3350 : BitVec 32 := 0#32
  ![v2825.toNat, 0, 0]
def k0_dev34 (d0 : Dev nD) : Nat :=
  let c0_i32_3348 : BitVec 32 := 0#32
  let c12_i32_3342 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2837 : BitVec 32 := Scalar.addi c12_i32_3342 v12
  let c1_i32_3347 : BitVec 32 := 1#32
  let v2838 : BitVec 32 := Scalar.muli v2837 c1_i32_3347
  let v2839 : BitVec 32 := Scalar.addi c0_i32_3348 v2838
  v2839.toNat
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v681 : Index := Scalar.indexCast v29
  let c0_761 : Index := 0#32
  let c0_762 : Index := 0#32
  ![v681.toNat, 0, 0]
def k0_off13 (d0 : Dev nD) : Fin 2 → Nat :=
  let c0_i32_818 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  ![0, v29.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_823 : BitVec 32 := 0#32
  let c0_i32_824 : BitVec 32 := 0#32
  ![v29.toNat, 0, 0]
def k0_dev35 (d0 : Dev nD) : Nat :=
  let c0_i32_822 : BitVec 32 := 0#32
  let c4_i32_817 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_810 : BitVec 32 := 1#32
  let v726 : BitVec 32 := Scalar.addi v29 c1_i32_810
  let c4_i32_811 : BitVec 32 := 4#32
  let c0_i32_812 : BitVec 32 := 0#32
  let v727 : BitVec 1 := Scalar.cmpi .eq c4_i32_811 c0_i32_812
  let c1_i32_813 : BitVec 32 := 1#32
  let v728 : BitVec 32 := Scalar.select v727 c1_i32_813 c4_i32_811
  let v729 : BitVec 32 := Scalar.remsi v726 v728
  let c0_i32_815 : BitVec 32 := 0#32
  let v731 : BitVec 1 := Scalar.cmpi .slt v729 c0_i32_815
  let c0_i32_816 : BitVec 32 := 0#32
  let v732 : BitVec 1 := Scalar.cmpi .slt v728 c0_i32_816
  let v733 : BitVec 1 := Scalar.xori v731 v732
  let c0_i32_814 : BitVec 32 := 0#32
  let v730 : BitVec 1 := Scalar.cmpi .ne v729 c0_i32_814
  let v734 : BitVec 1 := Scalar.andi v733 v730
  let v735 : BitVec 32 := Scalar.addi v729 v728
  let v736 : BitVec 32 := Scalar.select v734 v735 v729
  let v737 : BitVec 32 := Scalar.muli c4_i32_817 v736
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v738 : BitVec 32 := Scalar.addi v737 v12
  let c1_i32_821 : BitVec 32 := 1#32
  let v739 : BitVec 32 := Scalar.muli v738 c1_i32_821
  let v740 : BitVec 32 := Scalar.addi c0_i32_822 v739
  v740.toNat
def k0_dev36 (d0 : Dev nD) : Nat :=
  let c0_i32_839 : BitVec 32 := 0#32
  let c4_i32_834 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_827 : BitVec 32 := 2#32
  let v749 : BitVec 32 := Scalar.addi v29 c2_i32_827
  let c4_i32_828 : BitVec 32 := 4#32
  let c0_i32_829 : BitVec 32 := 0#32
  let v750 : BitVec 1 := Scalar.cmpi .eq c4_i32_828 c0_i32_829
  let c1_i32_830 : BitVec 32 := 1#32
  let v751 : BitVec 32 := Scalar.select v750 c1_i32_830 c4_i32_828
  let v752 : BitVec 32 := Scalar.remsi v749 v751
  let c0_i32_832 : BitVec 32 := 0#32
  let v754 : BitVec 1 := Scalar.cmpi .slt v752 c0_i32_832
  let c0_i32_833 : BitVec 32 := 0#32
  let v755 : BitVec 1 := Scalar.cmpi .slt v751 c0_i32_833
  let v756 : BitVec 1 := Scalar.xori v754 v755
  let c0_i32_831 : BitVec 32 := 0#32
  let v753 : BitVec 1 := Scalar.cmpi .ne v752 c0_i32_831
  let v757 : BitVec 1 := Scalar.andi v756 v753
  let v758 : BitVec 32 := Scalar.addi v752 v751
  let v759 : BitVec 32 := Scalar.select v757 v758 v752
  let v760 : BitVec 32 := Scalar.muli c4_i32_834 v759
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v761 : BitVec 32 := Scalar.addi v760 v12
  let c1_i32_838 : BitVec 32 := 1#32
  let v762 : BitVec 32 := Scalar.muli v761 c1_i32_838
  let v763 : BitVec 32 := Scalar.addi c0_i32_839 v762
  v763.toNat
def k0_dev37 (d0 : Dev nD) : Nat :=
  let c0_i32_856 : BitVec 32 := 0#32
  let c4_i32_851 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_844 : BitVec 32 := 3#32
  let v772 : BitVec 32 := Scalar.addi v29 c3_i32_844
  let c4_i32_845 : BitVec 32 := 4#32
  let c0_i32_846 : BitVec 32 := 0#32
  let v773 : BitVec 1 := Scalar.cmpi .eq c4_i32_845 c0_i32_846
  let c1_i32_847 : BitVec 32 := 1#32
  let v774 : BitVec 32 := Scalar.select v773 c1_i32_847 c4_i32_845
  let v775 : BitVec 32 := Scalar.remsi v772 v774
  let c0_i32_849 : BitVec 32 := 0#32
  let v777 : BitVec 1 := Scalar.cmpi .slt v775 c0_i32_849
  let c0_i32_850 : BitVec 32 := 0#32
  let v778 : BitVec 1 := Scalar.cmpi .slt v774 c0_i32_850
  let v779 : BitVec 1 := Scalar.xori v777 v778
  let c0_i32_848 : BitVec 32 := 0#32
  let v776 : BitVec 1 := Scalar.cmpi .ne v775 c0_i32_848
  let v780 : BitVec 1 := Scalar.andi v779 v776
  let v781 : BitVec 32 := Scalar.addi v775 v774
  let v782 : BitVec 32 := Scalar.select v780 v781 v775
  let v783 : BitVec 32 := Scalar.muli c4_i32_851 v782
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v784 : BitVec 32 := Scalar.addi v783 v12
  let c1_i32_855 : BitVec 32 := 1#32
  let v785 : BitVec 32 := Scalar.muli v784 c1_i32_855
  let v786 : BitVec 32 := Scalar.addi c0_i32_856 v785
  v786.toNat
def k0_off15 (d0 : Dev nD) : Fin 3 → Nat :=
  let c0_i32_872 : BitVec 32 := 0#32
  let c1_i32_873 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  ![0, 1, v29.toNat]
def k0_off16 (d0 : Dev nD) : Fin 3 → Nat :=
  let c0_i32_870 : BitVec 32 := 0#32
  let c3_i32_871 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  ![0, 3, v29.toNat]
def k0_off17 (d0 : Dev nD) : Fin 4 → Nat :=
  let c3_i32_869 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_876 : BitVec 32 := 0#32
  let c0_i32_877 : BitVec 32 := 0#32
  ![3, v29.toNat, 0, 0]
def k0_dev38 (d0 : Dev nD) : Nat :=
  let c0_i32_875 : BitVec 32 := 0#32
  let c4_i32_861 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v795 : BitVec 32 := Scalar.muli c4_i32_861 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_862 : BitVec 32 := 1#32
  let v796 : BitVec 32 := Scalar.addi v12 c1_i32_862
  let c4_i32_863 : BitVec 32 := 4#32
  let c0_i32_864 : BitVec 32 := 0#32
  let v797 : BitVec 1 := Scalar.cmpi .eq c4_i32_863 c0_i32_864
  let c1_i32_865 : BitVec 32 := 1#32
  let v798 : BitVec 32 := Scalar.select v797 c1_i32_865 c4_i32_863
  let v799 : BitVec 32 := Scalar.remsi v796 v798
  let c0_i32_867 : BitVec 32 := 0#32
  let v801 : BitVec 1 := Scalar.cmpi .slt v799 c0_i32_867
  let c0_i32_868 : BitVec 32 := 0#32
  let v802 : BitVec 1 := Scalar.cmpi .slt v798 c0_i32_868
  let v803 : BitVec 1 := Scalar.xori v801 v802
  let c0_i32_866 : BitVec 32 := 0#32
  let v800 : BitVec 1 := Scalar.cmpi .ne v799 c0_i32_866
  let v804 : BitVec 1 := Scalar.andi v803 v800
  let v805 : BitVec 32 := Scalar.addi v799 v798
  let v806 : BitVec 32 := Scalar.select v804 v805 v799
  let v807 : BitVec 32 := Scalar.addi v795 v806
  let c1_i32_874 : BitVec 32 := 1#32
  let v808 : BitVec 32 := Scalar.muli v807 c1_i32_874
  let v809 : BitVec 32 := Scalar.addi c0_i32_875 v808
  v809.toNat
def k0_off18 (d0 : Dev nD) : Fin 3 → Nat :=
  let c0_i32_891 : BitVec 32 := 0#32
  let c2_i32_892 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  ![0, 2, v29.toNat]
def k0_off19 (d0 : Dev nD) : Fin 4 → Nat :=
  let c2_i32_888 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_895 : BitVec 32 := 0#32
  let c0_i32_896 : BitVec 32 := 0#32
  ![2, v29.toNat, 0, 0]
def k0_dev39 (d0 : Dev nD) : Nat :=
  let c0_i32_894 : BitVec 32 := 0#32
  let c4_i32_880 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v818 : BitVec 32 := Scalar.muli c4_i32_880 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_881 : BitVec 32 := 2#32
  let v819 : BitVec 32 := Scalar.addi v12 c2_i32_881
  let c4_i32_882 : BitVec 32 := 4#32
  let c0_i32_883 : BitVec 32 := 0#32
  let v820 : BitVec 1 := Scalar.cmpi .eq c4_i32_882 c0_i32_883
  let c1_i32_884 : BitVec 32 := 1#32
  let v821 : BitVec 32 := Scalar.select v820 c1_i32_884 c4_i32_882
  let v822 : BitVec 32 := Scalar.remsi v819 v821
  let c0_i32_886 : BitVec 32 := 0#32
  let v824 : BitVec 1 := Scalar.cmpi .slt v822 c0_i32_886
  let c0_i32_887 : BitVec 32 := 0#32
  let v825 : BitVec 1 := Scalar.cmpi .slt v821 c0_i32_887
  let v826 : BitVec 1 := Scalar.xori v824 v825
  let c0_i32_885 : BitVec 32 := 0#32
  let v823 : BitVec 1 := Scalar.cmpi .ne v822 c0_i32_885
  let v827 : BitVec 1 := Scalar.andi v826 v823
  let v828 : BitVec 32 := Scalar.addi v822 v821
  let v829 : BitVec 32 := Scalar.select v827 v828 v822
  let v830 : BitVec 32 := Scalar.addi v818 v829
  let c1_i32_893 : BitVec 32 := 1#32
  let v831 : BitVec 32 := Scalar.muli v830 c1_i32_893
  let v832 : BitVec 32 := Scalar.addi c0_i32_894 v831
  v832.toNat
def k0_off20 (d0 : Dev nD) : Fin 4 → Nat :=
  let c1_i32_907 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_914 : BitVec 32 := 0#32
  let c0_i32_915 : BitVec 32 := 0#32
  ![1, v29.toNat, 0, 0]
def k0_dev40 (d0 : Dev nD) : Nat :=
  let c0_i32_913 : BitVec 32 := 0#32
  let c4_i32_899 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v841 : BitVec 32 := Scalar.muli c4_i32_899 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_900 : BitVec 32 := 3#32
  let v842 : BitVec 32 := Scalar.addi v12 c3_i32_900
  let c4_i32_901 : BitVec 32 := 4#32
  let c0_i32_902 : BitVec 32 := 0#32
  let v843 : BitVec 1 := Scalar.cmpi .eq c4_i32_901 c0_i32_902
  let c1_i32_903 : BitVec 32 := 1#32
  let v844 : BitVec 32 := Scalar.select v843 c1_i32_903 c4_i32_901
  let v845 : BitVec 32 := Scalar.remsi v842 v844
  let c0_i32_905 : BitVec 32 := 0#32
  let v847 : BitVec 1 := Scalar.cmpi .slt v845 c0_i32_905
  let c0_i32_906 : BitVec 32 := 0#32
  let v848 : BitVec 1 := Scalar.cmpi .slt v844 c0_i32_906
  let v849 : BitVec 1 := Scalar.xori v847 v848
  let c0_i32_904 : BitVec 32 := 0#32
  let v846 : BitVec 1 := Scalar.cmpi .ne v845 c0_i32_904
  let v850 : BitVec 1 := Scalar.andi v849 v846
  let v851 : BitVec 32 := Scalar.addi v845 v844
  let v852 : BitVec 32 := Scalar.select v850 v851 v845
  let v853 : BitVec 32 := Scalar.addi v841 v852
  let c1_i32_912 : BitVec 32 := 1#32
  let v854 : BitVec 32 := Scalar.muli v853 c1_i32_912
  let v855 : BitVec 32 := Scalar.addi c0_i32_913 v854
  v855.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_985 : BitVec 32 := 0#32
  let v914 : BitVec 1 := Scalar.cmpi .ne v29 c0_i32_985
  let v915 : BitVec 32 := Scalar.extui v914
  let c0_i32_986 : BitVec 32 := 0#32
  let v916 : BitVec 1 := Scalar.cmpi .ne v915 c0_i32_986
  v916

def k0_off21 (d0 : Dev nD) : Fin 2 → Nat :=
  let c1_i32_3344 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_3335 : BitVec 32 := 0#32
  let v2826 : BitVec 32 := Scalar.subi v29 c0_i32_3335
  let c4_i32_3336 : BitVec 32 := 4#32
  let c0_i32_3337 : BitVec 32 := 0#32
  let v2827 : BitVec 1 := Scalar.cmpi .eq c4_i32_3336 c0_i32_3337
  let c1_i32_3338 : BitVec 32 := 1#32
  let v2828 : BitVec 32 := Scalar.select v2827 c1_i32_3338 c4_i32_3336
  let v2829 : BitVec 32 := Scalar.remsi v2826 v2828
  let c0_i32_3340 : BitVec 32 := 0#32
  let v2831 : BitVec 1 := Scalar.cmpi .slt v2829 c0_i32_3340
  let c0_i32_3341 : BitVec 32 := 0#32
  let v2832 : BitVec 1 := Scalar.cmpi .slt v2828 c0_i32_3341
  let v2833 : BitVec 1 := Scalar.xori v2831 v2832
  let c0_i32_3339 : BitVec 32 := 0#32
  let v2830 : BitVec 1 := Scalar.cmpi .ne v2829 c0_i32_3339
  let v2834 : BitVec 1 := Scalar.andi v2833 v2830
  let v2835 : BitVec 32 := Scalar.addi v2829 v2828
  let v2836 : BitVec 32 := Scalar.select v2834 v2835 v2829
  ![1, v2836.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c0_i32_3328 : BitVec 32 := 0#32
  let v2815 : BitVec 32 := Scalar.subi v29 c0_i32_3328
  let c4_i32_3329 : BitVec 32 := 4#32
  let c0_i32_3330 : BitVec 32 := 0#32
  let v2816 : BitVec 1 := Scalar.cmpi .eq c4_i32_3329 c0_i32_3330
  let c1_i32_3331 : BitVec 32 := 1#32
  let v2817 : BitVec 32 := Scalar.select v2816 c1_i32_3331 c4_i32_3329
  let v2818 : BitVec 32 := Scalar.remsi v2815 v2817
  let c0_i32_3333 : BitVec 32 := 0#32
  let v2820 : BitVec 1 := Scalar.cmpi .slt v2818 c0_i32_3333
  let c0_i32_3334 : BitVec 32 := 0#32
  let v2821 : BitVec 1 := Scalar.cmpi .slt v2817 c0_i32_3334
  let v2822 : BitVec 1 := Scalar.xori v2820 v2821
  let c0_i32_3332 : BitVec 32 := 0#32
  let v2819 : BitVec 1 := Scalar.cmpi .ne v2818 c0_i32_3332
  let v2823 : BitVec 1 := Scalar.andi v2822 v2819
  let v2824 : BitVec 32 := Scalar.addi v2818 v2817
  let v2825 : BitVec 32 := Scalar.select v2823 v2824 v2818
  let c32_i32_3349 : BitVec 32 := 32#32
  let c0_i32_3350 : BitVec 32 := 0#32
  ![v2825.toNat, 32, 0]
def k0_dev41 (d0 : Dev nD) : Nat :=
  let c0_i32_3348 : BitVec 32 := 0#32
  let c0_i32_3342 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2837 : BitVec 32 := Scalar.addi c0_i32_3342 v12
  let c1_i32_3347 : BitVec 32 := 1#32
  let v2838 : BitVec 32 := Scalar.muli v2837 c1_i32_3347
  let v2839 : BitVec 32 := Scalar.addi c0_i32_3348 v2838
  v2839.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1055 : BitVec 32 := 1#32
  let v967 : BitVec 1 := Scalar.cmpi .ne v29 c1_i32_1055
  let v968 : BitVec 32 := Scalar.extui v967
  let c0_i32_1056 : BitVec 32 := 0#32
  let v969 : BitVec 1 := Scalar.cmpi .ne v968 c0_i32_1056
  v969

def k0_off23 (d0 : Dev nD) : Fin 2 → Nat :=
  let c1_i32_3344 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3335 : BitVec 32 := 1#32
  let v2826 : BitVec 32 := Scalar.subi v29 c1_i32_3335
  let c4_i32_3336 : BitVec 32 := 4#32
  let c0_i32_3337 : BitVec 32 := 0#32
  let v2827 : BitVec 1 := Scalar.cmpi .eq c4_i32_3336 c0_i32_3337
  let c1_i32_3338 : BitVec 32 := 1#32
  let v2828 : BitVec 32 := Scalar.select v2827 c1_i32_3338 c4_i32_3336
  let v2829 : BitVec 32 := Scalar.remsi v2826 v2828
  let c0_i32_3340 : BitVec 32 := 0#32
  let v2831 : BitVec 1 := Scalar.cmpi .slt v2829 c0_i32_3340
  let c0_i32_3341 : BitVec 32 := 0#32
  let v2832 : BitVec 1 := Scalar.cmpi .slt v2828 c0_i32_3341
  let v2833 : BitVec 1 := Scalar.xori v2831 v2832
  let c0_i32_3339 : BitVec 32 := 0#32
  let v2830 : BitVec 1 := Scalar.cmpi .ne v2829 c0_i32_3339
  let v2834 : BitVec 1 := Scalar.andi v2833 v2830
  let v2835 : BitVec 32 := Scalar.addi v2829 v2828
  let v2836 : BitVec 32 := Scalar.select v2834 v2835 v2829
  ![1, v2836.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_3328 : BitVec 32 := 1#32
  let v2815 : BitVec 32 := Scalar.subi v29 c1_i32_3328
  let c4_i32_3329 : BitVec 32 := 4#32
  let c0_i32_3330 : BitVec 32 := 0#32
  let v2816 : BitVec 1 := Scalar.cmpi .eq c4_i32_3329 c0_i32_3330
  let c1_i32_3331 : BitVec 32 := 1#32
  let v2817 : BitVec 32 := Scalar.select v2816 c1_i32_3331 c4_i32_3329
  let v2818 : BitVec 32 := Scalar.remsi v2815 v2817
  let c0_i32_3333 : BitVec 32 := 0#32
  let v2820 : BitVec 1 := Scalar.cmpi .slt v2818 c0_i32_3333
  let c0_i32_3334 : BitVec 32 := 0#32
  let v2821 : BitVec 1 := Scalar.cmpi .slt v2817 c0_i32_3334
  let v2822 : BitVec 1 := Scalar.xori v2820 v2821
  let c0_i32_3332 : BitVec 32 := 0#32
  let v2819 : BitVec 1 := Scalar.cmpi .ne v2818 c0_i32_3332
  let v2823 : BitVec 1 := Scalar.andi v2822 v2819
  let v2824 : BitVec 32 := Scalar.addi v2818 v2817
  let v2825 : BitVec 32 := Scalar.select v2823 v2824 v2818
  let c32_i32_3349 : BitVec 32 := 32#32
  let c0_i32_3350 : BitVec 32 := 0#32
  ![v2825.toNat, 32, 0]
def k0_dev42 (d0 : Dev nD) : Nat :=
  let c0_i32_3348 : BitVec 32 := 0#32
  let c4_i32_3342 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2837 : BitVec 32 := Scalar.addi c4_i32_3342 v12
  let c1_i32_3347 : BitVec 32 := 1#32
  let v2838 : BitVec 32 := Scalar.muli v2837 c1_i32_3347
  let v2839 : BitVec 32 := Scalar.addi c0_i32_3348 v2838
  v2839.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1125 : BitVec 32 := 2#32
  let v1020 : BitVec 1 := Scalar.cmpi .ne v29 c2_i32_1125
  let v1021 : BitVec 32 := Scalar.extui v1020
  let c0_i32_1126 : BitVec 32 := 0#32
  let v1022 : BitVec 1 := Scalar.cmpi .ne v1021 c0_i32_1126
  v1022

def k0_off25 (d0 : Dev nD) : Fin 2 → Nat :=
  let c1_i32_3344 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3335 : BitVec 32 := 2#32
  let v2826 : BitVec 32 := Scalar.subi v29 c2_i32_3335
  let c4_i32_3336 : BitVec 32 := 4#32
  let c0_i32_3337 : BitVec 32 := 0#32
  let v2827 : BitVec 1 := Scalar.cmpi .eq c4_i32_3336 c0_i32_3337
  let c1_i32_3338 : BitVec 32 := 1#32
  let v2828 : BitVec 32 := Scalar.select v2827 c1_i32_3338 c4_i32_3336
  let v2829 : BitVec 32 := Scalar.remsi v2826 v2828
  let c0_i32_3340 : BitVec 32 := 0#32
  let v2831 : BitVec 1 := Scalar.cmpi .slt v2829 c0_i32_3340
  let c0_i32_3341 : BitVec 32 := 0#32
  let v2832 : BitVec 1 := Scalar.cmpi .slt v2828 c0_i32_3341
  let v2833 : BitVec 1 := Scalar.xori v2831 v2832
  let c0_i32_3339 : BitVec 32 := 0#32
  let v2830 : BitVec 1 := Scalar.cmpi .ne v2829 c0_i32_3339
  let v2834 : BitVec 1 := Scalar.andi v2833 v2830
  let v2835 : BitVec 32 := Scalar.addi v2829 v2828
  let v2836 : BitVec 32 := Scalar.select v2834 v2835 v2829
  ![1, v2836.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_3328 : BitVec 32 := 2#32
  let v2815 : BitVec 32 := Scalar.subi v29 c2_i32_3328
  let c4_i32_3329 : BitVec 32 := 4#32
  let c0_i32_3330 : BitVec 32 := 0#32
  let v2816 : BitVec 1 := Scalar.cmpi .eq c4_i32_3329 c0_i32_3330
  let c1_i32_3331 : BitVec 32 := 1#32
  let v2817 : BitVec 32 := Scalar.select v2816 c1_i32_3331 c4_i32_3329
  let v2818 : BitVec 32 := Scalar.remsi v2815 v2817
  let c0_i32_3333 : BitVec 32 := 0#32
  let v2820 : BitVec 1 := Scalar.cmpi .slt v2818 c0_i32_3333
  let c0_i32_3334 : BitVec 32 := 0#32
  let v2821 : BitVec 1 := Scalar.cmpi .slt v2817 c0_i32_3334
  let v2822 : BitVec 1 := Scalar.xori v2820 v2821
  let c0_i32_3332 : BitVec 32 := 0#32
  let v2819 : BitVec 1 := Scalar.cmpi .ne v2818 c0_i32_3332
  let v2823 : BitVec 1 := Scalar.andi v2822 v2819
  let v2824 : BitVec 32 := Scalar.addi v2818 v2817
  let v2825 : BitVec 32 := Scalar.select v2823 v2824 v2818
  let c32_i32_3349 : BitVec 32 := 32#32
  let c0_i32_3350 : BitVec 32 := 0#32
  ![v2825.toNat, 32, 0]
def k0_dev43 (d0 : Dev nD) : Nat :=
  let c0_i32_3348 : BitVec 32 := 0#32
  let c8_i32_3342 : BitVec 32 := 8#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2837 : BitVec 32 := Scalar.addi c8_i32_3342 v12
  let c1_i32_3347 : BitVec 32 := 1#32
  let v2838 : BitVec 32 := Scalar.muli v2837 c1_i32_3347
  let v2839 : BitVec 32 := Scalar.addi c0_i32_3348 v2838
  v2839.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1195 : BitVec 32 := 3#32
  let v1073 : BitVec 1 := Scalar.cmpi .ne v29 c3_i32_1195
  let v1074 : BitVec 32 := Scalar.extui v1073
  let c0_i32_1196 : BitVec 32 := 0#32
  let v1075 : BitVec 1 := Scalar.cmpi .ne v1074 c0_i32_1196
  v1075

def k0_off27 (d0 : Dev nD) : Fin 2 → Nat :=
  let c1_i32_3344 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3335 : BitVec 32 := 3#32
  let v2826 : BitVec 32 := Scalar.subi v29 c3_i32_3335
  let c4_i32_3336 : BitVec 32 := 4#32
  let c0_i32_3337 : BitVec 32 := 0#32
  let v2827 : BitVec 1 := Scalar.cmpi .eq c4_i32_3336 c0_i32_3337
  let c1_i32_3338 : BitVec 32 := 1#32
  let v2828 : BitVec 32 := Scalar.select v2827 c1_i32_3338 c4_i32_3336
  let v2829 : BitVec 32 := Scalar.remsi v2826 v2828
  let c0_i32_3340 : BitVec 32 := 0#32
  let v2831 : BitVec 1 := Scalar.cmpi .slt v2829 c0_i32_3340
  let c0_i32_3341 : BitVec 32 := 0#32
  let v2832 : BitVec 1 := Scalar.cmpi .slt v2828 c0_i32_3341
  let v2833 : BitVec 1 := Scalar.xori v2831 v2832
  let c0_i32_3339 : BitVec 32 := 0#32
  let v2830 : BitVec 1 := Scalar.cmpi .ne v2829 c0_i32_3339
  let v2834 : BitVec 1 := Scalar.andi v2833 v2830
  let v2835 : BitVec 32 := Scalar.addi v2829 v2828
  let v2836 : BitVec 32 := Scalar.select v2834 v2835 v2829
  ![1, v2836.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_3328 : BitVec 32 := 3#32
  let v2815 : BitVec 32 := Scalar.subi v29 c3_i32_3328
  let c4_i32_3329 : BitVec 32 := 4#32
  let c0_i32_3330 : BitVec 32 := 0#32
  let v2816 : BitVec 1 := Scalar.cmpi .eq c4_i32_3329 c0_i32_3330
  let c1_i32_3331 : BitVec 32 := 1#32
  let v2817 : BitVec 32 := Scalar.select v2816 c1_i32_3331 c4_i32_3329
  let v2818 : BitVec 32 := Scalar.remsi v2815 v2817
  let c0_i32_3333 : BitVec 32 := 0#32
  let v2820 : BitVec 1 := Scalar.cmpi .slt v2818 c0_i32_3333
  let c0_i32_3334 : BitVec 32 := 0#32
  let v2821 : BitVec 1 := Scalar.cmpi .slt v2817 c0_i32_3334
  let v2822 : BitVec 1 := Scalar.xori v2820 v2821
  let c0_i32_3332 : BitVec 32 := 0#32
  let v2819 : BitVec 1 := Scalar.cmpi .ne v2818 c0_i32_3332
  let v2823 : BitVec 1 := Scalar.andi v2822 v2819
  let v2824 : BitVec 32 := Scalar.addi v2818 v2817
  let v2825 : BitVec 32 := Scalar.select v2823 v2824 v2818
  let c32_i32_3349 : BitVec 32 := 32#32
  let c0_i32_3350 : BitVec 32 := 0#32
  ![v2825.toNat, 32, 0]
def k0_dev44 (d0 : Dev nD) : Nat :=
  let c0_i32_3348 : BitVec 32 := 0#32
  let c12_i32_3342 : BitVec 32 := 12#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2837 : BitVec 32 := Scalar.addi c12_i32_3342 v12
  let c1_i32_3347 : BitVec 32 := 1#32
  let v2838 : BitVec 32 := Scalar.muli v2837 c1_i32_3347
  let v2839 : BitVec 32 := Scalar.addi c0_i32_3348 v2838
  v2839.toNat
def k0_off29 (d0 : Dev nD) (c1_i32_1197 : BitVec 32) : Fin 2 → Nat :=
  let c0_i32_1205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1076 : BitVec 32 := Scalar.addi v29 c1_i32_1197
  let c4_i32_1198 : BitVec 32 := 4#32
  let c0_i32_1199 : BitVec 32 := 0#32
  let v1077 : BitVec 1 := Scalar.cmpi .eq c4_i32_1198 c0_i32_1199
  let c1_i32_1200 : BitVec 32 := 1#32
  let v1078 : BitVec 32 := Scalar.select v1077 c1_i32_1200 c4_i32_1198
  let v1079 : BitVec 32 := Scalar.remsi v1076 v1078
  let c0_i32_1202 : BitVec 32 := 0#32
  let v1081 : BitVec 1 := Scalar.cmpi .slt v1079 c0_i32_1202
  let c0_i32_1203 : BitVec 32 := 0#32
  let v1082 : BitVec 1 := Scalar.cmpi .slt v1078 c0_i32_1203
  let v1083 : BitVec 1 := Scalar.xori v1081 v1082
  let c0_i32_1201 : BitVec 32 := 0#32
  let v1080 : BitVec 1 := Scalar.cmpi .ne v1079 c0_i32_1201
  let v1084 : BitVec 1 := Scalar.andi v1083 v1080
  let v1085 : BitVec 32 := Scalar.addi v1079 v1078
  let v1086 : BitVec 32 := Scalar.select v1084 v1085 v1079
  ![0, v1086.toNat]
def k0_off30 (d0 : Dev nD) (c1_i32_1197 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1076 : BitVec 32 := Scalar.addi v29 c1_i32_1197
  let c4_i32_1198 : BitVec 32 := 4#32
  let c0_i32_1199 : BitVec 32 := 0#32
  let v1077 : BitVec 1 := Scalar.cmpi .eq c4_i32_1198 c0_i32_1199
  let c1_i32_1200 : BitVec 32 := 1#32
  let v1078 : BitVec 32 := Scalar.select v1077 c1_i32_1200 c4_i32_1198
  let v1079 : BitVec 32 := Scalar.remsi v1076 v1078
  let c0_i32_1202 : BitVec 32 := 0#32
  let v1081 : BitVec 1 := Scalar.cmpi .slt v1079 c0_i32_1202
  let c0_i32_1203 : BitVec 32 := 0#32
  let v1082 : BitVec 1 := Scalar.cmpi .slt v1078 c0_i32_1203
  let v1083 : BitVec 1 := Scalar.xori v1081 v1082
  let c0_i32_1201 : BitVec 32 := 0#32
  let v1080 : BitVec 1 := Scalar.cmpi .ne v1079 c0_i32_1201
  let v1084 : BitVec 1 := Scalar.andi v1083 v1080
  let v1085 : BitVec 32 := Scalar.addi v1079 v1078
  let v1086 : BitVec 32 := Scalar.select v1084 v1085 v1079
  let c0_i32_1210 : BitVec 32 := 0#32
  let c0_i32_1211 : BitVec 32 := 0#32
  ![v1086.toNat, 0, 0]
def k0_off31 (d0 : Dev nD) (c1_i32_1197 : BitVec 32) : Fin 3 → Nat :=
  let c0_i32_1225 : BitVec 32 := 0#32
  let c1_i32_1226 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1076 : BitVec 32 := Scalar.addi v29 c1_i32_1197
  let c4_i32_1198 : BitVec 32 := 4#32
  let c0_i32_1199 : BitVec 32 := 0#32
  let v1077 : BitVec 1 := Scalar.cmpi .eq c4_i32_1198 c0_i32_1199
  let c1_i32_1200 : BitVec 32 := 1#32
  let v1078 : BitVec 32 := Scalar.select v1077 c1_i32_1200 c4_i32_1198
  let v1079 : BitVec 32 := Scalar.remsi v1076 v1078
  let c0_i32_1202 : BitVec 32 := 0#32
  let v1081 : BitVec 1 := Scalar.cmpi .slt v1079 c0_i32_1202
  let c0_i32_1203 : BitVec 32 := 0#32
  let v1082 : BitVec 1 := Scalar.cmpi .slt v1078 c0_i32_1203
  let v1083 : BitVec 1 := Scalar.xori v1081 v1082
  let c0_i32_1201 : BitVec 32 := 0#32
  let v1080 : BitVec 1 := Scalar.cmpi .ne v1079 c0_i32_1201
  let v1084 : BitVec 1 := Scalar.andi v1083 v1080
  let v1085 : BitVec 32 := Scalar.addi v1079 v1078
  let v1086 : BitVec 32 := Scalar.select v1084 v1085 v1079
  ![0, 1, v1086.toNat]
def k0_off32 (d0 : Dev nD) (c1_i32_1197 : BitVec 32) : Fin 3 → Nat :=
  let c0_i32_1223 : BitVec 32 := 0#32
  let c3_i32_1224 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1076 : BitVec 32 := Scalar.addi v29 c1_i32_1197
  let c4_i32_1198 : BitVec 32 := 4#32
  let c0_i32_1199 : BitVec 32 := 0#32
  let v1077 : BitVec 1 := Scalar.cmpi .eq c4_i32_1198 c0_i32_1199
  let c1_i32_1200 : BitVec 32 := 1#32
  let v1078 : BitVec 32 := Scalar.select v1077 c1_i32_1200 c4_i32_1198
  let v1079 : BitVec 32 := Scalar.remsi v1076 v1078
  let c0_i32_1202 : BitVec 32 := 0#32
  let v1081 : BitVec 1 := Scalar.cmpi .slt v1079 c0_i32_1202
  let c0_i32_1203 : BitVec 32 := 0#32
  let v1082 : BitVec 1 := Scalar.cmpi .slt v1078 c0_i32_1203
  let v1083 : BitVec 1 := Scalar.xori v1081 v1082
  let c0_i32_1201 : BitVec 32 := 0#32
  let v1080 : BitVec 1 := Scalar.cmpi .ne v1079 c0_i32_1201
  let v1084 : BitVec 1 := Scalar.andi v1083 v1080
  let v1085 : BitVec 32 := Scalar.addi v1079 v1078
  let v1086 : BitVec 32 := Scalar.select v1084 v1085 v1079
  ![0, 3, v1086.toNat]
def k0_off33 (d0 : Dev nD) (c1_i32_1197 : BitVec 32) : Fin 4 → Nat :=
  let c3_i32_1222 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1076 : BitVec 32 := Scalar.addi v29 c1_i32_1197
  let c4_i32_1198 : BitVec 32 := 4#32
  let c0_i32_1199 : BitVec 32 := 0#32
  let v1077 : BitVec 1 := Scalar.cmpi .eq c4_i32_1198 c0_i32_1199
  let c1_i32_1200 : BitVec 32 := 1#32
  let v1078 : BitVec 32 := Scalar.select v1077 c1_i32_1200 c4_i32_1198
  let v1079 : BitVec 32 := Scalar.remsi v1076 v1078
  let c0_i32_1202 : BitVec 32 := 0#32
  let v1081 : BitVec 1 := Scalar.cmpi .slt v1079 c0_i32_1202
  let c0_i32_1203 : BitVec 32 := 0#32
  let v1082 : BitVec 1 := Scalar.cmpi .slt v1078 c0_i32_1203
  let v1083 : BitVec 1 := Scalar.xori v1081 v1082
  let c0_i32_1201 : BitVec 32 := 0#32
  let v1080 : BitVec 1 := Scalar.cmpi .ne v1079 c0_i32_1201
  let v1084 : BitVec 1 := Scalar.andi v1083 v1080
  let v1085 : BitVec 32 := Scalar.addi v1079 v1078
  let v1086 : BitVec 32 := Scalar.select v1084 v1085 v1079
  let c0_i32_1229 : BitVec 32 := 0#32
  let c0_i32_1230 : BitVec 32 := 0#32
  ![3, v1086.toNat, 0, 0]
def k0_dev45 (d0 : Dev nD) : Nat :=
  let c0_i32_1228 : BitVec 32 := 0#32
  let c4_i32_1214 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1095 : BitVec 32 := Scalar.muli c4_i32_1214 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1215 : BitVec 32 := 1#32
  let v1096 : BitVec 32 := Scalar.addi v12 c1_i32_1215
  let c4_i32_1216 : BitVec 32 := 4#32
  let c0_i32_1217 : BitVec 32 := 0#32
  let v1097 : BitVec 1 := Scalar.cmpi .eq c4_i32_1216 c0_i32_1217
  let c1_i32_1218 : BitVec 32 := 1#32
  let v1098 : BitVec 32 := Scalar.select v1097 c1_i32_1218 c4_i32_1216
  let v1099 : BitVec 32 := Scalar.remsi v1096 v1098
  let c0_i32_1220 : BitVec 32 := 0#32
  let v1101 : BitVec 1 := Scalar.cmpi .slt v1099 c0_i32_1220
  let c0_i32_1221 : BitVec 32 := 0#32
  let v1102 : BitVec 1 := Scalar.cmpi .slt v1098 c0_i32_1221
  let v1103 : BitVec 1 := Scalar.xori v1101 v1102
  let c0_i32_1219 : BitVec 32 := 0#32
  let v1100 : BitVec 1 := Scalar.cmpi .ne v1099 c0_i32_1219
  let v1104 : BitVec 1 := Scalar.andi v1103 v1100
  let v1105 : BitVec 32 := Scalar.addi v1099 v1098
  let v1106 : BitVec 32 := Scalar.select v1104 v1105 v1099
  let v1107 : BitVec 32 := Scalar.addi v1095 v1106
  let c1_i32_1227 : BitVec 32 := 1#32
  let v1108 : BitVec 32 := Scalar.muli v1107 c1_i32_1227
  let v1109 : BitVec 32 := Scalar.addi c0_i32_1228 v1108
  v1109.toNat
def k0_off34 (d0 : Dev nD) (c1_i32_1197 : BitVec 32) : Fin 3 → Nat :=
  let c0_i32_1244 : BitVec 32 := 0#32
  let c2_i32_1245 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1076 : BitVec 32 := Scalar.addi v29 c1_i32_1197
  let c4_i32_1198 : BitVec 32 := 4#32
  let c0_i32_1199 : BitVec 32 := 0#32
  let v1077 : BitVec 1 := Scalar.cmpi .eq c4_i32_1198 c0_i32_1199
  let c1_i32_1200 : BitVec 32 := 1#32
  let v1078 : BitVec 32 := Scalar.select v1077 c1_i32_1200 c4_i32_1198
  let v1079 : BitVec 32 := Scalar.remsi v1076 v1078
  let c0_i32_1202 : BitVec 32 := 0#32
  let v1081 : BitVec 1 := Scalar.cmpi .slt v1079 c0_i32_1202
  let c0_i32_1203 : BitVec 32 := 0#32
  let v1082 : BitVec 1 := Scalar.cmpi .slt v1078 c0_i32_1203
  let v1083 : BitVec 1 := Scalar.xori v1081 v1082
  let c0_i32_1201 : BitVec 32 := 0#32
  let v1080 : BitVec 1 := Scalar.cmpi .ne v1079 c0_i32_1201
  let v1084 : BitVec 1 := Scalar.andi v1083 v1080
  let v1085 : BitVec 32 := Scalar.addi v1079 v1078
  let v1086 : BitVec 32 := Scalar.select v1084 v1085 v1079
  ![0, 2, v1086.toNat]
def k0_off35 (d0 : Dev nD) (c1_i32_1197 : BitVec 32) : Fin 4 → Nat :=
  let c2_i32_1241 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1076 : BitVec 32 := Scalar.addi v29 c1_i32_1197
  let c4_i32_1198 : BitVec 32 := 4#32
  let c0_i32_1199 : BitVec 32 := 0#32
  let v1077 : BitVec 1 := Scalar.cmpi .eq c4_i32_1198 c0_i32_1199
  let c1_i32_1200 : BitVec 32 := 1#32
  let v1078 : BitVec 32 := Scalar.select v1077 c1_i32_1200 c4_i32_1198
  let v1079 : BitVec 32 := Scalar.remsi v1076 v1078
  let c0_i32_1202 : BitVec 32 := 0#32
  let v1081 : BitVec 1 := Scalar.cmpi .slt v1079 c0_i32_1202
  let c0_i32_1203 : BitVec 32 := 0#32
  let v1082 : BitVec 1 := Scalar.cmpi .slt v1078 c0_i32_1203
  let v1083 : BitVec 1 := Scalar.xori v1081 v1082
  let c0_i32_1201 : BitVec 32 := 0#32
  let v1080 : BitVec 1 := Scalar.cmpi .ne v1079 c0_i32_1201
  let v1084 : BitVec 1 := Scalar.andi v1083 v1080
  let v1085 : BitVec 32 := Scalar.addi v1079 v1078
  let v1086 : BitVec 32 := Scalar.select v1084 v1085 v1079
  let c0_i32_1248 : BitVec 32 := 0#32
  let c0_i32_1249 : BitVec 32 := 0#32
  ![2, v1086.toNat, 0, 0]
def k0_dev46 (d0 : Dev nD) : Nat :=
  let c0_i32_1247 : BitVec 32 := 0#32
  let c4_i32_1233 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1118 : BitVec 32 := Scalar.muli c4_i32_1233 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1234 : BitVec 32 := 2#32
  let v1119 : BitVec 32 := Scalar.addi v12 c2_i32_1234
  let c4_i32_1235 : BitVec 32 := 4#32
  let c0_i32_1236 : BitVec 32 := 0#32
  let v1120 : BitVec 1 := Scalar.cmpi .eq c4_i32_1235 c0_i32_1236
  let c1_i32_1237 : BitVec 32 := 1#32
  let v1121 : BitVec 32 := Scalar.select v1120 c1_i32_1237 c4_i32_1235
  let v1122 : BitVec 32 := Scalar.remsi v1119 v1121
  let c0_i32_1239 : BitVec 32 := 0#32
  let v1124 : BitVec 1 := Scalar.cmpi .slt v1122 c0_i32_1239
  let c0_i32_1240 : BitVec 32 := 0#32
  let v1125 : BitVec 1 := Scalar.cmpi .slt v1121 c0_i32_1240
  let v1126 : BitVec 1 := Scalar.xori v1124 v1125
  let c0_i32_1238 : BitVec 32 := 0#32
  let v1123 : BitVec 1 := Scalar.cmpi .ne v1122 c0_i32_1238
  let v1127 : BitVec 1 := Scalar.andi v1126 v1123
  let v1128 : BitVec 32 := Scalar.addi v1122 v1121
  let v1129 : BitVec 32 := Scalar.select v1127 v1128 v1122
  let v1130 : BitVec 32 := Scalar.addi v1118 v1129
  let c1_i32_1246 : BitVec 32 := 1#32
  let v1131 : BitVec 32 := Scalar.muli v1130 c1_i32_1246
  let v1132 : BitVec 32 := Scalar.addi c0_i32_1247 v1131
  v1132.toNat
def k0_off36 (d0 : Dev nD) (c1_i32_1197 : BitVec 32) : Fin 4 → Nat :=
  let c1_i32_1260 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1076 : BitVec 32 := Scalar.addi v29 c1_i32_1197
  let c4_i32_1198 : BitVec 32 := 4#32
  let c0_i32_1199 : BitVec 32 := 0#32
  let v1077 : BitVec 1 := Scalar.cmpi .eq c4_i32_1198 c0_i32_1199
  let c1_i32_1200 : BitVec 32 := 1#32
  let v1078 : BitVec 32 := Scalar.select v1077 c1_i32_1200 c4_i32_1198
  let v1079 : BitVec 32 := Scalar.remsi v1076 v1078
  let c0_i32_1202 : BitVec 32 := 0#32
  let v1081 : BitVec 1 := Scalar.cmpi .slt v1079 c0_i32_1202
  let c0_i32_1203 : BitVec 32 := 0#32
  let v1082 : BitVec 1 := Scalar.cmpi .slt v1078 c0_i32_1203
  let v1083 : BitVec 1 := Scalar.xori v1081 v1082
  let c0_i32_1201 : BitVec 32 := 0#32
  let v1080 : BitVec 1 := Scalar.cmpi .ne v1079 c0_i32_1201
  let v1084 : BitVec 1 := Scalar.andi v1083 v1080
  let v1085 : BitVec 32 := Scalar.addi v1079 v1078
  let v1086 : BitVec 32 := Scalar.select v1084 v1085 v1079
  let c0_i32_1267 : BitVec 32 := 0#32
  let c0_i32_1268 : BitVec 32 := 0#32
  ![1, v1086.toNat, 0, 0]
def k0_dev47 (d0 : Dev nD) : Nat :=
  let c0_i32_1266 : BitVec 32 := 0#32
  let c4_i32_1252 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1141 : BitVec 32 := Scalar.muli c4_i32_1252 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_1253 : BitVec 32 := 3#32
  let v1142 : BitVec 32 := Scalar.addi v12 c3_i32_1253
  let c4_i32_1254 : BitVec 32 := 4#32
  let c0_i32_1255 : BitVec 32 := 0#32
  let v1143 : BitVec 1 := Scalar.cmpi .eq c4_i32_1254 c0_i32_1255
  let c1_i32_1256 : BitVec 32 := 1#32
  let v1144 : BitVec 32 := Scalar.select v1143 c1_i32_1256 c4_i32_1254
  let v1145 : BitVec 32 := Scalar.remsi v1142 v1144
  let c0_i32_1258 : BitVec 32 := 0#32
  let v1147 : BitVec 1 := Scalar.cmpi .slt v1145 c0_i32_1258
  let c0_i32_1259 : BitVec 32 := 0#32
  let v1148 : BitVec 1 := Scalar.cmpi .slt v1144 c0_i32_1259
  let v1149 : BitVec 1 := Scalar.xori v1147 v1148
  let c0_i32_1257 : BitVec 32 := 0#32
  let v1146 : BitVec 1 := Scalar.cmpi .ne v1145 c0_i32_1257
  let v1150 : BitVec 1 := Scalar.andi v1149 v1146
  let v1151 : BitVec 32 := Scalar.addi v1145 v1144
  let v1152 : BitVec 32 := Scalar.select v1150 v1151 v1145
  let v1153 : BitVec 32 := Scalar.addi v1141 v1152
  let c1_i32_1265 : BitVec 32 := 1#32
  let v1154 : BitVec 32 := Scalar.muli v1153 c1_i32_1265
  let v1155 : BitVec 32 := Scalar.addi c0_i32_1266 v1154
  v1155.toNat
def k0_dev48 (d0 : Dev nD) : Nat :=
  let c0_i32_1302 : BitVec 32 := 0#32
  let c4_i32_1288 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1183 : BitVec 32 := Scalar.muli c4_i32_1288 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1289 : BitVec 32 := 1#32
  let v1184 : BitVec 32 := Scalar.addi v12 c1_i32_1289
  let c4_i32_1290 : BitVec 32 := 4#32
  let c0_i32_1291 : BitVec 32 := 0#32
  let v1185 : BitVec 1 := Scalar.cmpi .eq c4_i32_1290 c0_i32_1291
  let c1_i32_1292 : BitVec 32 := 1#32
  let v1186 : BitVec 32 := Scalar.select v1185 c1_i32_1292 c4_i32_1290
  let v1187 : BitVec 32 := Scalar.remsi v1184 v1186
  let c0_i32_1294 : BitVec 32 := 0#32
  let v1189 : BitVec 1 := Scalar.cmpi .slt v1187 c0_i32_1294
  let c0_i32_1295 : BitVec 32 := 0#32
  let v1190 : BitVec 1 := Scalar.cmpi .slt v1186 c0_i32_1295
  let v1191 : BitVec 1 := Scalar.xori v1189 v1190
  let c0_i32_1293 : BitVec 32 := 0#32
  let v1188 : BitVec 1 := Scalar.cmpi .ne v1187 c0_i32_1293
  let v1192 : BitVec 1 := Scalar.andi v1191 v1188
  let v1193 : BitVec 32 := Scalar.addi v1187 v1186
  let v1194 : BitVec 32 := Scalar.select v1192 v1193 v1187
  let v1195 : BitVec 32 := Scalar.addi v1183 v1194
  let c1_i32_1301 : BitVec 32 := 1#32
  let v1196 : BitVec 32 := Scalar.muli v1195 c1_i32_1301
  let v1197 : BitVec 32 := Scalar.addi c0_i32_1302 v1196
  v1197.toNat
def k0_dev49 (d0 : Dev nD) : Nat :=
  let c0_i32_1321 : BitVec 32 := 0#32
  let c4_i32_1307 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1206 : BitVec 32 := Scalar.muli c4_i32_1307 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1308 : BitVec 32 := 2#32
  let v1207 : BitVec 32 := Scalar.addi v12 c2_i32_1308
  let c4_i32_1309 : BitVec 32 := 4#32
  let c0_i32_1310 : BitVec 32 := 0#32
  let v1208 : BitVec 1 := Scalar.cmpi .eq c4_i32_1309 c0_i32_1310
  let c1_i32_1311 : BitVec 32 := 1#32
  let v1209 : BitVec 32 := Scalar.select v1208 c1_i32_1311 c4_i32_1309
  let v1210 : BitVec 32 := Scalar.remsi v1207 v1209
  let c0_i32_1313 : BitVec 32 := 0#32
  let v1212 : BitVec 1 := Scalar.cmpi .slt v1210 c0_i32_1313
  let c0_i32_1314 : BitVec 32 := 0#32
  let v1213 : BitVec 1 := Scalar.cmpi .slt v1209 c0_i32_1314
  let v1214 : BitVec 1 := Scalar.xori v1212 v1213
  let c0_i32_1312 : BitVec 32 := 0#32
  let v1211 : BitVec 1 := Scalar.cmpi .ne v1210 c0_i32_1312
  let v1215 : BitVec 1 := Scalar.andi v1214 v1211
  let v1216 : BitVec 32 := Scalar.addi v1210 v1209
  let v1217 : BitVec 32 := Scalar.select v1215 v1216 v1210
  let v1218 : BitVec 32 := Scalar.addi v1206 v1217
  let c1_i32_1320 : BitVec 32 := 1#32
  let v1219 : BitVec 32 := Scalar.muli v1218 c1_i32_1320
  let v1220 : BitVec 32 := Scalar.addi c0_i32_1321 v1219
  v1220.toNat
def k0_dev50 (d0 : Dev nD) : Nat :=
  let c0_i32_1340 : BitVec 32 := 0#32
  let c4_i32_1326 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1229 : BitVec 32 := Scalar.muli c4_i32_1326 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_1327 : BitVec 32 := 3#32
  let v1230 : BitVec 32 := Scalar.addi v12 c3_i32_1327
  let c4_i32_1328 : BitVec 32 := 4#32
  let c0_i32_1329 : BitVec 32 := 0#32
  let v1231 : BitVec 1 := Scalar.cmpi .eq c4_i32_1328 c0_i32_1329
  let c1_i32_1330 : BitVec 32 := 1#32
  let v1232 : BitVec 32 := Scalar.select v1231 c1_i32_1330 c4_i32_1328
  let v1233 : BitVec 32 := Scalar.remsi v1230 v1232
  let c0_i32_1332 : BitVec 32 := 0#32
  let v1235 : BitVec 1 := Scalar.cmpi .slt v1233 c0_i32_1332
  let c0_i32_1333 : BitVec 32 := 0#32
  let v1236 : BitVec 1 := Scalar.cmpi .slt v1232 c0_i32_1333
  let v1237 : BitVec 1 := Scalar.xori v1235 v1236
  let c0_i32_1331 : BitVec 32 := 0#32
  let v1234 : BitVec 1 := Scalar.cmpi .ne v1233 c0_i32_1331
  let v1238 : BitVec 1 := Scalar.andi v1237 v1234
  let v1239 : BitVec 32 := Scalar.addi v1233 v1232
  let v1240 : BitVec 32 := Scalar.select v1238 v1239 v1233
  let v1241 : BitVec 32 := Scalar.addi v1229 v1240
  let c1_i32_1339 : BitVec 32 := 1#32
  let v1242 : BitVec 32 := Scalar.muli v1241 c1_i32_1339
  let v1243 : BitVec 32 := Scalar.addi c0_i32_1340 v1242
  v1243.toNat
def k0_dev51 (d0 : Dev nD) : Nat :=
  let c0_i32_1376 : BitVec 32 := 0#32
  let c4_i32_1362 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1271 : BitVec 32 := Scalar.muli c4_i32_1362 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1363 : BitVec 32 := 1#32
  let v1272 : BitVec 32 := Scalar.addi v12 c1_i32_1363
  let c4_i32_1364 : BitVec 32 := 4#32
  let c0_i32_1365 : BitVec 32 := 0#32
  let v1273 : BitVec 1 := Scalar.cmpi .eq c4_i32_1364 c0_i32_1365
  let c1_i32_1366 : BitVec 32 := 1#32
  let v1274 : BitVec 32 := Scalar.select v1273 c1_i32_1366 c4_i32_1364
  let v1275 : BitVec 32 := Scalar.remsi v1272 v1274
  let c0_i32_1368 : BitVec 32 := 0#32
  let v1277 : BitVec 1 := Scalar.cmpi .slt v1275 c0_i32_1368
  let c0_i32_1369 : BitVec 32 := 0#32
  let v1278 : BitVec 1 := Scalar.cmpi .slt v1274 c0_i32_1369
  let v1279 : BitVec 1 := Scalar.xori v1277 v1278
  let c0_i32_1367 : BitVec 32 := 0#32
  let v1276 : BitVec 1 := Scalar.cmpi .ne v1275 c0_i32_1367
  let v1280 : BitVec 1 := Scalar.andi v1279 v1276
  let v1281 : BitVec 32 := Scalar.addi v1275 v1274
  let v1282 : BitVec 32 := Scalar.select v1280 v1281 v1275
  let v1283 : BitVec 32 := Scalar.addi v1271 v1282
  let c1_i32_1375 : BitVec 32 := 1#32
  let v1284 : BitVec 32 := Scalar.muli v1283 c1_i32_1375
  let v1285 : BitVec 32 := Scalar.addi c0_i32_1376 v1284
  v1285.toNat
def k0_dev52 (d0 : Dev nD) : Nat :=
  let c0_i32_1395 : BitVec 32 := 0#32
  let c4_i32_1381 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1294 : BitVec 32 := Scalar.muli c4_i32_1381 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1382 : BitVec 32 := 2#32
  let v1295 : BitVec 32 := Scalar.addi v12 c2_i32_1382
  let c4_i32_1383 : BitVec 32 := 4#32
  let c0_i32_1384 : BitVec 32 := 0#32
  let v1296 : BitVec 1 := Scalar.cmpi .eq c4_i32_1383 c0_i32_1384
  let c1_i32_1385 : BitVec 32 := 1#32
  let v1297 : BitVec 32 := Scalar.select v1296 c1_i32_1385 c4_i32_1383
  let v1298 : BitVec 32 := Scalar.remsi v1295 v1297
  let c0_i32_1387 : BitVec 32 := 0#32
  let v1300 : BitVec 1 := Scalar.cmpi .slt v1298 c0_i32_1387
  let c0_i32_1388 : BitVec 32 := 0#32
  let v1301 : BitVec 1 := Scalar.cmpi .slt v1297 c0_i32_1388
  let v1302 : BitVec 1 := Scalar.xori v1300 v1301
  let c0_i32_1386 : BitVec 32 := 0#32
  let v1299 : BitVec 1 := Scalar.cmpi .ne v1298 c0_i32_1386
  let v1303 : BitVec 1 := Scalar.andi v1302 v1299
  let v1304 : BitVec 32 := Scalar.addi v1298 v1297
  let v1305 : BitVec 32 := Scalar.select v1303 v1304 v1298
  let v1306 : BitVec 32 := Scalar.addi v1294 v1305
  let c1_i32_1394 : BitVec 32 := 1#32
  let v1307 : BitVec 32 := Scalar.muli v1306 c1_i32_1394
  let v1308 : BitVec 32 := Scalar.addi c0_i32_1395 v1307
  v1308.toNat
def k0_dev53 (d0 : Dev nD) : Nat :=
  let c0_i32_1414 : BitVec 32 := 0#32
  let c4_i32_1400 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1317 : BitVec 32 := Scalar.muli c4_i32_1400 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_1401 : BitVec 32 := 3#32
  let v1318 : BitVec 32 := Scalar.addi v12 c3_i32_1401
  let c4_i32_1402 : BitVec 32 := 4#32
  let c0_i32_1403 : BitVec 32 := 0#32
  let v1319 : BitVec 1 := Scalar.cmpi .eq c4_i32_1402 c0_i32_1403
  let c1_i32_1404 : BitVec 32 := 1#32
  let v1320 : BitVec 32 := Scalar.select v1319 c1_i32_1404 c4_i32_1402
  let v1321 : BitVec 32 := Scalar.remsi v1318 v1320
  let c0_i32_1406 : BitVec 32 := 0#32
  let v1323 : BitVec 1 := Scalar.cmpi .slt v1321 c0_i32_1406
  let c0_i32_1407 : BitVec 32 := 0#32
  let v1324 : BitVec 1 := Scalar.cmpi .slt v1320 c0_i32_1407
  let v1325 : BitVec 1 := Scalar.xori v1323 v1324
  let c0_i32_1405 : BitVec 32 := 0#32
  let v1322 : BitVec 1 := Scalar.cmpi .ne v1321 c0_i32_1405
  let v1326 : BitVec 1 := Scalar.andi v1325 v1322
  let v1327 : BitVec 32 := Scalar.addi v1321 v1320
  let v1328 : BitVec 32 := Scalar.select v1326 v1327 v1321
  let v1329 : BitVec 32 := Scalar.addi v1317 v1328
  let c1_i32_1413 : BitVec 32 := 1#32
  let v1330 : BitVec 32 := Scalar.muli v1329 c1_i32_1413
  let v1331 : BitVec 32 := Scalar.addi c0_i32_1414 v1330
  v1331.toNat
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1340 : Index := Scalar.indexCast v29
  let c32_1419 : Index := 32#32
  let c0_1420 : Index := 0#32
  ![v1340.toNat, 32, 0]
def k0_off38 (d0 : Dev nD) : Fin 2 → Nat :=
  let c1_i32_1476 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  ![1, v29.toNat]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c32_i32_1481 : BitVec 32 := 32#32
  let c0_i32_1482 : BitVec 32 := 0#32
  ![v29.toNat, 32, 0]
def k0_dev54 (d0 : Dev nD) : Nat :=
  let c0_i32_1480 : BitVec 32 := 0#32
  let c4_i32_1475 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c1_i32_1468 : BitVec 32 := 1#32
  let v1385 : BitVec 32 := Scalar.addi v29 c1_i32_1468
  let c4_i32_1469 : BitVec 32 := 4#32
  let c0_i32_1470 : BitVec 32 := 0#32
  let v1386 : BitVec 1 := Scalar.cmpi .eq c4_i32_1469 c0_i32_1470
  let c1_i32_1471 : BitVec 32 := 1#32
  let v1387 : BitVec 32 := Scalar.select v1386 c1_i32_1471 c4_i32_1469
  let v1388 : BitVec 32 := Scalar.remsi v1385 v1387
  let c0_i32_1473 : BitVec 32 := 0#32
  let v1390 : BitVec 1 := Scalar.cmpi .slt v1388 c0_i32_1473
  let c0_i32_1474 : BitVec 32 := 0#32
  let v1391 : BitVec 1 := Scalar.cmpi .slt v1387 c0_i32_1474
  let v1392 : BitVec 1 := Scalar.xori v1390 v1391
  let c0_i32_1472 : BitVec 32 := 0#32
  let v1389 : BitVec 1 := Scalar.cmpi .ne v1388 c0_i32_1472
  let v1393 : BitVec 1 := Scalar.andi v1392 v1389
  let v1394 : BitVec 32 := Scalar.addi v1388 v1387
  let v1395 : BitVec 32 := Scalar.select v1393 v1394 v1388
  let v1396 : BitVec 32 := Scalar.muli c4_i32_1475 v1395
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1397 : BitVec 32 := Scalar.addi v1396 v12
  let c1_i32_1479 : BitVec 32 := 1#32
  let v1398 : BitVec 32 := Scalar.muli v1397 c1_i32_1479
  let v1399 : BitVec 32 := Scalar.addi c0_i32_1480 v1398
  v1399.toNat
def k0_dev55 (d0 : Dev nD) : Nat :=
  let c0_i32_1497 : BitVec 32 := 0#32
  let c4_i32_1492 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c2_i32_1485 : BitVec 32 := 2#32
  let v1408 : BitVec 32 := Scalar.addi v29 c2_i32_1485
  let c4_i32_1486 : BitVec 32 := 4#32
  let c0_i32_1487 : BitVec 32 := 0#32
  let v1409 : BitVec 1 := Scalar.cmpi .eq c4_i32_1486 c0_i32_1487
  let c1_i32_1488 : BitVec 32 := 1#32
  let v1410 : BitVec 32 := Scalar.select v1409 c1_i32_1488 c4_i32_1486
  let v1411 : BitVec 32 := Scalar.remsi v1408 v1410
  let c0_i32_1490 : BitVec 32 := 0#32
  let v1413 : BitVec 1 := Scalar.cmpi .slt v1411 c0_i32_1490
  let c0_i32_1491 : BitVec 32 := 0#32
  let v1414 : BitVec 1 := Scalar.cmpi .slt v1410 c0_i32_1491
  let v1415 : BitVec 1 := Scalar.xori v1413 v1414
  let c0_i32_1489 : BitVec 32 := 0#32
  let v1412 : BitVec 1 := Scalar.cmpi .ne v1411 c0_i32_1489
  let v1416 : BitVec 1 := Scalar.andi v1415 v1412
  let v1417 : BitVec 32 := Scalar.addi v1411 v1410
  let v1418 : BitVec 32 := Scalar.select v1416 v1417 v1411
  let v1419 : BitVec 32 := Scalar.muli c4_i32_1492 v1418
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1420 : BitVec 32 := Scalar.addi v1419 v12
  let c1_i32_1496 : BitVec 32 := 1#32
  let v1421 : BitVec 32 := Scalar.muli v1420 c1_i32_1496
  let v1422 : BitVec 32 := Scalar.addi c0_i32_1497 v1421
  v1422.toNat
def k0_dev56 (d0 : Dev nD) : Nat :=
  let c0_i32_1514 : BitVec 32 := 0#32
  let c4_i32_1509 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c3_i32_1502 : BitVec 32 := 3#32
  let v1431 : BitVec 32 := Scalar.addi v29 c3_i32_1502
  let c4_i32_1503 : BitVec 32 := 4#32
  let c0_i32_1504 : BitVec 32 := 0#32
  let v1432 : BitVec 1 := Scalar.cmpi .eq c4_i32_1503 c0_i32_1504
  let c1_i32_1505 : BitVec 32 := 1#32
  let v1433 : BitVec 32 := Scalar.select v1432 c1_i32_1505 c4_i32_1503
  let v1434 : BitVec 32 := Scalar.remsi v1431 v1433
  let c0_i32_1507 : BitVec 32 := 0#32
  let v1436 : BitVec 1 := Scalar.cmpi .slt v1434 c0_i32_1507
  let c0_i32_1508 : BitVec 32 := 0#32
  let v1437 : BitVec 1 := Scalar.cmpi .slt v1433 c0_i32_1508
  let v1438 : BitVec 1 := Scalar.xori v1436 v1437
  let c0_i32_1506 : BitVec 32 := 0#32
  let v1435 : BitVec 1 := Scalar.cmpi .ne v1434 c0_i32_1506
  let v1439 : BitVec 1 := Scalar.andi v1438 v1435
  let v1440 : BitVec 32 := Scalar.addi v1434 v1433
  let v1441 : BitVec 32 := Scalar.select v1439 v1440 v1434
  let v1442 : BitVec 32 := Scalar.muli c4_i32_1509 v1441
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1443 : BitVec 32 := Scalar.addi v1442 v12
  let c1_i32_1513 : BitVec 32 := 1#32
  let v1444 : BitVec 32 := Scalar.muli v1443 c1_i32_1513
  let v1445 : BitVec 32 := Scalar.addi c0_i32_1514 v1444
  v1445.toNat
def k0_off40 (d0 : Dev nD) : Fin 3 → Nat :=
  let c1_i32_1530 : BitVec 32 := 1#32
  let c1_i32_1531 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  ![1, 1, v29.toNat]
def k0_off41 (d0 : Dev nD) : Fin 3 → Nat :=
  let c1_i32_1528 : BitVec 32 := 1#32
  let c3_i32_1529 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  ![1, 3, v29.toNat]
def k0_off42 (d0 : Dev nD) : Fin 4 → Nat :=
  let c3_i32_1527 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c32_i32_1534 : BitVec 32 := 32#32
  let c0_i32_1535 : BitVec 32 := 0#32
  ![3, v29.toNat, 32, 0]
def k0_dev57 (d0 : Dev nD) : Nat :=
  let c0_i32_1533 : BitVec 32 := 0#32
  let c4_i32_1519 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1454 : BitVec 32 := Scalar.muli c4_i32_1519 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1520 : BitVec 32 := 1#32
  let v1455 : BitVec 32 := Scalar.addi v12 c1_i32_1520
  let c4_i32_1521 : BitVec 32 := 4#32
  let c0_i32_1522 : BitVec 32 := 0#32
  let v1456 : BitVec 1 := Scalar.cmpi .eq c4_i32_1521 c0_i32_1522
  let c1_i32_1523 : BitVec 32 := 1#32
  let v1457 : BitVec 32 := Scalar.select v1456 c1_i32_1523 c4_i32_1521
  let v1458 : BitVec 32 := Scalar.remsi v1455 v1457
  let c0_i32_1525 : BitVec 32 := 0#32
  let v1460 : BitVec 1 := Scalar.cmpi .slt v1458 c0_i32_1525
  let c0_i32_1526 : BitVec 32 := 0#32
  let v1461 : BitVec 1 := Scalar.cmpi .slt v1457 c0_i32_1526
  let v1462 : BitVec 1 := Scalar.xori v1460 v1461
  let c0_i32_1524 : BitVec 32 := 0#32
  let v1459 : BitVec 1 := Scalar.cmpi .ne v1458 c0_i32_1524
  let v1463 : BitVec 1 := Scalar.andi v1462 v1459
  let v1464 : BitVec 32 := Scalar.addi v1458 v1457
  let v1465 : BitVec 32 := Scalar.select v1463 v1464 v1458
  let v1466 : BitVec 32 := Scalar.addi v1454 v1465
  let c1_i32_1532 : BitVec 32 := 1#32
  let v1467 : BitVec 32 := Scalar.muli v1466 c1_i32_1532
  let v1468 : BitVec 32 := Scalar.addi c0_i32_1533 v1467
  v1468.toNat
def k0_off43 (d0 : Dev nD) : Fin 3 → Nat :=
  let c1_i32_1549 : BitVec 32 := 1#32
  let c2_i32_1550 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  ![1, 2, v29.toNat]
def k0_off44 (d0 : Dev nD) : Fin 4 → Nat :=
  let c2_i32_1546 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c32_i32_1553 : BitVec 32 := 32#32
  let c0_i32_1554 : BitVec 32 := 0#32
  ![2, v29.toNat, 32, 0]
def k0_dev58 (d0 : Dev nD) : Nat :=
  let c0_i32_1552 : BitVec 32 := 0#32
  let c4_i32_1538 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1477 : BitVec 32 := Scalar.muli c4_i32_1538 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1539 : BitVec 32 := 2#32
  let v1478 : BitVec 32 := Scalar.addi v12 c2_i32_1539
  let c4_i32_1540 : BitVec 32 := 4#32
  let c0_i32_1541 : BitVec 32 := 0#32
  let v1479 : BitVec 1 := Scalar.cmpi .eq c4_i32_1540 c0_i32_1541
  let c1_i32_1542 : BitVec 32 := 1#32
  let v1480 : BitVec 32 := Scalar.select v1479 c1_i32_1542 c4_i32_1540
  let v1481 : BitVec 32 := Scalar.remsi v1478 v1480
  let c0_i32_1544 : BitVec 32 := 0#32
  let v1483 : BitVec 1 := Scalar.cmpi .slt v1481 c0_i32_1544
  let c0_i32_1545 : BitVec 32 := 0#32
  let v1484 : BitVec 1 := Scalar.cmpi .slt v1480 c0_i32_1545
  let v1485 : BitVec 1 := Scalar.xori v1483 v1484
  let c0_i32_1543 : BitVec 32 := 0#32
  let v1482 : BitVec 1 := Scalar.cmpi .ne v1481 c0_i32_1543
  let v1486 : BitVec 1 := Scalar.andi v1485 v1482
  let v1487 : BitVec 32 := Scalar.addi v1481 v1480
  let v1488 : BitVec 32 := Scalar.select v1486 v1487 v1481
  let v1489 : BitVec 32 := Scalar.addi v1477 v1488
  let c1_i32_1551 : BitVec 32 := 1#32
  let v1490 : BitVec 32 := Scalar.muli v1489 c1_i32_1551
  let v1491 : BitVec 32 := Scalar.addi c0_i32_1552 v1490
  v1491.toNat
def k0_off45 (d0 : Dev nD) : Fin 4 → Nat :=
  let c1_i32_1565 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let c32_i32_1572 : BitVec 32 := 32#32
  let c0_i32_1573 : BitVec 32 := 0#32
  ![1, v29.toNat, 32, 0]
def k0_dev59 (d0 : Dev nD) : Nat :=
  let c0_i32_1571 : BitVec 32 := 0#32
  let c4_i32_1557 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1500 : BitVec 32 := Scalar.muli c4_i32_1557 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_1558 : BitVec 32 := 3#32
  let v1501 : BitVec 32 := Scalar.addi v12 c3_i32_1558
  let c4_i32_1559 : BitVec 32 := 4#32
  let c0_i32_1560 : BitVec 32 := 0#32
  let v1502 : BitVec 1 := Scalar.cmpi .eq c4_i32_1559 c0_i32_1560
  let c1_i32_1561 : BitVec 32 := 1#32
  let v1503 : BitVec 32 := Scalar.select v1502 c1_i32_1561 c4_i32_1559
  let v1504 : BitVec 32 := Scalar.remsi v1501 v1503
  let c0_i32_1563 : BitVec 32 := 0#32
  let v1506 : BitVec 1 := Scalar.cmpi .slt v1504 c0_i32_1563
  let c0_i32_1564 : BitVec 32 := 0#32
  let v1507 : BitVec 1 := Scalar.cmpi .slt v1503 c0_i32_1564
  let v1508 : BitVec 1 := Scalar.xori v1506 v1507
  let c0_i32_1562 : BitVec 32 := 0#32
  let v1505 : BitVec 1 := Scalar.cmpi .ne v1504 c0_i32_1562
  let v1509 : BitVec 1 := Scalar.andi v1508 v1505
  let v1510 : BitVec 32 := Scalar.addi v1504 v1503
  let v1511 : BitVec 32 := Scalar.select v1509 v1510 v1504
  let v1512 : BitVec 32 := Scalar.addi v1500 v1511
  let c1_i32_1570 : BitVec 32 := 1#32
  let v1513 : BitVec 32 := Scalar.muli v1512 c1_i32_1570
  let v1514 : BitVec 32 := Scalar.addi c0_i32_1571 v1513
  v1514.toNat
def k0_off46 (d0 : Dev nD) (c1_i32_1576 : BitVec 32) : Fin 2 → Nat :=
  let c1_i32_1584 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1523 : BitVec 32 := Scalar.addi v29 c1_i32_1576
  let c4_i32_1577 : BitVec 32 := 4#32
  let c0_i32_1578 : BitVec 32 := 0#32
  let v1524 : BitVec 1 := Scalar.cmpi .eq c4_i32_1577 c0_i32_1578
  let c1_i32_1579 : BitVec 32 := 1#32
  let v1525 : BitVec 32 := Scalar.select v1524 c1_i32_1579 c4_i32_1577
  let v1526 : BitVec 32 := Scalar.remsi v1523 v1525
  let c0_i32_1581 : BitVec 32 := 0#32
  let v1528 : BitVec 1 := Scalar.cmpi .slt v1526 c0_i32_1581
  let c0_i32_1582 : BitVec 32 := 0#32
  let v1529 : BitVec 1 := Scalar.cmpi .slt v1525 c0_i32_1582
  let v1530 : BitVec 1 := Scalar.xori v1528 v1529
  let c0_i32_1580 : BitVec 32 := 0#32
  let v1527 : BitVec 1 := Scalar.cmpi .ne v1526 c0_i32_1580
  let v1531 : BitVec 1 := Scalar.andi v1530 v1527
  let v1532 : BitVec 32 := Scalar.addi v1526 v1525
  let v1533 : BitVec 32 := Scalar.select v1531 v1532 v1526
  ![1, v1533.toNat]
def k0_off47 (d0 : Dev nD) (c1_i32_1576 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1523 : BitVec 32 := Scalar.addi v29 c1_i32_1576
  let c4_i32_1577 : BitVec 32 := 4#32
  let c0_i32_1578 : BitVec 32 := 0#32
  let v1524 : BitVec 1 := Scalar.cmpi .eq c4_i32_1577 c0_i32_1578
  let c1_i32_1579 : BitVec 32 := 1#32
  let v1525 : BitVec 32 := Scalar.select v1524 c1_i32_1579 c4_i32_1577
  let v1526 : BitVec 32 := Scalar.remsi v1523 v1525
  let c0_i32_1581 : BitVec 32 := 0#32
  let v1528 : BitVec 1 := Scalar.cmpi .slt v1526 c0_i32_1581
  let c0_i32_1582 : BitVec 32 := 0#32
  let v1529 : BitVec 1 := Scalar.cmpi .slt v1525 c0_i32_1582
  let v1530 : BitVec 1 := Scalar.xori v1528 v1529
  let c0_i32_1580 : BitVec 32 := 0#32
  let v1527 : BitVec 1 := Scalar.cmpi .ne v1526 c0_i32_1580
  let v1531 : BitVec 1 := Scalar.andi v1530 v1527
  let v1532 : BitVec 32 := Scalar.addi v1526 v1525
  let v1533 : BitVec 32 := Scalar.select v1531 v1532 v1526
  let c32_i32_1589 : BitVec 32 := 32#32
  let c0_i32_1590 : BitVec 32 := 0#32
  ![v1533.toNat, 32, 0]
def k0_off48 (d0 : Dev nD) (c1_i32_1576 : BitVec 32) : Fin 3 → Nat :=
  let c1_i32_1604 : BitVec 32 := 1#32
  let c1_i32_1605 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1523 : BitVec 32 := Scalar.addi v29 c1_i32_1576
  let c4_i32_1577 : BitVec 32 := 4#32
  let c0_i32_1578 : BitVec 32 := 0#32
  let v1524 : BitVec 1 := Scalar.cmpi .eq c4_i32_1577 c0_i32_1578
  let c1_i32_1579 : BitVec 32 := 1#32
  let v1525 : BitVec 32 := Scalar.select v1524 c1_i32_1579 c4_i32_1577
  let v1526 : BitVec 32 := Scalar.remsi v1523 v1525
  let c0_i32_1581 : BitVec 32 := 0#32
  let v1528 : BitVec 1 := Scalar.cmpi .slt v1526 c0_i32_1581
  let c0_i32_1582 : BitVec 32 := 0#32
  let v1529 : BitVec 1 := Scalar.cmpi .slt v1525 c0_i32_1582
  let v1530 : BitVec 1 := Scalar.xori v1528 v1529
  let c0_i32_1580 : BitVec 32 := 0#32
  let v1527 : BitVec 1 := Scalar.cmpi .ne v1526 c0_i32_1580
  let v1531 : BitVec 1 := Scalar.andi v1530 v1527
  let v1532 : BitVec 32 := Scalar.addi v1526 v1525
  let v1533 : BitVec 32 := Scalar.select v1531 v1532 v1526
  ![1, 1, v1533.toNat]
def k0_off49 (d0 : Dev nD) (c1_i32_1576 : BitVec 32) : Fin 3 → Nat :=
  let c1_i32_1602 : BitVec 32 := 1#32
  let c3_i32_1603 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1523 : BitVec 32 := Scalar.addi v29 c1_i32_1576
  let c4_i32_1577 : BitVec 32 := 4#32
  let c0_i32_1578 : BitVec 32 := 0#32
  let v1524 : BitVec 1 := Scalar.cmpi .eq c4_i32_1577 c0_i32_1578
  let c1_i32_1579 : BitVec 32 := 1#32
  let v1525 : BitVec 32 := Scalar.select v1524 c1_i32_1579 c4_i32_1577
  let v1526 : BitVec 32 := Scalar.remsi v1523 v1525
  let c0_i32_1581 : BitVec 32 := 0#32
  let v1528 : BitVec 1 := Scalar.cmpi .slt v1526 c0_i32_1581
  let c0_i32_1582 : BitVec 32 := 0#32
  let v1529 : BitVec 1 := Scalar.cmpi .slt v1525 c0_i32_1582
  let v1530 : BitVec 1 := Scalar.xori v1528 v1529
  let c0_i32_1580 : BitVec 32 := 0#32
  let v1527 : BitVec 1 := Scalar.cmpi .ne v1526 c0_i32_1580
  let v1531 : BitVec 1 := Scalar.andi v1530 v1527
  let v1532 : BitVec 32 := Scalar.addi v1526 v1525
  let v1533 : BitVec 32 := Scalar.select v1531 v1532 v1526
  ![1, 3, v1533.toNat]
def k0_off50 (d0 : Dev nD) (c1_i32_1576 : BitVec 32) : Fin 4 → Nat :=
  let c3_i32_1601 : BitVec 32 := 3#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1523 : BitVec 32 := Scalar.addi v29 c1_i32_1576
  let c4_i32_1577 : BitVec 32 := 4#32
  let c0_i32_1578 : BitVec 32 := 0#32
  let v1524 : BitVec 1 := Scalar.cmpi .eq c4_i32_1577 c0_i32_1578
  let c1_i32_1579 : BitVec 32 := 1#32
  let v1525 : BitVec 32 := Scalar.select v1524 c1_i32_1579 c4_i32_1577
  let v1526 : BitVec 32 := Scalar.remsi v1523 v1525
  let c0_i32_1581 : BitVec 32 := 0#32
  let v1528 : BitVec 1 := Scalar.cmpi .slt v1526 c0_i32_1581
  let c0_i32_1582 : BitVec 32 := 0#32
  let v1529 : BitVec 1 := Scalar.cmpi .slt v1525 c0_i32_1582
  let v1530 : BitVec 1 := Scalar.xori v1528 v1529
  let c0_i32_1580 : BitVec 32 := 0#32
  let v1527 : BitVec 1 := Scalar.cmpi .ne v1526 c0_i32_1580
  let v1531 : BitVec 1 := Scalar.andi v1530 v1527
  let v1532 : BitVec 32 := Scalar.addi v1526 v1525
  let v1533 : BitVec 32 := Scalar.select v1531 v1532 v1526
  let c32_i32_1608 : BitVec 32 := 32#32
  let c0_i32_1609 : BitVec 32 := 0#32
  ![3, v1533.toNat, 32, 0]
def k0_dev60 (d0 : Dev nD) : Nat :=
  let c0_i32_1607 : BitVec 32 := 0#32
  let c4_i32_1593 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1542 : BitVec 32 := Scalar.muli c4_i32_1593 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1594 : BitVec 32 := 1#32
  let v1543 : BitVec 32 := Scalar.addi v12 c1_i32_1594
  let c4_i32_1595 : BitVec 32 := 4#32
  let c0_i32_1596 : BitVec 32 := 0#32
  let v1544 : BitVec 1 := Scalar.cmpi .eq c4_i32_1595 c0_i32_1596
  let c1_i32_1597 : BitVec 32 := 1#32
  let v1545 : BitVec 32 := Scalar.select v1544 c1_i32_1597 c4_i32_1595
  let v1546 : BitVec 32 := Scalar.remsi v1543 v1545
  let c0_i32_1599 : BitVec 32 := 0#32
  let v1548 : BitVec 1 := Scalar.cmpi .slt v1546 c0_i32_1599
  let c0_i32_1600 : BitVec 32 := 0#32
  let v1549 : BitVec 1 := Scalar.cmpi .slt v1545 c0_i32_1600
  let v1550 : BitVec 1 := Scalar.xori v1548 v1549
  let c0_i32_1598 : BitVec 32 := 0#32
  let v1547 : BitVec 1 := Scalar.cmpi .ne v1546 c0_i32_1598
  let v1551 : BitVec 1 := Scalar.andi v1550 v1547
  let v1552 : BitVec 32 := Scalar.addi v1546 v1545
  let v1553 : BitVec 32 := Scalar.select v1551 v1552 v1546
  let v1554 : BitVec 32 := Scalar.addi v1542 v1553
  let c1_i32_1606 : BitVec 32 := 1#32
  let v1555 : BitVec 32 := Scalar.muli v1554 c1_i32_1606
  let v1556 : BitVec 32 := Scalar.addi c0_i32_1607 v1555
  v1556.toNat
def k0_off51 (d0 : Dev nD) (c1_i32_1576 : BitVec 32) : Fin 3 → Nat :=
  let c1_i32_1623 : BitVec 32 := 1#32
  let c2_i32_1624 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1523 : BitVec 32 := Scalar.addi v29 c1_i32_1576
  let c4_i32_1577 : BitVec 32 := 4#32
  let c0_i32_1578 : BitVec 32 := 0#32
  let v1524 : BitVec 1 := Scalar.cmpi .eq c4_i32_1577 c0_i32_1578
  let c1_i32_1579 : BitVec 32 := 1#32
  let v1525 : BitVec 32 := Scalar.select v1524 c1_i32_1579 c4_i32_1577
  let v1526 : BitVec 32 := Scalar.remsi v1523 v1525
  let c0_i32_1581 : BitVec 32 := 0#32
  let v1528 : BitVec 1 := Scalar.cmpi .slt v1526 c0_i32_1581
  let c0_i32_1582 : BitVec 32 := 0#32
  let v1529 : BitVec 1 := Scalar.cmpi .slt v1525 c0_i32_1582
  let v1530 : BitVec 1 := Scalar.xori v1528 v1529
  let c0_i32_1580 : BitVec 32 := 0#32
  let v1527 : BitVec 1 := Scalar.cmpi .ne v1526 c0_i32_1580
  let v1531 : BitVec 1 := Scalar.andi v1530 v1527
  let v1532 : BitVec 32 := Scalar.addi v1526 v1525
  let v1533 : BitVec 32 := Scalar.select v1531 v1532 v1526
  ![1, 2, v1533.toNat]
def k0_off52 (d0 : Dev nD) (c1_i32_1576 : BitVec 32) : Fin 4 → Nat :=
  let c2_i32_1620 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1523 : BitVec 32 := Scalar.addi v29 c1_i32_1576
  let c4_i32_1577 : BitVec 32 := 4#32
  let c0_i32_1578 : BitVec 32 := 0#32
  let v1524 : BitVec 1 := Scalar.cmpi .eq c4_i32_1577 c0_i32_1578
  let c1_i32_1579 : BitVec 32 := 1#32
  let v1525 : BitVec 32 := Scalar.select v1524 c1_i32_1579 c4_i32_1577
  let v1526 : BitVec 32 := Scalar.remsi v1523 v1525
  let c0_i32_1581 : BitVec 32 := 0#32
  let v1528 : BitVec 1 := Scalar.cmpi .slt v1526 c0_i32_1581
  let c0_i32_1582 : BitVec 32 := 0#32
  let v1529 : BitVec 1 := Scalar.cmpi .slt v1525 c0_i32_1582
  let v1530 : BitVec 1 := Scalar.xori v1528 v1529
  let c0_i32_1580 : BitVec 32 := 0#32
  let v1527 : BitVec 1 := Scalar.cmpi .ne v1526 c0_i32_1580
  let v1531 : BitVec 1 := Scalar.andi v1530 v1527
  let v1532 : BitVec 32 := Scalar.addi v1526 v1525
  let v1533 : BitVec 32 := Scalar.select v1531 v1532 v1526
  let c32_i32_1627 : BitVec 32 := 32#32
  let c0_i32_1628 : BitVec 32 := 0#32
  ![2, v1533.toNat, 32, 0]
def k0_dev61 (d0 : Dev nD) : Nat :=
  let c0_i32_1626 : BitVec 32 := 0#32
  let c4_i32_1612 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1565 : BitVec 32 := Scalar.muli c4_i32_1612 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1613 : BitVec 32 := 2#32
  let v1566 : BitVec 32 := Scalar.addi v12 c2_i32_1613
  let c4_i32_1614 : BitVec 32 := 4#32
  let c0_i32_1615 : BitVec 32 := 0#32
  let v1567 : BitVec 1 := Scalar.cmpi .eq c4_i32_1614 c0_i32_1615
  let c1_i32_1616 : BitVec 32 := 1#32
  let v1568 : BitVec 32 := Scalar.select v1567 c1_i32_1616 c4_i32_1614
  let v1569 : BitVec 32 := Scalar.remsi v1566 v1568
  let c0_i32_1618 : BitVec 32 := 0#32
  let v1571 : BitVec 1 := Scalar.cmpi .slt v1569 c0_i32_1618
  let c0_i32_1619 : BitVec 32 := 0#32
  let v1572 : BitVec 1 := Scalar.cmpi .slt v1568 c0_i32_1619
  let v1573 : BitVec 1 := Scalar.xori v1571 v1572
  let c0_i32_1617 : BitVec 32 := 0#32
  let v1570 : BitVec 1 := Scalar.cmpi .ne v1569 c0_i32_1617
  let v1574 : BitVec 1 := Scalar.andi v1573 v1570
  let v1575 : BitVec 32 := Scalar.addi v1569 v1568
  let v1576 : BitVec 32 := Scalar.select v1574 v1575 v1569
  let v1577 : BitVec 32 := Scalar.addi v1565 v1576
  let c1_i32_1625 : BitVec 32 := 1#32
  let v1578 : BitVec 32 := Scalar.muli v1577 c1_i32_1625
  let v1579 : BitVec 32 := Scalar.addi c0_i32_1626 v1578
  v1579.toNat
def k0_off53 (d0 : Dev nD) (c1_i32_1576 : BitVec 32) : Fin 4 → Nat :=
  let c1_i32_1639 : BitVec 32 := 1#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1523 : BitVec 32 := Scalar.addi v29 c1_i32_1576
  let c4_i32_1577 : BitVec 32 := 4#32
  let c0_i32_1578 : BitVec 32 := 0#32
  let v1524 : BitVec 1 := Scalar.cmpi .eq c4_i32_1577 c0_i32_1578
  let c1_i32_1579 : BitVec 32 := 1#32
  let v1525 : BitVec 32 := Scalar.select v1524 c1_i32_1579 c4_i32_1577
  let v1526 : BitVec 32 := Scalar.remsi v1523 v1525
  let c0_i32_1581 : BitVec 32 := 0#32
  let v1528 : BitVec 1 := Scalar.cmpi .slt v1526 c0_i32_1581
  let c0_i32_1582 : BitVec 32 := 0#32
  let v1529 : BitVec 1 := Scalar.cmpi .slt v1525 c0_i32_1582
  let v1530 : BitVec 1 := Scalar.xori v1528 v1529
  let c0_i32_1580 : BitVec 32 := 0#32
  let v1527 : BitVec 1 := Scalar.cmpi .ne v1526 c0_i32_1580
  let v1531 : BitVec 1 := Scalar.andi v1530 v1527
  let v1532 : BitVec 32 := Scalar.addi v1526 v1525
  let v1533 : BitVec 32 := Scalar.select v1531 v1532 v1526
  let c32_i32_1646 : BitVec 32 := 32#32
  let c0_i32_1647 : BitVec 32 := 0#32
  ![1, v1533.toNat, 32, 0]
def k0_dev62 (d0 : Dev nD) : Nat :=
  let c0_i32_1645 : BitVec 32 := 0#32
  let c4_i32_1631 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1588 : BitVec 32 := Scalar.muli c4_i32_1631 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_1632 : BitVec 32 := 3#32
  let v1589 : BitVec 32 := Scalar.addi v12 c3_i32_1632
  let c4_i32_1633 : BitVec 32 := 4#32
  let c0_i32_1634 : BitVec 32 := 0#32
  let v1590 : BitVec 1 := Scalar.cmpi .eq c4_i32_1633 c0_i32_1634
  let c1_i32_1635 : BitVec 32 := 1#32
  let v1591 : BitVec 32 := Scalar.select v1590 c1_i32_1635 c4_i32_1633
  let v1592 : BitVec 32 := Scalar.remsi v1589 v1591
  let c0_i32_1637 : BitVec 32 := 0#32
  let v1594 : BitVec 1 := Scalar.cmpi .slt v1592 c0_i32_1637
  let c0_i32_1638 : BitVec 32 := 0#32
  let v1595 : BitVec 1 := Scalar.cmpi .slt v1591 c0_i32_1638
  let v1596 : BitVec 1 := Scalar.xori v1594 v1595
  let c0_i32_1636 : BitVec 32 := 0#32
  let v1593 : BitVec 1 := Scalar.cmpi .ne v1592 c0_i32_1636
  let v1597 : BitVec 1 := Scalar.andi v1596 v1593
  let v1598 : BitVec 32 := Scalar.addi v1592 v1591
  let v1599 : BitVec 32 := Scalar.select v1597 v1598 v1592
  let v1600 : BitVec 32 := Scalar.addi v1588 v1599
  let c1_i32_1644 : BitVec 32 := 1#32
  let v1601 : BitVec 32 := Scalar.muli v1600 c1_i32_1644
  let v1602 : BitVec 32 := Scalar.addi c0_i32_1645 v1601
  v1602.toNat
def k0_dev63 (d0 : Dev nD) : Nat :=
  let c0_i32_1681 : BitVec 32 := 0#32
  let c4_i32_1667 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1630 : BitVec 32 := Scalar.muli c4_i32_1667 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1668 : BitVec 32 := 1#32
  let v1631 : BitVec 32 := Scalar.addi v12 c1_i32_1668
  let c4_i32_1669 : BitVec 32 := 4#32
  let c0_i32_1670 : BitVec 32 := 0#32
  let v1632 : BitVec 1 := Scalar.cmpi .eq c4_i32_1669 c0_i32_1670
  let c1_i32_1671 : BitVec 32 := 1#32
  let v1633 : BitVec 32 := Scalar.select v1632 c1_i32_1671 c4_i32_1669
  let v1634 : BitVec 32 := Scalar.remsi v1631 v1633
  let c0_i32_1673 : BitVec 32 := 0#32
  let v1636 : BitVec 1 := Scalar.cmpi .slt v1634 c0_i32_1673
  let c0_i32_1674 : BitVec 32 := 0#32
  let v1637 : BitVec 1 := Scalar.cmpi .slt v1633 c0_i32_1674
  let v1638 : BitVec 1 := Scalar.xori v1636 v1637
  let c0_i32_1672 : BitVec 32 := 0#32
  let v1635 : BitVec 1 := Scalar.cmpi .ne v1634 c0_i32_1672
  let v1639 : BitVec 1 := Scalar.andi v1638 v1635
  let v1640 : BitVec 32 := Scalar.addi v1634 v1633
  let v1641 : BitVec 32 := Scalar.select v1639 v1640 v1634
  let v1642 : BitVec 32 := Scalar.addi v1630 v1641
  let c1_i32_1680 : BitVec 32 := 1#32
  let v1643 : BitVec 32 := Scalar.muli v1642 c1_i32_1680
  let v1644 : BitVec 32 := Scalar.addi c0_i32_1681 v1643
  v1644.toNat
def k0_dev64 (d0 : Dev nD) : Nat :=
  let c0_i32_1700 : BitVec 32 := 0#32
  let c4_i32_1686 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1653 : BitVec 32 := Scalar.muli c4_i32_1686 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1687 : BitVec 32 := 2#32
  let v1654 : BitVec 32 := Scalar.addi v12 c2_i32_1687
  let c4_i32_1688 : BitVec 32 := 4#32
  let c0_i32_1689 : BitVec 32 := 0#32
  let v1655 : BitVec 1 := Scalar.cmpi .eq c4_i32_1688 c0_i32_1689
  let c1_i32_1690 : BitVec 32 := 1#32
  let v1656 : BitVec 32 := Scalar.select v1655 c1_i32_1690 c4_i32_1688
  let v1657 : BitVec 32 := Scalar.remsi v1654 v1656
  let c0_i32_1692 : BitVec 32 := 0#32
  let v1659 : BitVec 1 := Scalar.cmpi .slt v1657 c0_i32_1692
  let c0_i32_1693 : BitVec 32 := 0#32
  let v1660 : BitVec 1 := Scalar.cmpi .slt v1656 c0_i32_1693
  let v1661 : BitVec 1 := Scalar.xori v1659 v1660
  let c0_i32_1691 : BitVec 32 := 0#32
  let v1658 : BitVec 1 := Scalar.cmpi .ne v1657 c0_i32_1691
  let v1662 : BitVec 1 := Scalar.andi v1661 v1658
  let v1663 : BitVec 32 := Scalar.addi v1657 v1656
  let v1664 : BitVec 32 := Scalar.select v1662 v1663 v1657
  let v1665 : BitVec 32 := Scalar.addi v1653 v1664
  let c1_i32_1699 : BitVec 32 := 1#32
  let v1666 : BitVec 32 := Scalar.muli v1665 c1_i32_1699
  let v1667 : BitVec 32 := Scalar.addi c0_i32_1700 v1666
  v1667.toNat
def k0_dev65 (d0 : Dev nD) : Nat :=
  let c0_i32_1719 : BitVec 32 := 0#32
  let c4_i32_1705 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1676 : BitVec 32 := Scalar.muli c4_i32_1705 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_1706 : BitVec 32 := 3#32
  let v1677 : BitVec 32 := Scalar.addi v12 c3_i32_1706
  let c4_i32_1707 : BitVec 32 := 4#32
  let c0_i32_1708 : BitVec 32 := 0#32
  let v1678 : BitVec 1 := Scalar.cmpi .eq c4_i32_1707 c0_i32_1708
  let c1_i32_1709 : BitVec 32 := 1#32
  let v1679 : BitVec 32 := Scalar.select v1678 c1_i32_1709 c4_i32_1707
  let v1680 : BitVec 32 := Scalar.remsi v1677 v1679
  let c0_i32_1711 : BitVec 32 := 0#32
  let v1682 : BitVec 1 := Scalar.cmpi .slt v1680 c0_i32_1711
  let c0_i32_1712 : BitVec 32 := 0#32
  let v1683 : BitVec 1 := Scalar.cmpi .slt v1679 c0_i32_1712
  let v1684 : BitVec 1 := Scalar.xori v1682 v1683
  let c0_i32_1710 : BitVec 32 := 0#32
  let v1681 : BitVec 1 := Scalar.cmpi .ne v1680 c0_i32_1710
  let v1685 : BitVec 1 := Scalar.andi v1684 v1681
  let v1686 : BitVec 32 := Scalar.addi v1680 v1679
  let v1687 : BitVec 32 := Scalar.select v1685 v1686 v1680
  let v1688 : BitVec 32 := Scalar.addi v1676 v1687
  let c1_i32_1718 : BitVec 32 := 1#32
  let v1689 : BitVec 32 := Scalar.muli v1688 c1_i32_1718
  let v1690 : BitVec 32 := Scalar.addi c0_i32_1719 v1689
  v1690.toNat
def k0_dev66 (d0 : Dev nD) : Nat :=
  let c0_i32_1755 : BitVec 32 := 0#32
  let c4_i32_1741 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1718 : BitVec 32 := Scalar.muli c4_i32_1741 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c1_i32_1742 : BitVec 32 := 1#32
  let v1719 : BitVec 32 := Scalar.addi v12 c1_i32_1742
  let c4_i32_1743 : BitVec 32 := 4#32
  let c0_i32_1744 : BitVec 32 := 0#32
  let v1720 : BitVec 1 := Scalar.cmpi .eq c4_i32_1743 c0_i32_1744
  let c1_i32_1745 : BitVec 32 := 1#32
  let v1721 : BitVec 32 := Scalar.select v1720 c1_i32_1745 c4_i32_1743
  let v1722 : BitVec 32 := Scalar.remsi v1719 v1721
  let c0_i32_1747 : BitVec 32 := 0#32
  let v1724 : BitVec 1 := Scalar.cmpi .slt v1722 c0_i32_1747
  let c0_i32_1748 : BitVec 32 := 0#32
  let v1725 : BitVec 1 := Scalar.cmpi .slt v1721 c0_i32_1748
  let v1726 : BitVec 1 := Scalar.xori v1724 v1725
  let c0_i32_1746 : BitVec 32 := 0#32
  let v1723 : BitVec 1 := Scalar.cmpi .ne v1722 c0_i32_1746
  let v1727 : BitVec 1 := Scalar.andi v1726 v1723
  let v1728 : BitVec 32 := Scalar.addi v1722 v1721
  let v1729 : BitVec 32 := Scalar.select v1727 v1728 v1722
  let v1730 : BitVec 32 := Scalar.addi v1718 v1729
  let c1_i32_1754 : BitVec 32 := 1#32
  let v1731 : BitVec 32 := Scalar.muli v1730 c1_i32_1754
  let v1732 : BitVec 32 := Scalar.addi c0_i32_1755 v1731
  v1732.toNat
def k0_dev67 (d0 : Dev nD) : Nat :=
  let c0_i32_1774 : BitVec 32 := 0#32
  let c4_i32_1760 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1741 : BitVec 32 := Scalar.muli c4_i32_1760 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c2_i32_1761 : BitVec 32 := 2#32
  let v1742 : BitVec 32 := Scalar.addi v12 c2_i32_1761
  let c4_i32_1762 : BitVec 32 := 4#32
  let c0_i32_1763 : BitVec 32 := 0#32
  let v1743 : BitVec 1 := Scalar.cmpi .eq c4_i32_1762 c0_i32_1763
  let c1_i32_1764 : BitVec 32 := 1#32
  let v1744 : BitVec 32 := Scalar.select v1743 c1_i32_1764 c4_i32_1762
  let v1745 : BitVec 32 := Scalar.remsi v1742 v1744
  let c0_i32_1766 : BitVec 32 := 0#32
  let v1747 : BitVec 1 := Scalar.cmpi .slt v1745 c0_i32_1766
  let c0_i32_1767 : BitVec 32 := 0#32
  let v1748 : BitVec 1 := Scalar.cmpi .slt v1744 c0_i32_1767
  let v1749 : BitVec 1 := Scalar.xori v1747 v1748
  let c0_i32_1765 : BitVec 32 := 0#32
  let v1746 : BitVec 1 := Scalar.cmpi .ne v1745 c0_i32_1765
  let v1750 : BitVec 1 := Scalar.andi v1749 v1746
  let v1751 : BitVec 32 := Scalar.addi v1745 v1744
  let v1752 : BitVec 32 := Scalar.select v1750 v1751 v1745
  let v1753 : BitVec 32 := Scalar.addi v1741 v1752
  let c1_i32_1773 : BitVec 32 := 1#32
  let v1754 : BitVec 32 := Scalar.muli v1753 c1_i32_1773
  let v1755 : BitVec 32 := Scalar.addi c0_i32_1774 v1754
  v1755.toNat
def k0_dev68 (d0 : Dev nD) : Nat :=
  let c0_i32_1793 : BitVec 32 := 0#32
  let c4_i32_1779 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v14 : BitVec 1 := Scalar.cmpi .sgt v2 c0_i32_5
  let v15 : BitVec 32 := Scalar.extui v14
  let c0_i32_6 : BitVec 32 := 0#32
  let v16 : BitVec 1 := Scalar.cmpi .slt v2 c0_i32_6
  let v17 : BitVec 32 := Scalar.extui v16
  let v18 : BitVec 32 := Scalar.subi v15 v17
  let c4_i32_4 : BitVec 32 := 4#32
  let c0_i32_7 : BitVec 32 := 0#32
  let v19 : BitVec 1 := Scalar.cmpi .sgt c4_i32_4 c0_i32_7
  let v20 : BitVec 32 := Scalar.extui v19
  let c0_i32_8 : BitVec 32 := 0#32
  let v21 : BitVec 1 := Scalar.cmpi .slt c4_i32_4 c0_i32_8
  let v22 : BitVec 32 := Scalar.extui v21
  let v23 : BitVec 32 := Scalar.subi v20 v22
  let v24 : BitVec 1 := Scalar.cmpi .ne v18 v23
  let v25 : BitVec 32 := Scalar.remsi v2 c4_i32_4
  let c0_i32_9 : BitVec 32 := 0#32
  let v26 : BitVec 1 := Scalar.cmpi .ne v25 c0_i32_9
  let v27 : BitVec 1 := Scalar.andi v24 v26
  let v13 : BitVec 32 := Scalar.divsi v2 c4_i32_4
  let c1_i32_10 : BitVec 32 := 1#32
  let v28 : BitVec 32 := Scalar.subi v13 c1_i32_10
  let v29 : BitVec 32 := Scalar.select v27 v28 v13
  let v1764 : BitVec 32 := Scalar.muli c4_i32_1779 v29
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c3_i32_1780 : BitVec 32 := 3#32
  let v1765 : BitVec 32 := Scalar.addi v12 c3_i32_1780
  let c4_i32_1781 : BitVec 32 := 4#32
  let c0_i32_1782 : BitVec 32 := 0#32
  let v1766 : BitVec 1 := Scalar.cmpi .eq c4_i32_1781 c0_i32_1782
  let c1_i32_1783 : BitVec 32 := 1#32
  let v1767 : BitVec 32 := Scalar.select v1766 c1_i32_1783 c4_i32_1781
  let v1768 : BitVec 32 := Scalar.remsi v1765 v1767
  let c0_i32_1785 : BitVec 32 := 0#32
  let v1770 : BitVec 1 := Scalar.cmpi .slt v1768 c0_i32_1785
  let c0_i32_1786 : BitVec 32 := 0#32
  let v1771 : BitVec 1 := Scalar.cmpi .slt v1767 c0_i32_1786
  let v1772 : BitVec 1 := Scalar.xori v1770 v1771
  let c0_i32_1784 : BitVec 32 := 0#32
  let v1769 : BitVec 1 := Scalar.cmpi .ne v1768 c0_i32_1784
  let v1773 : BitVec 1 := Scalar.andi v1772 v1769
  let v1774 : BitVec 32 := Scalar.addi v1768 v1767
  let v1775 : BitVec 32 := Scalar.select v1773 v1774 v1768
  let v1776 : BitVec 32 := Scalar.addi v1764 v1775
  let c1_i32_1792 : BitVec 32 := 1#32
  let v1777 : BitVec 32 := Scalar.muli v1776 c1_i32_1792
  let v1778 : BitVec 32 := Scalar.addi c0_i32_1793 v1777
  v1778.toNat
def k0_off54 (d0 : Dev nD) (c0_i32_1824 : BitVec 32) (c1_i32_1817 : BitVec 32) (c0_i32_1826 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v1797 : BitVec 32 := Scalar.addi v12 c1_i32_1817
  let c4_i32_1818 : BitVec 32 := 4#32
  let c0_i32_1819 : BitVec 32 := 0#32
  let v1798 : BitVec 1 := Scalar.cmpi .eq c4_i32_1818 c0_i32_1819
  let c1_i32_1820 : BitVec 32 := 1#32
  let v1799 : BitVec 32 := Scalar.select v1798 c1_i32_1820 c4_i32_1818
  let v1800 : BitVec 32 := Scalar.remsi v1797 v1799
  let c0_i32_1822 : BitVec 32 := 0#32
  let v1802 : BitVec 1 := Scalar.cmpi .slt v1800 c0_i32_1822
  let c0_i32_1823 : BitVec 32 := 0#32
  let v1803 : BitVec 1 := Scalar.cmpi .slt v1799 c0_i32_1823
  let v1804 : BitVec 1 := Scalar.xori v1802 v1803
  let c0_i32_1821 : BitVec 32 := 0#32
  let v1801 : BitVec 1 := Scalar.cmpi .ne v1800 c0_i32_1821
  let v1805 : BitVec 1 := Scalar.andi v1804 v1801
  let v1806 : BitVec 32 := Scalar.addi v1800 v1799
  let v1807 : BitVec 32 := Scalar.select v1805 v1806 v1800
  let v1808 : BitVec 32 := Scalar.addi c0_i32_1824 v1807
  let c64_i32_1825 : BitVec 32 := 64#32
  let v1809 : BitVec 32 := Scalar.muli v1808 c64_i32_1825
  let v1810 : BitVec 32 := Scalar.addi v1809 c0_i32_1826
  let v1811 : Index := Scalar.indexCast v1810
  let c0_1827 : Index := 0#32
  ![v1811.toNat, 0]
def k0_off55 (d0 : Dev nD) (c0_i32_2161 : BitVec 32) (c0_i32_2163 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let c0_i32 : BitVec 32 := 0#32
  let v3 : BitVec 1 := Scalar.cmpi .eq c4_i32 c0_i32
  let c1_i32_0 : BitVec 32 := 1#32
  let v4 : BitVec 32 := Scalar.select v3 c1_i32_0 c4_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let v2101 : BitVec 32 := Scalar.addi c0_i32_2161 v12
  let c64_i32_2162 : BitVec 32 := 64#32
  let v2102 : BitVec 32 := Scalar.muli v2101 c64_i32_2162
  let v2103 : BitVec 32 := Scalar.addi v2102 c0_i32_2163
  let v2104 : Index := Scalar.indexCast v2103
  let c0_2164 : Index := 0#32
  ![v2104.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S16x1024x1024 : Shape := ⟨3, ![16, 1024, 1024]⟩
abbrev S_ : Shape := ⟨0, ![]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S16x1024x1024, .bf16⟩
  | .hbm, ⟨1, _⟩ => ⟨S16x1024x1024, .f32⟩
  | .hbm, ⟨2, _⟩ => ⟨S_, .f32⟩
  | .hbm, ⟨3, _⟩ => ⟨S1024x1024, .f32⟩
  | .hbm, ⟨4, _⟩ => ⟨S1024x1024, .bf16⟩
  | _, _ => ⟨S16x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Rounds
public import Idealize.ShloMosaic.Lib.Transfers
public import Idealize.ShloMosaic.Lib.Tactic

@[expose] public section

/-!
# The mesh, the transfers and the slabs of the all-reduce

Sixteen devices are read as four planes of four: device `4 z + w` sits in plane
`z` at place `w`.  The kernel moves 80 families of slabs (32 rows of 1024
numbers each) in four phases:

* `A h j zp`: a row block scattered inside the plane, to the device `j` places on;
* `B h zp`: a partial sum sent to the plane `zp`;
* `C h j`: a finished block sent to the plane `j` planes on;
* `D h j zs`: a finished block of slot `zs` sent to the device `j` places on.

`h` is the half of a row block.  This file gives every transfer its devices,
its semaphores, its source slab, its destination slab, and the place it has in
the order of the program.
-/

namespace Cert.AllReduce

open Idealize.ShloMosaic Idealize.ShloMosaic.TcCoe
open Cert.KernelIdeal Cert.KernelIdeal.Gen

/-! ## Devices -/

/-- The plane of a device. -/
abbrev cz (c : Dev nD) : Fin 4 := ⟨c.val / 4, by have h : c.val < 16 := c.isLt; omega⟩

/-- The place of a device in its plane. -/
abbrev cw (c : Dev nD) : Fin 4 := ⟨c.val % 4, Nat.mod_lt _ (by decide)⟩

/-- The device of a plane and a place. -/
abbrev dev (z w : Fin 4) : Dev nD := ⟨4 * z.val + w.val, by
  have h : 4 * z.val + w.val < 16 := by omega
  exact h⟩

/-- The plane of the device of a plane and a place. -/
theorem cz_dev (z w : Fin 4) : cz (dev z w) = z := by
  apply Fin.ext; show (4 * z.val + w.val) / 4 = z.val; omega

/-- The place of the device of a plane and a place. -/
theorem cw_dev (z w : Fin 4) : cw (dev z w) = w := by
  apply Fin.ext; show (4 * z.val + w.val) % 4 = w.val; omega

/-- A device is the device of its plane and its place. -/
theorem dev_eta (c : Dev nD) : dev (cz c) (cw c) = c := by
  apply Fin.ext; show 4 * (c.val / 4) + c.val % 4 = c.val; omega

/-- A property of every device holds of one. -/
theorem of_forall_dev {p : Dev nD → Prop} (h : ∀ c, p c) (c : Dev nD) : p c := h c

/-! ## Arithmetic of coordinates -/

/-- Going `b` on round four and back. -/
theorem f4_add_neg : ∀ a b : Fin 4, a + b + -b = a := by decide
/-- Turning back twice, round four. -/
theorem f4_neg_neg : ∀ a : Fin 4, - -a = a := by decide
/-- Going from `a` to `b`, round four. -/
theorem f4_add_sub : ∀ a b : Fin 4, a + (b - a) = b := by decide
/-- How far `a + b` is on from `a`, round four. -/
theorem f4_add_sub_left : ∀ a b : Fin 4, a + b - a = b := by decide
/-- Nothing is no distance from itself, round four. -/
theorem f4_sub_self : ∀ a : Fin 4, a - a = 0 := by decide
/-- Only no distance turned back is none. -/
theorem f4_neg_eq : ∀ a : Fin 4, -a = 0 ↔ a = 0 := by decide
/-- Only equal places are no distance apart. -/
theorem f4_sub_eq : ∀ a b : Fin 4, a - b = 0 ↔ b = a := by decide
/-- Only no distance on is the same place. -/
theorem f4_eq_add : ∀ a b : Fin 4, a = a + b ↔ b = 0 := by decide

/-! ## Transfers -/

/-- Half, distance and plane. -/
abbrev I3 := Fin 2 × Fin 4 × Fin 4
/-- Half and plane, or half and distance. -/
abbrev I2 := Fin 2 × Fin 4

/-- The transfers of one device: phases A, B, C, D. -/
abbrev Tr := I3 ⊕ (I2 ⊕ (I2 ⊕ I3))

/-- The transfer, inside a plane, of the argument's half row block for plane `zp`. -/
@[match_pattern] abbrev tA (h : Fin 2) (j zp : Fin 4) : Tr := .inl (h, j, zp)
/-- The transfer, across planes, of a plane's sum to plane `zp`. -/
@[match_pattern] abbrev tB (h : Fin 2) (zp : Fin 4) : Tr := .inr (.inl (h, zp))
/-- The transfer, across planes, of the finished half row block, `j` planes on. -/
@[match_pattern] abbrev tC (h : Fin 2) (j : Fin 4) : Tr := .inr (.inr (.inl (h, j)))
/-- The transfer, inside a plane, of the finished half row block of plane `zs`. -/
@[match_pattern] abbrev tD (h : Fin 2) (j zs : Fin 4) : Tr := .inr (.inr (.inr (h, j, zs)))

/-- The device a transfer of `c` goes to. -/
def tgt (c : Dev nD) : Tr → Dev nD
  | tA h j zp => dev (cz c) (cw c + j)
  | tB h zp => dev zp (cw c)
  | tC h j => dev (cz c + j) (cw c)
  | tD h j zs => dev (cz c) (cw c + j)

/-- The name a transfer of `c` has at its receiver. -/
def rix (c : Dev nD) : Tr → Tr
  | tA h j zp => tA h (-j) zp
  | tB h zp => tB h (cz c - zp)
  | tC h j => tC h (cz c)
  | tD h j zs => tD h (-j) zs

/-- The device a transfer received by `c` comes from. -/
def org (c : Dev nD) : Tr → Dev nD
  | tA h o zp => dev (cz c) (cw c + o)
  | tB h o => dev (cz c + o) (cw c)
  | tC h zs => dev zs (cw c)
  | tD h o zs => dev (cz c) (cw c + o)

/-- The name a transfer received by `c` has at its sender. -/
def six (c : Dev nD) : Tr → Tr
  | tA h o zp => tA h (-o) zp
  | tB h o => tB h (cz c)
  | tC h zs => tC h (cz c - zs)
  | tD h o zs => tD h (-o) zs

/-- Sending and receiving pair the transfers of all devices. -/
def mate : Dev nD × Tr ≃ Dev nD × Tr where
  toFun p := (tgt p.1 p.2, rix p.1 p.2)
  invFun p := (org p.1 p.2, six p.1 p.2)
  left_inv := by
    rintro ⟨c, ⟨h, j, zp⟩ | ⟨h, zp⟩ | ⟨h, j⟩ | ⟨h, j, zs⟩⟩ <;>
      simp only [tgt, rix, org, six, cz_dev, cw_dev, f4_neg_neg, f4_add_neg, f4_add_sub,
        f4_add_sub_left, dev_eta]
  right_inv := by
    rintro ⟨c, ⟨h, j, zp⟩ | ⟨h, zp⟩ | ⟨h, j⟩ | ⟨h, j, zs⟩⟩ <;>
      simp only [tgt, rix, org, six, cz_dev, cw_dev, f4_neg_neg, f4_add_neg, f4_add_sub,
        f4_add_sub_left, dev_eta]

/-- The transfers `c` makes: those that leave the device. -/
def live (c : Dev nD) : Tr → Bool
  | tA h j zp => j ≠ 0
  | tB h zp => zp ≠ cz c
  | tC h j => j ≠ 0
  | tD h j zs => j ≠ 0

/-- The transfers `c` receives. -/
def rlive (c : Dev nD) : Tr → Bool
  | tA h o zp => o ≠ 0
  | tB h o => o ≠ 0
  | tC h zs => zs ≠ cz c
  | tD h o zs => o ≠ 0

/-- A transfer is made exactly when it is received. -/
theorem rlive_mate (c : Dev nD) (t : Tr) : rlive (tgt c t) (rix c t) = live c t := by
  rcases t with ⟨h, j, zp⟩ | ⟨h, zp⟩ | ⟨h, j⟩ | ⟨h, j, zs⟩ <;>
    simp only [tgt, rix, live, rlive, cz_dev, ne_eq, f4_neg_eq, f4_sub_eq, f4_eq_add]

/-! ## The order of the program -/

/-- The place of a transfer among the sends of a device of plane `z`. -/
def sPos (z : Fin 4) : Tr → ℕ
  | tA h j zp => 12 * h.val + 4 * (j.val - 1) + zp.val
  | tB h zp => 24 + 10 * h.val + zp.val
  | tC h j => 28 + 19 * h.val + (j.val - 1)
  | tD h j zs => if zs = z then 31 + 19 * h.val + (j.val - 1)
      else 38 + 15 * h.val + 3 * ((zs - z).val - 1) + (j.val - 1)

/-- The place of a transfer among the receive waits of a device of plane `z`. -/
def rPos (z : Fin 4) : Tr → ℕ
  | tA h o zp => 15 * h.val + 3 * zp.val + (o.val - 1)
  | tB h o => 12 + 18 * h.val + (o.val - 1)
  | tC h zs => 27 + 6 * h.val + ((zs - z).val - 1)
  | tD h o zs => 36 + 12 * h.val + 4 * (o.val - 1) + zs.val

/-- The place of a transfer among the send waits of a device. -/
def wPos : Tr → ℕ
  | tA h j zp => 31 * h.val + 2 * (4 * (j.val - 1) + zp.val)
  | tB h zp => 31 * h.val + 24 + zp.val
  | tC h j => 31 * h.val + 28 + (j.val - 1)
  | tD h j zs => 31 * h.val + 2 * (4 * (j.val - 1) + zs.val) + 1

/-- A number as a coordinate. -/
abbrev f4 (n : ℕ) : Fin 4 := ⟨n % 4, Nat.mod_lt _ (by decide)⟩

/-- The transfer at a place of the send order. -/
def sAt (z : Fin 4) (n : ℕ) : Tr :=
  if n < 12 then tA 0 (f4 (n / 4 + 1)) (f4 n)
  else if n < 24 then tA 1 (f4 (n / 4 - 2)) (f4 n)
  else if n < 28 then tB 0 (f4 n)
  else if n < 31 then tC 0 (f4 (n - 27))
  else if n < 34 then tD 0 (f4 (n - 30)) z
  else if n < 38 then tB 1 (f4 (n - 34))
  else if n < 47 then tD 0 (f4 ((n - 38) % 3 + 1)) (z + f4 ((n - 38) / 3 + 1))
  else if n < 50 then tC 1 (f4 (n - 46))
  else if n < 53 then tD 1 (f4 (n - 49)) z
  else tD 1 (f4 ((n - 53) % 3 + 1)) (z + f4 ((n - 53) / 3 + 1))

/-- The transfer at a place of the order of the receive waits. -/
def rAt (z : Fin 4) (n : ℕ) : Tr :=
  if n < 12 then tA 0 (f4 (n % 3 + 1)) (f4 (n / 3))
  else if n < 15 then tB 0 (f4 (n - 11))
  else if n < 27 then tA 1 (f4 (n % 3 + 1)) (f4 ((n - 15) / 3))
  else if n < 30 then tC 0 (z + f4 (n - 26))
  else if n < 33 then tB 1 (f4 (n - 29))
  else if n < 36 then tC 1 (z + f4 (n - 32))
  else if n < 48 then tD 0 (f4 ((n - 36) / 4 + 1)) (f4 n)
  else tD 1 (f4 ((n - 48) / 4 + 1)) (f4 n)

/-- The transfer at a place of the order of the send waits. -/
def wAt (n : ℕ) : Tr :=
  let h : Fin 2 := if n < 31 then 0 else 1
  let k := n - 31 * h.val
  if k < 24 then
    (if k % 2 = 0 then tA h (f4 (k / 8 + 1)) (f4 (k / 2)) else tD h (f4 (k / 8 + 1)) (f4 (k / 2)))
  else if k < 28 then tB h (f4 (k - 24))
  else tC h (f4 (k - 27))

/-- The transfer at the place of a transfer in the send order. -/
theorem sAt_sPos : ∀ (c : Dev nD) (t : Tr), live c t = true → sAt (cz c) (sPos (cz c) t) = t := by
  decide +kernel

/-- The transfer at the place of a transfer in the order of receive waits. -/
theorem rAt_rPos : ∀ (c : Dev nD) (t : Tr), rlive c t = true → rAt (cz c) (rPos (cz c) t) = t := by
  decide +kernel

/-- The transfer at the place of a transfer in the order of send waits. -/
theorem wAt_wPos : ∀ (c : Dev nD) (t : Tr), live c t = true → wAt (wPos t) = t := by
  decide +kernel

/-! ## Semaphores -/

/-- The semaphore a transfer raises at its sender. -/
def semS : Tr → DmaSem sig
  | tA h j zp => (⟨2 + 16 * h.val + 4 * j.val + zp.val, by omega⟩ : Fin 162)
  | tB h zp => (⟨66 + 4 * h.val + zp.val, by omega⟩ : Fin 162)
  | tC h j => (⟨82 + 4 * h.val + j.val, by omega⟩ : Fin 162)
  | tD h j zs => (⟨98 + 16 * h.val + 4 * j.val + zs.val, by omega⟩ : Fin 162)

/-- The semaphore a transfer raises at its receiver. -/
def semR : Tr → DmaSem sig
  | tA h o zp => (⟨34 + 16 * h.val + 4 * o.val + zp.val, by omega⟩ : Fin 162)
  | tB h o => (⟨74 + 4 * h.val + o.val, by omega⟩ : Fin 162)
  | tC h zs => (⟨90 + 4 * h.val + zs.val, by omega⟩ : Fin 162)
  | tD h o zs => (⟨130 + 16 * h.val + 4 * o.val + zs.val, by omega⟩ : Fin 162)

/-- The semaphore of a transfer, on its sender's or on its receiver's side. -/
def semT : Tr ⊕ Tr → DmaSem sig
  | .inl t => semS t
  | .inr t => semR t

/-- The side and the transfer a semaphore serves. -/
def unsemT (n : ℕ) : Tr ⊕ Tr :=
  let f2 (n : ℕ) : Fin 2 := ⟨n % 2, Nat.mod_lt _ (by decide)⟩
  if n < 34 then .inl (tA (f2 ((n - 2) / 16)) (f4 ((n - 2) / 4)) (f4 (n - 2)))
  else if n < 66 then .inr (tA (f2 ((n - 34) / 16)) (f4 ((n - 34) / 4)) (f4 (n - 34)))
  else if n < 74 then .inl (tB (f2 ((n - 66) / 4)) (f4 (n - 66)))
  else if n < 82 then .inr (tB (f2 ((n - 74) / 4)) (f4 (n - 74)))
  else if n < 90 then .inl (tC (f2 ((n - 82) / 4)) (f4 (n - 82)))
  else if n < 98 then .inr (tC (f2 ((n - 90) / 4)) (f4 (n - 90)))
  else if n < 130 then .inl (tD (f2 ((n - 98) / 16)) (f4 ((n - 98) / 4)) (f4 (n - 98)))
  else .inr (tD (f2 ((n - 130) / 16)) (f4 ((n - 130) / 4)) (f4 (n - 130)))

/-- Equality is decided. -/
instance : DecidableEq Tr := inferInstance
/-- Equality is decided. -/
instance : DecidableEq (Tr ⊕ Tr) := instDecidableEqSum

/-- A semaphore number leads back to its transfer. -/
theorem unsemT_semT : ∀ k : Tr ⊕ Tr, unsemT (semT k : Fin 162).val = k
  | .inl t => by revert t; decide +kernel
  | .inr t => by revert t; decide +kernel

/-- Different transfers have different semaphores. -/
theorem semT_injective : Function.Injective semT := fun a b h => by
  rw [← unsemT_semT a, ← unsemT_semT b, h]

/-! ## Slabs -/

/-- The argument as sixteen row blocks. -/
abbrev stB : Memref sig .tc .vmem S16x64x1024 .bf16 := Memref.whole cc0_scratch0
/-- What the plane's other devices send of their arguments. -/
abbrev p1B : Memref sig .tc .vmem S4x4x64x1024 .bf16 := Memref.whole cc0_scratch1
/-- The plane's sums, wide. -/
abbrev cuB : Memref sig .tc .vmem S4x64x1024 .f32 := Memref.whole cc0_scratch2
/-- The plane's sums, narrow, as they are sent. -/
abbrev csB : Memref sig .tc .vmem S4x64x1024 .bf16 := Memref.whole cc0_scratch3
/-- What the other planes send of their sums. -/
abbrev p2B : Memref sig .tc .vmem S4x64x1024 .bf16 := Memref.whole cc0_scratch4
/-- The finished row blocks, own and of other planes. -/
abbrev cfB : Memref sig .tc .vmem S4x64x1024 .bf16 := Memref.whole cc0_scratch5
/-- What the plane's other devices send of the finished row blocks. -/
abbrev pgB : Memref sig .tc .vmem S4x4x64x1024 .bf16 := Memref.whole cc0_scratch6

/-- Where a slab begins in a buffer of row blocks. -/
abbrev o3 {n : ℕ} (b : Fin n) (h : Fin 2) : Fin 3 → ℕ := ![b.val, 32 * h.val, 0]
/-- Where a slab begins in a buffer of four times four row blocks. -/
abbrev o4 (j z : Fin 4) (h : Fin 2) : Fin 4 → ℕ := ![j.val, z.val, 32 * h.val, 0]

/-- A slab is inside a buffer of sixteen row blocks. -/
theorem inb16 (b : Fin 16) (h : Fin 2) : ∀ a, o3 b h a + S1x32x1024.size a ≤ S16x64x1024.size a
  | ⟨0, _⟩ => show b.val + 1 ≤ 16 by omega
  | ⟨1, _⟩ => show 32 * h.val + 32 ≤ 64 by omega
  | ⟨2, _⟩ => show 0 + 1024 ≤ 1024 by omega

/-- A slab is inside a buffer of four row blocks. -/
theorem inb4 (b : Fin 4) (h : Fin 2) : ∀ a, o3 b h a + S1x32x1024.size a ≤ S4x64x1024.size a
  | ⟨0, _⟩ => show b.val + 1 ≤ 4 by omega
  | ⟨1, _⟩ => show 32 * h.val + 32 ≤ 64 by omega
  | ⟨2, _⟩ => show 0 + 1024 ≤ 1024 by omega

/-- A slab is inside a buffer of four times four row blocks. -/
theorem inb44 (j z : Fin 4) (h : Fin 2) : ∀ a, o4 j z h a + S1x1x32x1024.size a ≤ S4x4x64x1024.size a
  | ⟨0, _⟩ => show j.val + 1 ≤ 4 by omega
  | ⟨1, _⟩ => show z.val + 1 ≤ 4 by omega
  | ⟨2, _⟩ => show 32 * h.val + 32 ≤ 64 by omega
  | ⟨3, _⟩ => show 0 + 1024 ≤ 1024 by omega

/-- A slab of a buffer of sixteen row blocks. -/
def sl16 {e : EltTy} (M : Memref sig .tc .vmem S16x64x1024 e) (b : Fin 16) (h : Fin 2) :
    Memref sig .tc .vmem S32x1024 e :=
  (M.slice (Rect.unit (s := S16x64x1024) (o3 b h) S1x32x1024.size (inb16 b h)) (fun _ => rfl)).squeeze
    S32x1024 squeezes_S1x32x1024_S32x1024

/-- A slab of a buffer of four row blocks. -/
def sl4 {e : EltTy} (M : Memref sig .tc .vmem S4x64x1024 e) (b : Fin 4) (h : Fin 2) :
    Memref sig .tc .vmem S32x1024 e :=
  (M.slice (Rect.unit (s := S4x64x1024) (o3 b h) S1x32x1024.size (inb4 b h)) (fun _ => rfl)).squeeze
    S32x1024 squeezes_S1x32x1024_S32x1024

/-- A slab of a buffer of four times four row blocks. -/
def sl44 {e : EltTy} (M : Memref sig .tc .vmem S4x4x64x1024 e) (j z : Fin 4) (h : Fin 2) :
    Memref sig .tc .vmem S32x1024 e :=
  (M.slice (Rect.unit (s := S4x4x64x1024) (o4 j z h) S1x1x32x1024.size (inb44 j z h)) (fun _ => rfl)).squeeze
    S32x1024 squeezes_S1x1x32x1024_S32x1024

/-- The row block of a plane and a place. -/
abbrev blk (z w : Fin 4) : Fin 16 := ⟨4 * z.val + w.val, by omega⟩

/-- The slab a transfer of `c` reads. -/
def sM (c : Dev nD) : Tr → Memref sig .tc .vmem S32x1024 .bf16
  | tA h j zp => sl16 stB (blk zp (cw c + j)) h
  | tB h zp => sl4 csB zp h
  | tC h j => sl4 cfB (cz c) h
  | tD h j zs => sl4 cfB zs h

/-- The slab a transfer writes at its receiver, by the receiver's name of it. -/
def rM : Tr → Memref sig .tc .vmem S32x1024 .bf16
  | tA h o zp => sl44 p1B o zp h
  | tB h o => sl4 p2B o h
  | tC h zs => sl4 cfB zs h
  | tD h o zs => sl44 pgB o zs h

/-- What one transfer raises a semaphore by. -/
abbrev nB : ℕ := (sl4 csB 0 0).view.dmaCredit

/-- A transfer's source counts for one slab. -/
theorem credit_sM (c : Dev nD) (t : Tr) : (sM c t).view.dmaCredit = nB := by
  rcases t with ⟨h, j, zp⟩ | ⟨h, zp⟩ | ⟨h, j⟩ | ⟨h, j, zs⟩ <;> rfl

/-- A transfer's destination counts for one slab. -/
theorem credit_rM (t : Tr) : (rM t).view.dmaCredit = nB := by
  rcases t with ⟨h, j, zp⟩ | ⟨h, zp⟩ | ⟨h, j⟩ | ⟨h, j, zs⟩ <;> rfl

/-- A slab counts for something. -/
theorem nB_pos : 0 < nB := View.dmaCredit_pos _ (by decide)

/-! ### The program's own forms of slabs and semaphores -/

section Forms
variable {e : EltTy}

/-- A slab named by the place where it begins, among sixteen row blocks. -/
theorem sl16_of (M : Memref sig .tc .vmem S16x64x1024 e) {off : Fin 3 → ℕ} {hb} (b : Fin 16) (h : Fin 2)
    (ho : off = o3 b h) :
    (M.slice (Rect.unit (s := S16x64x1024) off S1x32x1024.size hb) (fun _ => rfl)).squeeze
      S32x1024 squeezes_S1x32x1024_S32x1024 = sl16 M b h := by subst ho; rfl

/-- A slab named by the place where it begins, among four row blocks. -/
theorem sl4_of (M : Memref sig .tc .vmem S4x64x1024 e) {off : Fin 3 → ℕ} {hb} (b : Fin 4) (h : Fin 2)
    (ho : off = o3 b h) :
    (M.slice (Rect.unit (s := S4x64x1024) off S1x32x1024.size hb) (fun _ => rfl)).squeeze
      S32x1024 squeezes_S1x32x1024_S32x1024 = sl4 M b h := by subst ho; rfl

/-- A slab named by the place where it begins, among four times four row blocks. -/
theorem sl44_of (M : Memref sig .tc .vmem S4x4x64x1024 e) {off : Fin 4 → ℕ} {hb} (j z : Fin 4) (h : Fin 2)
    (ho : off = o4 j z h) :
    (M.slice (Rect.unit (s := S4x4x64x1024) off S1x1x32x1024.size hb) (fun _ => rfl)).squeeze
      S32x1024 squeezes_S1x1x32x1024_S32x1024 = sl44 M j z h := by subst ho; rfl

end Forms

/-- An element of a block of four by four semaphores per half, as the program takes it. -/
theorem sem244_of (base : ℕ) (hn : base + S2x4x4.numel ≤ 162) {off : Fin 3 → ℕ} {hb} (h : Fin 2) (j z : Fin 4)
    (ho : off = ![h.val, j.val, z.val]) :
    ((((SemArray.consecutive (n := 162) base S2x4x4 hn).slice
      (Rect.unit (s := S2x4x4) off S1x1x1.size hb)).squeeze S_ squeezes_S1x1x1_S_).sem : Fin 162).val
      = base + 16 * h.val + 4 * j.val + z.val := by
  subst ho
  have hz : ∀ i : S1x1x1.Idx, ∀ a, (i a).val = 0 := by decide
  show base + (Shape.rowMajor S2x4x4 _).val = _
  rw [Shape.rowMajor_val_three]
  have e : ∀ (i : S1x1x1.Idx) a, (((Rect.unit (s := S2x4x4) ![h.val, j.val, z.val] S1x1x1.size hb).emb i) a).val
      = ![h.val, j.val, z.val] a := fun i a => by
    have := hz i a
    rw [Rect.emb_apply]; show _ + 1 * (i a).val = _; rw [this]; rfl
  erw [e, e, e]
  show base + ((h.val * 4 + j.val) * 4 + z.val) = _
  omega

/-- An element of a block of four semaphores per half, as the program takes it. -/
theorem sem24_of (base : ℕ) (hn : base + S2x4.numel ≤ 162) {off : Fin 2 → ℕ} {hb} (h : Fin 2) (j : Fin 4)
    (ho : off = ![h.val, j.val]) :
    ((((SemArray.consecutive (n := 162) base S2x4 hn).slice
      (Rect.unit (s := S2x4) off S1x1.size hb)).squeeze S_ squeezes_S1x1_S_).sem : Fin 162).val
      = base + 4 * h.val + j.val := by
  subst ho
  have hz : ∀ i : S1x1.Idx, ∀ a, (i a).val = 0 := by decide
  show base + (Shape.rowMajor S2x4 _).val = _
  rw [Shape.rowMajor_val_two]
  have e : ∀ (i : S1x1.Idx) a, (((Rect.unit (s := S2x4) ![h.val, j.val] S1x1.size hb).emb i) a).val
      = ![h.val, j.val] a := fun i a => by
    have := hz i a
    rw [Rect.emb_apply]; show _ + 1 * (i a).val = _; rw [this]; rfl
  erw [e, e]
  show base + (h.val * 4 + j.val) = _
  omega

end Cert.AllReduce
-- ==== Proof.Sched.lean ====
module

public import proofs.«01_k».proof.Proof.Mesh

@[expose] public section

/-!
# Contents, slabs held, and the schedule of the semaphores

What every slab holds after the step that fills it, as a function of the sixteen
arguments; the assertion that a device holds a slab; and, for every semaphore of
the mesh, what must land on it and what it hands over when it does.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline's part, and the all-reduce's with devices as duty names -/

/-- The ghost state of the semaphores' schedule. -/
abbrev UB : Type := URounds (GSem nD τ sig) (Dev nD)
/-- The ghost state of the whole proof. -/
abbrev UU : Type := UR sig nD τ × UB

local notation "𝕄" => MT nD τ sig Unit (Elt F) ℕ UU ℕ

/-- The pipeline's part of the ghost state. -/
abbrev EP : Emb (UR sig nD τ) (MT nD τ sig Unit (Elt F) ℕ UU ℕ) := embL
/-- The schedule's part of the ghost state. -/
abbrev ER : Emb UB (MT nD τ sig Unit (Elt F) ℕ UU ℕ) := embR

variable (m : (ℓ : Loc nD τ sig) → Buf (Elt F) ℓ)

/-! ## Contents -/

/-- A slab's contents. -/
abbrev Slab (F : FTy → Type) (e : EltTy) : Type := Vec F S32x1024 e

/-- The argument of a device, as the pipeline stages it. -/
def xstg (c : Dev nD) : (cc0_stg0_0 : Ref sig .tc).ty.Contents (Elt F) :=
  (win0_0.blk (0 : Fin 1)).view.read (Elt F) (m ((c : Thread nD τ).loc main_arg0))

/-- The argument of a device as sixteen row blocks. -/
def stC (c : Dev nD) : FVec F S16x64x1024 .bf16 := k0_pay1 (xstg m c)

/-- Half `h` of row block `b` of a device's argument. -/
def xV (c : Dev nD) (b : Fin 16) (h : Fin 2) : Slab F .bf16 := (sl16 stB b h).view.read (Elt F) (stC m c)

/-- A slab widened. -/
abbrev wide (v : Slab F .bf16) : FVec F S32x1024 .f32 := extf .f32 v bitsLt_bf16_f32

/-- A slab narrowed. -/
abbrev narrow (v : FVec F S32x1024 .f32) : Slab F .bf16 := truncf .bf16 v bitsLt_bf16_f32

/-- The sum, over a device's plane, of the row block of the device's place in plane `zp`. -/
def sumV (c : Dev nD) (zp : Fin 4) (h : Fin 2) : FVec F S32x1024 .f32 :=
  addf (addf (addf (wide (xV m c (blk zp (cw c)) h)) (wide (xV m (dev (cz c) (cw c + 1)) (blk zp (cw c)) h)))
    (wide (xV m (dev (cz c) (cw c + 2)) (blk zp (cw c)) h))) (wide (xV m (dev (cz c) (cw c + 3)) (blk zp (cw c)) h))

/-- That sum as it is sent to plane `zp`. -/
def cbV (c : Dev nD) (zp : Fin 4) (h : Fin 2) : Slab F .bf16 := narrow (sumV m c zp h)

/-- The sum over all planes of the device's own row block. -/
def finV (c : Dev nD) (h : Fin 2) : FVec F S32x1024 .f32 :=
  addf (addf (addf (sumV m c (cz c) h) (wide (cbV m (dev (cz c + 1) (cw c)) (cz c) h)))
    (wide (cbV m (dev (cz c + 2) (cw c)) (cz c) h))) (wide (cbV m (dev (cz c + 3) (cw c)) (cz c) h))

/-- The finished row block of a device. -/
def cfV (c : Dev nD) (h : Fin 2) : Slab F .bf16 := narrow (finV m c h)

/-- What a transfer leaves at its receiver. -/
def rV (c : Dev nD) : Tr → Slab F .bf16
  | tA h o zp => xV m (dev (cz c) (cw c + o)) (blk zp (cw c)) h
  | tB h o => cbV m (dev (cz c + o) (cw c)) (cz c) h
  | tC h zs => cfV m (dev zs (cw c)) h
  | tD h o zs => cfV m (dev zs (cw c + o)) h

/-- What a transfer takes at its sender. -/
def sV (c : Dev nD) : Tr → Slab F .bf16
  | tA h j zp => xV m c (blk zp (cw c + j)) h
  | tB h zp => cbV m c zp h
  | tC h j => cfV m c h
  | tD h j zs => cfV m (dev zs (cw c)) h

/-- A transfer leaves what it takes. -/
theorem rV_mate (c : Dev nD) (t : Tr) : rV m (tgt c t) (rix c t) = sV m c t := by
  rcases t with ⟨h, j, zp⟩ | ⟨h, zp⟩ | ⟨h, j⟩ | ⟨h, j, zs⟩ <;>
    simp only [rV, sV, tgt, rix, cz_dev, cw_dev, f4_add_neg, f4_add_sub, dev_eta]

/-! ## Slabs held -/

/-- Device `c` holds slab `M` at share `q`, with contents `v`. -/
def slab {e : EltTy} (c : Dev nD) (M : Memref sig .tc .vmem S32x1024 e) (q : PosShare TreeShare) (v : Slab F e) : sProp 𝕄 :=
  M.view.loc (c : Thread nD τ) ↦[M.view.set]{q}
    M.view.write (Elt F) (m (M.view.loc (c : Thread nD τ))) v Finset.univ

/-- Device `c` holds slab `M`, whatever is in it. -/
def anyslab {e : EltTy} (c : Dev nD) (M : Memref sig .tc .vmem S32x1024 e) : sProp 𝕄 :=
  iprop(∃ f, M.view.loc (c : Thread nD τ) ↦[M.view.set]{fullShare} f)

/-- A slab may be kept in an invariant. -/
instance slab_storable {e : EltTy} (c : Dev nD) (M : Memref sig .tc .vmem S32x1024 e) (q) (v : Slab F e) :
    BI.Storable (upEmb : UEmb _ 𝕄) (slab m c M q v) := by unfold slab; infer_instance

/-- A slab at any contents may be kept in an invariant. -/
instance anyslab_storable {e : EltTy} (c : Dev nD) (M : Memref sig .tc .vmem S32x1024 e) :
    BI.Storable (upEmb : UEmb _ 𝕄) (anyslab (F := F) c M) := by unfold anyslab; infer_instance

/-- A slab's elements at any contents are the slab holding what its view reads there. -/
theorem slab_of {e : EltTy} (c : Dev nD) (M : Memref sig .tc .vmem S32x1024 e) (q) (f : Buf (Elt F) (M.view.loc (c : Thread nD τ))) :
    (M.view.loc (c : Thread nD τ) ↦[M.view.set]{q} f : sProp 𝕄) = slab m c M q (M.view.read (Elt F) f) := by
  unfold slab
  refine pointsTo_congr fun i hi => ?_
  obtain ⟨x, -, rfl⟩ := Finset.mem_map.mp hi
  rw [View.write_emb_of_mem _ _ (Finset.mem_univ x), View.read_apply, cast_cast, cast_eq]

/-- A slab rewritten whole holds what was written. -/
theorem slab_write {e : EltTy} (c : Dev nD) (M : Memref sig .tc .vmem S32x1024 e) (q) (f : Buf (Elt F) (M.view.loc (c : Thread nD τ)))
    (v : Slab F e) :
    (M.view.loc (c : Thread nD τ) ↦[M.view.set]{q} M.view.write (Elt F) f v Finset.univ : sProp 𝕄) = slab m c M q v := by
  rw [slab_of m, View.read_write_univ]

/-- A slab is a slab at some contents. -/
theorem slab_any {e : EltTy} (c : Dev nD) (M : Memref sig .tc .vmem S32x1024 e) (v : Slab F e) :
    slab m c M fullShare v ⊢ anyslab c M := by
  unfold slab anyslab
  iintro H
  iexists _
  iexact H

/-- One part of a slab's share taken off. -/
theorem slab_share {e : EltTy} (c : Dev nD) (M : Memref sig .tc .vmem S32x1024 e) (q : PosShare TreeShare) (k : ℕ) (v : Slab F e) :
    slab m c M (Transfers.shareDrop q k) v
      ⊣⊢ iprop(slab m c M (Transfers.shareDrop q (k + 1)) v ∗ slab m c M (Transfers.shareTokN q k) v) := by
  unfold slab
  exact pointsTo_share (PosShare.mem_left_op_right _)

/-! ## Cells -/

/-- The barrier semaphore. -/
abbrev barS : Sem sig := (SemArray.scalar (sig.barrier 0 rfl) : Sems sig S_).sem

/-- The barrier semaphore of a device. -/
abbrev barCell (c : Dev nD) : GSem nD τ sig := ((c : Thread nD τ), .reg barS)
/-- The send semaphore of a transfer, at a device. -/
abbrev sCell (c : Dev nD) (t : Tr) : GSem nD τ sig := ((c : Thread nD τ), .dma (semS t))
/-- The receive semaphore of a transfer, at a device. -/
abbrev rCell (c : Dev nD) (t : Tr) : GSem nD τ sig := ((c : Thread nD τ), .dma (semR t))

/-- How many transfers have been taken off a slab of finished blocks when `s` sends are done. -/
def kq (z : Fin 4) (s : ℕ) (h : Fin 2) (zs : Fin 4) : ℕ :=
  if zs = z then min (s - (28 + 19 * h.val)) 6 else min (s - (38 + 15 * h.val + 3 * ((zs - z).val - 1))) 3

/-- The share of its source a transfer takes. -/
def sq (z : Fin 4) : Tr → PosShare TreeShare
  | tA h j zp => fullShare
  | tB h zp => fullShare
  | tC h j => Transfers.shareTokN fullShare (j.val - 1)
  | tD h j zs => Transfers.shareTokN fullShare (if zs = z then 3 + (j.val - 1) else j.val - 1)

/-- What a send semaphore hands back: the source. -/
def paySend (c : Dev nD) (t : Tr) : sProp 𝕄 := slab m c (sM c t) (sq (cz c) t) (sV m c t)

/-- What a receive semaphore hands over: the destination, filled. -/
def payRecv (c : Dev nD) (t : Tr) : sProp 𝕄 := slab m c (rM t) fullShare (rV m c t)

/-- What device `d` hands device `c` at the barrier: the slabs `c` will fill at `d`. -/
def payBar (c d : Dev nD) : sProp 𝕄 :=
  bigSep (Finset.univ.filter fun t : Tr => live c t = true ∧ tgt c t = d) fun t => anyslab (tgt c t) (rM (rix c t))

/-- The devices that signal `c` at the barrier: those of its plane and those of its place. -/
def peers (c : Dev nD) : Finset (Dev nD) :=
  Finset.univ.filter fun d => d ≠ c ∧ (cz d = cz c ∨ cw d = cw c)

/-- Whether a cell has anything to wait for. -/
def liveK (c : Dev nD) : Tr ⊕ Tr → Bool
  | .inl t => live c t
  | .inr t => rlive c t

/-- What a transfer's cell hands over. -/
def payK (c : Dev nD) : Tr ⊕ Tr → sProp 𝕄
  | .inl t => paySend m c t
  | .inr t => payRecv m c t

/-- The schedule: one round.  A barrier cell is owed one unit by each peer; the cell of a
    transfer that is made is owed the transfer's credit, under its own device's name. -/
def sched : Rounds.Schedule (GSem nD τ sig) (Dev nD) 𝕄 where
  duties g r := if r = 0 ∧ g.1.2 = .tc then
      (match g.2 with
      | .reg _ => peers g.1.1
      | .dma q => if liveK g.1.1 (unsemT (q : Fin 162).val) = true ∧ semT (unsemT (q : Fin 162).val) = q then {g.1.1} else ∅)
    else ∅
  unitless _ := False
  amount g _ _ := match g.2 with
    | .reg _ => 1
    | .dma _ => nB
  payload g _ d := match g.2 with
    | .reg _ => payBar g.1.1 d
    | .dma q => payK m g.1.1 (unsemT (q : Fin 162).val)
  amount_pos g _ _ _ := by
    rcases g with ⟨_, s | s⟩
    · exact Nat.one_pos
    · exact nB_pos

/-- What a semaphore hands over may be kept in an invariant. -/
instance sched_storable (g : GSem nD τ sig) (r : ℕ) (d : Dev nD) :
    BI.Storable (upEmb : UEmb _ 𝕄) ((sched (F := F) m).payload g r d) := by
  rcases g with ⟨c, s | s⟩
  · show BI.Storable upEmb (payBar c.1 d)
    unfold payBar; infer_instance
  · show BI.Storable upEmb (payK m c.1 (unsemT _))
    generalize unsemT _ = k
    rcases k with t | t
    · show BI.Storable upEmb (paySend m c.1 t)
      unfold paySend; infer_instance
    · show BI.Storable upEmb (payRecv m c.1 t)
      unfold payRecv; infer_instance

section Sched
variable (c d : Dev nD) (k : Tr ⊕ Tr) (t : Tr)

/-- The cell of a transfer on one side. -/
abbrev kCell (c : Dev nD) (k : Tr ⊕ Tr) : GSem nD τ sig := ((c : Thread nD τ), .dma (semT k))

/-- The barrier semaphore is signalled by the device's peers. -/
theorem duties_bar : (sched (F := F) m).duties (barCell c) 0 = peers c := by
  show (if 0 = 0 ∧ (c : Thread nD τ).2 = .tc then peers c else ∅) = peers c
  exact if_pos ⟨rfl, rfl⟩

/-- A semaphore of a transfer that takes place is signalled once. -/
theorem duties_k (h : liveK c k = true) : (sched (F := F) m).duties (kCell c k) 0 = {c} := by
  show (if 0 = 0 ∧ (c : Thread nD τ).2 = .tc then
    (if liveK c (unsemT (semT k : Fin 162).val) = true ∧ semT (unsemT (semT k : Fin 162).val) = semT k then {c} else ∅)
    else ∅) = ({c} : Finset (Dev nD))
  rw [if_pos ⟨rfl, rfl⟩, unsemT_semT]
  exact if_pos ⟨h, rfl⟩

/-- A semaphore of no transfer is never signalled. -/
theorem duties_dead (h : liveK c k = false) (r : ℕ) : (sched (F := F) m).duties (kCell c k) r = ∅ := by
  show (if r = 0 ∧ _ then (if liveK c (unsemT (semT k : Fin 162).val) = true ∧ semT (unsemT (semT k : Fin 162).val) = semT k then {c} else ∅) else ∅) = (∅ : Finset (Dev nD))
  rw [unsemT_semT, h]
  simp

/-- No semaphore is signalled in a later round. -/
theorem duties_later (g : GSem nD τ sig) : ∀ r, 1 ≤ r → (sched (F := F) m).duties g r = ∅ :=
  fun r hr => if_neg fun h => by omega

/-- A peer signals the barrier by one. -/
theorem amount_bar : (sched (F := F) m).amount (barCell c) 0 d = 1 := rfl
/-- A transfer signals by one slab. -/
theorem amount_k : (sched (F := F) m).amount (kCell c k) 0 d = nB := rfl

/-- A device has six peers. -/
theorem card_peers : ∀ c : Dev nD, (peers c).card = 6 := by decide +kernel

/-- The barrier comes to six. -/
theorem expect_bar : (sched (F := F) m).expect (barCell c) 0 = 6 := by
  unfold Schedule.expect Schedule.amountOf
  rw [duties_bar, Finset.sum_congr rfl fun d _ => amount_bar m c d, Finset.sum_const, card_peers, smul_eq_mul]

/-- A transfer's semaphore comes to one slab. -/
theorem expect_k (h : liveK c k = true) : (sched (F := F) m).expect (kCell c k) 0 = nB := by
  unfold Schedule.expect Schedule.amountOf
  rw [duties_k m c k h, Finset.sum_singleton, amount_k]

/-- What a peer's barrier signal hands over. -/
theorem payload_bar : (sched (F := F) m).payload (barCell c) 0 d = payBar c d := rfl

/-- What a transfer's signal hands over. -/
theorem payload_k : (sched (F := F) m).payload (kCell c k) 0 d = payK m c k := by
  show payK m c (unsemT (semT k : Fin 162).val) = payK m c k
  rw [unsemT_semT]

/-- All that the barrier hands over. -/
theorem rest_bar : bigSep ((sched (F := F) m).duties (barCell c) 0 \ ∅) (fun d => (sched (F := F) m).payload (barCell c) 0 d)
    = bigSep (peers c) fun d => payBar c d := by
  rw [Finset.sdiff_empty, duties_bar]
  rfl

/-- All that a transfer's semaphore hands over. -/
theorem rest_k (h : liveK c k = true) :
    bigSep ((sched (F := F) m).duties (kCell c k) 0 \ ∅) (fun d => (sched (F := F) m).payload (kCell c k) 0 d) = payK m c k := by
  rw [Finset.sdiff_empty, duties_k m c k h, bigSep_singleton, payload_k]

end Sched

/-! ## What is owed, and the levels -/

/-- What device `c` still owes its receivers when `s` sends are done. -/
def owedS (c : Dev nD) (s : ℕ) : CellTallies nD τ sig Unit :=
  ∑ t ∈ Finset.univ.filter (fun t : Tr => live c t = true ∧ s ≤ sPos (cz c) t), tallyAt (rCell (tgt c t) (rix c t)) () nB

/-- A signal owed is one of a transfer yet to be sent. -/
theorem owedS_pos {c : Dev nD} {s : ℕ} {g : GSem nD τ sig} {u : Unit} (h : 0 < owedS c s g u) :
    ∃ t, live c t = true ∧ s ≤ sPos (cz c) t ∧ g = rCell (tgt c t) (rix c t) := by
  unfold owedS at h
  rw [Finset.sum_apply, Finsupp.finset_sum_apply] at h
  obtain ⟨t, ht, hp⟩ := Finset.exists_ne_zero_of_sum_ne_zero (Nat.pos_iff_ne_zero.mp h)
  obtain ⟨-, h1, h2⟩ := Finset.mem_filter.mp ht
  refine ⟨t, h1, h2, ?_⟩
  rw [tallyAt_apply] at hp
  by_contra hn
  exact hp (if_neg fun h' => hn h'.1)

/-- A send pays its own part. -/
theorem owedS_succ (c : Dev nD) (t : Tr) (h : live c t = true) :
    owedS c (sPos (cz c) t) = owedS c (sPos (cz c) t + 1) + tallyAt (rCell (tgt c t) (rix c t)) () nB := by
  unfold owedS
  have hs : Finset.univ.filter (fun t' : Tr => live c t' = true ∧ sPos (cz c) t ≤ sPos (cz c) t')
      = insert t (Finset.univ.filter (fun t' : Tr => live c t' = true ∧ sPos (cz c) t + 1 ≤ sPos (cz c) t')) := by
    ext t'
    simp only [Finset.mem_filter, Finset.mem_univ, true_and, Finset.mem_insert]
    constructor
    · rintro ⟨h1, h2⟩
      rcases Nat.lt_or_eq_of_le h2 with h3 | h3
      · exact .inr ⟨h1, h3⟩
      · left; rw [← sAt_sPos c t h, ← sAt_sPos c t' h1, h3]
    · rintro (rfl | ⟨h1, h2⟩)
      · exact ⟨h, le_refl _⟩
      · exact ⟨h1, by omega⟩
  rw [hs, Finset.sum_insert (fun hm => by have := (Finset.mem_filter.mp hm).2.2; omega), add_comm]

/-- Everything is paid after the last send. -/
theorem owedS_end (c : Dev nD) : owedS c 62 = 0 := by
  unfold owedS
  rw [Finset.filter_false_of_mem, Finset.sum_empty]
  intro t _ ⟨h1, h2⟩
  have : ∀ (c : Dev nD) (t : Tr), live c t = true → sPos (cz c) t < 62 := by decide +kernel
  have := this c t h1
  omega

/-- The labels that a semaphore's waits carry. -/
def L (g : GSem nD τ sig) : Finset Unit := if g.1.2 = .tc then {()} else ∅

/-- The level of a transfer's semaphore. -/
def lvN (n : ℕ) : ℕ :=
  if n < 34 then 0 else if n < 66 then 2 else if n < 74 then 0 else if n < 78 then 3 else if n < 82 then 4
  else if n < 90 then 0 else if n < 94 then 5 else if n < 98 then 6 else if n < 130 then 0 else 7

/-- Levels: the barrier below the receive cells, these in the order of the phases; all else at the bottom. -/
def lv (g : GSem nD τ sig) (_ : Unit) : ℕ := match g.2 with
  | .reg _ => 1
  | .dma q => lvN (q : Fin 162).val

/-- A semaphore of another core carries no labels. -/
theorem L_of_ne (g : GSem nD τ sig) (h : g.1.2 ≠ .tc) : L g = ∅ := if_neg h
/-- A semaphore of the main core carries the one label. -/
theorem L_tc (c : Dev nD) (sm : SemLoc sig) : L ((c : Thread nD τ), sm) = {()} := if_pos rfl

/-- A level below everything owed after `s` sends. -/
def floorS (s : ℕ) : ℕ := if s < 24 then 2 else if s < 28 then 3 else if s < 38 then 4 else if s < 50 then 6
  else if s < 62 then 7 else 8

/-- The level of a transfer yet to be sent is at least the next one's. -/
theorem floorS_le (c : Dev nD) (s : ℕ) (t : Tr) (hl : live c t = true) (hs : s ≤ sPos (cz c) t) :
    floorS s ≤ lvN (semR (rix c t) : Fin 162).val := by
  have hm : ∀ (c : Dev nD) (t : Tr), live c t = true → floorS (sPos (cz c) t) ≤ lvN (semR (rix c t) : Fin 162).val := by
    decide +kernel
  refine le_trans ?_ (hm c t hl)
  unfold floorS
  split_ifs <;> omega

/-- A wait below the floor is allowed. -/
theorem mayWait_dma (c : Dev nD) (q : DmaSem sig) (s : ℕ) (h : lvN (q : Fin 162).val < floorS s) :
    (levAts L lv : sProp 𝕄) ⊢ MayWait (c : Thread nD τ) (.dma q) () (owedS c s) :=
  MayOwe.of_cut (L := L) (lev := lv) (lvN (q : Fin 162).val)
    (fun p hp => by rw [Finset.mem_singleton.mp hp, L_tc]; exact Finset.mem_singleton_self _)
    (fun g u hg => by
      obtain ⟨t, -, -, rfl⟩ := owedS_pos hg
      rw [L_tc]; exact Finset.mem_singleton_self _)
    (fun p hp => by rw [Finset.mem_singleton.mp hp]; exact le_refl _)
    (fun g u hg => by
      obtain ⟨t, h1, h2, rfl⟩ := owedS_pos hg
      exact lt_of_lt_of_le h (floorS_le c s t h1 h2))

/-- The barrier may be waited for while every send is owed. -/
theorem mayWait_bar (c : Dev nD) :
    (levAts L lv : sProp 𝕄) ⊢ MayWait (c : Thread nD τ) (.reg barS) () (owedS c 0) :=
  MayOwe.of_cut (L := L) (lev := lv) 1
    (fun p hp => by rw [Finset.mem_singleton.mp hp, L_tc]; exact Finset.mem_singleton_self _)
    (fun g u hg => by
      obtain ⟨t, -, -, rfl⟩ := owedS_pos hg
      rw [L_tc]; exact Finset.mem_singleton_self _)
    (fun p hp => by rw [Finset.mem_singleton.mp hp]; exact le_refl _)
    (fun g u hg => by
      obtain ⟨t, h1, h2, rfl⟩ := owedS_pos hg
      exact lt_of_lt_of_le (by decide) (floorS_le c 0 t h1 h2))

end Cert.AllReduce

end
-- ==== Proof.State.lean ====
module

public import proofs.«01_k».proof.Proof.Sched

@[expose] public section

/-!
# What a device holds between two steps

A device's progress is seven counts: sends made, receive waits done, send waits
done, plane sums kept and sent on, own blocks finished, and result slabs
written.  `Inv` is everything the device holds at given counts.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Records -/

/-- The cells of one device: the barrier's, and every transfer's on both sides. -/
abbrev CI := Option (Tr ⊕ Tr)

/-- Equality is decided. -/
instance : DecidableEq CI := inferInstance

/-- The semaphore of a device and a name. -/
abbrev cellC (ci : Dev nD × CI) : GSem nD τ sig := match ci.2 with
  | none => barCell ci.1
  | some k => kCell ci.1 k

/-- The invariants of all cells, and that each has reached its round. -/
def records (K : Dev nD × CI → ℕ) : sProp 𝕄 :=
  iprop((bigSep Finset.univ fun ci : Dev nD × CI => cellInv ER (sched m) (K ci) (cellC ci))
    ∗ (bigSep Finset.univ fun ci : Dev nD × CI => reached ER (cellC ci) 0) ∗ (levAts L lv : sProp 𝕄))

/-- The records may be used again and again. -/
instance records_persistent (K : Dev nD × CI → ℕ) : BI.Persistent (records m K) := by unfold records; infer_instance

/-- The record of a semaphore's invariant. -/
theorem inv_at (K : Dev nD × CI → ℕ) (ci : Dev nD × CI) : records m K ⊢ cellInv ER (sched m) (K ci) (cellC ci) := by
  have h : (bigSep Finset.univ fun ci : Dev nD × CI => (cellInv ER (sched m) (K ci) (cellC ci) : sProp 𝕄))
    ⊢ cellInv ER (sched m) (K ci) (cellC ci) := bigSep_elim (Finset.mem_univ ci)
  unfold records
  iintro ⟨#H, -, -⟩
  iapply h; iexact H

/-- The record that a semaphore is in its first round. -/
theorem reached_at (K : Dev nD × CI → ℕ) (ci : Dev nD × CI) : records m K ⊢ reached ER (cellC ci) 0 := by
  have h : (bigSep Finset.univ fun ci : Dev nD × CI => (reached ER (cellC ci) 0 : sProp 𝕄))
    ⊢ reached ER (cellC ci) 0 := bigSep_elim (Finset.mem_univ ci)
  unfold records
  iintro ⟨-, #H, -⟩
  iapply h; iexact H

/-- The record of the levels. -/
theorem lev_at (K : Dev nD × CI → ℕ) : records m K ⊢ (levAts L lv : sProp 𝕄) := by
  unfold records
  iintro ⟨-, -, #H⟩
  iexact H

/-! ## The parts of the state -/

/-- The share left of a received slab after `s` sends. -/
def rq (z : Fin 4) (s : ℕ) : Tr → PosShare TreeShare
  | tC h zs => Transfers.shareDrop fullShare (kq z s h zs)
  | _ => fullShare

/-- Whether a slab a transfer fills (or, for the own block, the device itself) has been filled. -/
def got (c : Dev nD) (r fn : ℕ) : Tr → Bool
  | tC h zs => if zs = cz c then decide (h.val < fn) else decide (rPos (cz c) (tC h zs) < r)
  | t => rlive c t && decide (rPos (cz c) t < r)

/-- The place of a slab of the result among the stores. -/
def oPos (x : I3) : ℕ := 16 * x.1.val + (if x.2.1 = 0 then 12 else 4 * (x.2.1.val - 1)) + x.2.2.val

/-- A slab is inside the result. -/
theorem inbO (b : Fin 16) (h : Fin 2) : ∀ a, (![64 * b.val + 32 * h.val, 0] : Fin 2 → ℕ) a + S32x1024.size a ≤ S1024x1024.size a
  | ⟨0, _⟩ => show 64 * b.val + 32 * h.val + 32 ≤ 1024 by omega
  | ⟨1, _⟩ => show 0 + 1024 ≤ 1024 by omega

/-- A slab of the result. -/
def slO (b : Fin 16) (h : Fin 2) : Memref sig .tc .vmem S32x1024 .bf16 :=
  ((Memref.whole cc0_stg1_0 : Memref sig .tc .vmem S1024x1024 .bf16).slice
    (Rect.unit (s := S1024x1024) ![64 * b.val + 32 * h.val, 0] S32x1024.size (inbO b h)) (fun _ => rfl)).squeeze
    S32x1024 (Shape.Squeezes.refl S32x1024)

/-- A transfer to make, made, or waited for. -/
def SendF (c : Dev nD) (s w : ℕ) (t : Tr) : sProp 𝕄 :=
  if live c t = true then
    (if wPos t < w then iprop(semVal (sCell c t) 0 ∗ paySend m c t)
    else if sPos (cz c) t < s then iprop(cred (tallyAt (sCell c t) () nB) ∗ atPos ER (sCell c t) 0 ∅ 0)
    else iprop(dutyTok ER (sCell c t) 0 c ∗ dutyTok ER (rCell (tgt c t) (rix c t)) 0 (tgt c t)
      ∗ anyslab (tgt c t) (rM (rix c t)) ∗ atPos ER (sCell c t) 0 ∅ 0))
  else semVal (sCell c t) 0

/-- A transfer to receive, or received. -/
def RecvF (c : Dev nD) (r : ℕ) (t : Tr) : sProp 𝕄 :=
  if rlive c t = true ∧ r ≤ rPos (cz c) t then iprop(cred (tallyAt (rCell c t) () nB) ∗ atPos ER (rCell c t) 0 ∅ 0)
  else semVal (rCell c t) 0

/-- The slabs transfers fill. -/
def GotF (c : Dev nD) (s r fn : ℕ) (t : Tr) : sProp 𝕄 :=
  if got c r fn t = true then slab m c (rM t) (rq (cz c) s t) (rV m c t)
  else if rlive c t = true then iprop(emp) else anyslab c (rM t)

/-- The slabs of the staged argument. -/
def StF (c : Dev nD) (s : ℕ) (x : I3) : sProp 𝕄 :=
  if live c (.inl x) = true ∧ sPos (cz c) (.inl x) < s then iprop(emp) else paySend m c (.inl x)

/-- The slabs of plane sums to send. -/
def CsF (c : Dev nD) (s b2 : ℕ) (x : I2) : sProp 𝕄 :=
  if live c (.inr (.inl x)) = true ∧ sPos (cz c) (.inr (.inl x)) < s then iprop(emp)
  else if 4 * x.1.val + x.2.val < b2 then slab m c (sl4 csB x.2 x.1) fullShare (cbV m c x.2 x.1) else anyslab c (sl4 csB x.2 x.1)

/-- The slabs of plane sums to keep. -/
def CuF (c : Dev nD) (b1 : ℕ) (x : I2) : sProp 𝕄 :=
  if 4 * x.1.val + x.2.val < b1 then slab m c (sl4 cuB x.2 x.1) fullShare (sumV m c x.2 x.1) else anyslab c (sl4 cuB x.2 x.1)

/-- The slabs of the result. -/
def OutF (c : Dev nD) (ou : ℕ) (x : I3) : sProp 𝕄 :=
  if oPos x < ou then slab m c (slO (blk x.2.2 (cw c + x.2.1)) x.1) fullShare (cfV m (dev x.2.2 (cw c + x.2.1)) x.1)
  else anyslab c (slO (blk x.2.2 (cw c + x.2.1)) x.1)

/-- The staged argument itself, and the barrier's counter, at zero again. -/
def XF (c : Dev nD) : sProp 𝕄 :=
  iprop((((c : Thread nD τ).loc cc0_stg0_0) ↦{fullShare} (xstg m c)) ∗ semVal (barCell c) 0)

/-- What device `c` holds when it has made `s` sends, done `r` receive waits and `w` send
    waits, kept `b1` and prepared `b2` plane sums, finished `fn` own blocks and stored `ou`
    slabs of the result. -/
def Inv (K : Dev nD × CI → ℕ) (c : Dev nD) (s r w b1 b2 fn ou : ℕ) : sProp 𝕄 :=
  iprop(records m K ∗ (∃ W, owes (c : Thread nD τ) (owedS c s) W) ∗ XF m c
    ∗ bigSep Finset.univ (SendF m c s w) ∗ bigSep Finset.univ (RecvF c r) ∗ bigSep Finset.univ (GotF m c s r fn)
    ∗ bigSep Finset.univ (StF m c s) ∗ bigSep Finset.univ (CsF m c s b2) ∗ bigSep Finset.univ (CuF m c b1)
    ∗ bigSep Finset.univ (OutF m c ou))

/-! ## Orders -/

/-- Another transfer is before the next place of the send order as it was before this one. -/
theorem sPos_lt_succ {c : Dev nD} {t t' : Tr} (h : live c t = true) (h' : live c t' = true) (hn : t' ≠ t) :
    sPos (cz c) t' < sPos (cz c) t + 1 ↔ sPos (cz c) t' < sPos (cz c) t := by
  constructor
  · intro hl
    rcases Nat.lt_or_eq_of_le (Nat.le_of_lt_succ hl) with h3 | h3
    · exact h3
    · exact absurd (by rw [← sAt_sPos c t h, ← sAt_sPos c t' h', h3]) hn
  · omega

/-- The same in the order of receive waits. -/
theorem rPos_lt_succ {c : Dev nD} {t t' : Tr} (h : rlive c t = true) (h' : rlive c t' = true) (hn : t' ≠ t) :
    rPos (cz c) t' < rPos (cz c) t + 1 ↔ rPos (cz c) t' < rPos (cz c) t := by
  constructor
  · intro hl
    rcases Nat.lt_or_eq_of_le (Nat.le_of_lt_succ hl) with h3 | h3
    · exact h3
    · exact absurd (by rw [← rAt_rPos c t h, ← rAt_rPos c t' h', h3]) hn
  · omega

/-- The same in the order of send waits. -/
theorem wPos_lt_succ {c : Dev nD} {t t' : Tr} (h : live c t = true) (h' : live c t' = true) (hn : t' ≠ t) :
    wPos t' < wPos t + 1 ↔ wPos t' < wPos t := by
  constructor
  · intro hl
    rcases Nat.lt_or_eq_of_le (Nat.le_of_lt_succ hl) with h3 | h3
    · exact h3
    · exact absurd (by rw [← wAt_wPos c t h, ← wAt_wPos c t' h', h3]) hn
  · omega

/-- The finished block a transfer reads. -/
def cfOf (c : Dev nD) : Tr → Option I2
  | tC h j => some (h, cz c)
  | tD h j zs => some (h, zs)
  | _ => none

/-- A send takes one more share of the finished block it reads, and none of another. -/
theorem kq_step : ∀ (c : Dev nD) (t : Tr), live c t = true → ∀ (h : Fin 2) (zs : Fin 4),
    kq (cz c) (sPos (cz c) t + 1) h zs = kq (cz c) (sPos (cz c) t) h zs + (if cfOf c t = some (h, zs) then 1 else 0) := by
  decide +kernel

/-- Which share of the finished block a send takes. -/
theorem sq_cf : ∀ (c : Dev nD) (t : Tr), live c t = true → ∀ (h : Fin 2) (zs : Fin 4), cfOf c t = some (h, zs) →
    (match t with | tC h j => j.val - 1 | tD h j zs => (if zs = cz c then 3 + (j.val - 1) else j.val - 1) | _ => 0)
      = kq (cz c) (sPos (cz c) t) h zs := by
  decide +kernel

/-- Whether the slab a transfer reads is ready. -/
def srcOk (c : Dev nD) (r b2 fn : ℕ) : Tr → Bool
  | tA h j zp => true
  | tB h zp => decide (4 * h.val + zp.val < b2)
  | tC h j => got c r fn (tC h (cz c))
  | tD h j zs => got c r fn (tC h zs)

/-- The slabs a device may send from. -/
abbrev Src (c : Dev nD) (s r b2 fn : ℕ) : sProp 𝕄 :=
  iprop(bigSep Finset.univ (GotF m c s r fn) ∗ bigSep Finset.univ (StF m c s) ∗ bigSep Finset.univ (CsF m c s b2))

/-- A send leaves the other slabs of the argument. -/
theorem StF_next (c : Dev nD) (t : Tr) (hl : live c t = true) (x : I3) (hx : (.inl x : Tr) ≠ t) :
    StF m c (sPos (cz c) t + 1) x = StF m c (sPos (cz c) t) x := by
  unfold StF
  refine if_congr ?_ rfl rfl
  exact ⟨fun h => ⟨h.1, (sPos_lt_succ hl h.1 hx).mp h.2⟩, fun h => ⟨h.1, (sPos_lt_succ hl h.1 hx).mpr h.2⟩⟩

/-- A send leaves the other slabs of the sums. -/
theorem CsF_next (c : Dev nD) (t : Tr) (hl : live c t = true) (b2 : ℕ) (x : I2) (hx : (.inr (.inl x) : Tr) ≠ t) :
    CsF m c (sPos (cz c) t + 1) b2 x = CsF m c (sPos (cz c) t) b2 x := by
  unfold CsF
  refine if_congr ?_ rfl rfl
  exact ⟨fun h => ⟨h.1, (sPos_lt_succ hl h.1 hx).mp h.2⟩, fun h => ⟨h.1, (sPos_lt_succ hl h.1 hx).mpr h.2⟩⟩

/-- A send leaves the other slabs received. -/
theorem GotF_next (c : Dev nD) (t : Tr) (hl : live c t = true) (r fn : ℕ) (x : Tr)
    (hx : ∀ h zs, x = tC h zs → cfOf c t ≠ some (h, zs)) :
    GotF m c (sPos (cz c) t + 1) r fn x = GotF m c (sPos (cz c) t) r fn x := by
  have e : rq (cz c) (sPos (cz c) t + 1) x = rq (cz c) (sPos (cz c) t) x := by
    rcases x with ⟨h, j, zp⟩ | ⟨h, zp⟩ | ⟨h, zs⟩ | ⟨h, j, zs⟩
    · rfl
    · rfl
    · show Transfers.shareDrop fullShare _ = Transfers.shareDrop fullShare _
      rw [kq_step c t hl h zs, if_neg (hx h zs rfl), Nat.add_zero]
    · rfl
  unfold GotF
  rw [e]

/-- A finished block parts with the share a transfer takes. -/
theorem take_cf (c : Dev nD) (t : Tr) (hl : live c t = true) (r b2 fn : ℕ) (h : Fin 2) (zs : Fin 4) (hc : cfOf c t = some (h, zs))
    (hg : got c r fn (tC h zs) = true)
    (hp : paySend m c t = slab m c (sl4 cfB zs h) (Transfers.shareTokN fullShare (kq (cz c) (sPos (cz c) t) h zs)) (cfV m (dev zs (cw c)) h)) :
    Src m c (sPos (cz c) t) r b2 fn ⊢ iprop(paySend m c t ∗ Src m c (sPos (cz c) t + 1) r b2 fn) := by
  have eS : StF m c (sPos (cz c) t + 1) = StF m c (sPos (cz c) t) := funext fun x => StF_next m c t hl x (by
    rintro rfl; cases hc)
  have eC : CsF m c (sPos (cz c) t + 1) b2 = CsF m c (sPos (cz c) t) b2 := funext fun x => CsF_next m c t hl b2 x (by
    rintro rfl; cases hc)
  unfold Src
  rw [eS, eC]
  iintro ⟨HG, HS, HC⟩
  ihave H := (bigSep_univ_update (Φ := GotF m c (sPos (cz c) t) r fn) (Ψ := GotF m c (sPos (cz c) t + 1) r fn) (tC h zs)
    (fun x hx => GotF_next m c t hl r fn x (by
      rintro h' zs' rfl hc'
      rw [hc] at hc'
      injection hc' with e
      injection e with e1 e2
      subst e1; subst e2
      exact hx rfl))) $$ HG
  have e0 : GotF m c (sPos (cz c) t) r fn (tC h zs)
      = slab m c (sl4 cfB zs h) (Transfers.shareDrop fullShare (kq (cz c) (sPos (cz c) t) h zs)) (cfV m (dev zs (cw c)) h) := by
    unfold GotF; rw [if_pos hg]; rfl
  have e1 : GotF m c (sPos (cz c) t + 1) r fn (tC h zs)
      = slab m c (sl4 cfB zs h) (Transfers.shareDrop fullShare (kq (cz c) (sPos (cz c) t) h zs + 1)) (cfV m (dev zs (cw c)) h) := by
    unfold GotF; rw [if_pos hg]
    show slab m c (sl4 cfB zs h) (Transfers.shareDrop fullShare _) _ = _
    rw [kq_step c t hl h zs, if_pos hc]
    rfl
  rw [e0, e1, hp]
  icases H with ⟨H, Hk⟩
  ihave H2 := (slab_share m c (sl4 cfB zs h) fullShare (kq (cz c) (sPos (cz c) t) h zs) (cfV m (dev zs (cw c)) h)).1 $$ H
  icases H2 with ⟨Hd, Ht⟩
  isplitl [Ht]; · iexact Ht
  isplitl [Hd Hk]
  · iapply Hk; iexact Hd
  isplitl [HS] <;> iassumption

/-- The slab a transfer reads, taken from what may be sent. -/
theorem take_src (c : Dev nD) (t : Tr) (hl : live c t = true) (r b2 fn : ℕ) (hok : srcOk c r b2 fn t = true) :
    Src m c (sPos (cz c) t) r b2 fn ⊢ iprop(paySend m c t ∗ Src m c (sPos (cz c) t + 1) r b2 fn) := by
  rcases t with x | x | ⟨h, j⟩ | ⟨h, j, zs⟩
  · have eG : GotF m c (sPos (cz c) (.inl x) + 1) r fn = GotF m c (sPos (cz c) (.inl x)) r fn :=
      funext fun y => GotF_next m c (.inl x) hl r fn y (by rintro h zs rfl hc; cases hc)
    have eC : CsF m c (sPos (cz c) (.inl x) + 1) b2 = CsF m c (sPos (cz c) (.inl x)) b2 :=
      funext fun y => CsF_next m c (.inl x) hl b2 y (by rintro ⟨⟩)
    unfold Src
    rw [eG, eC]
    iintro ⟨HG, HS, HC⟩
    ihave H := (bigSep_univ_update (Φ := StF m c (sPos (cz c) (.inl x))) (Ψ := StF m c (sPos (cz c) (.inl x) + 1)) x
      (fun y hy => StF_next m c (.inl x) hl y (by rintro ⟨⟩; exact hy rfl))) $$ HS
    have e0 : StF m c (sPos (cz c) (.inl x)) x = paySend m c (.inl x) := by
      unfold StF; exact if_neg fun h => Nat.lt_irrefl _ h.2
    have e1 : StF m c (sPos (cz c) (.inl x) + 1) x = iprop(emp) := by
      unfold StF; exact if_pos ⟨hl, Nat.lt_succ_self _⟩
    rw [e0, e1]
    icases H with ⟨H, Hk⟩
    isplitl [H]; · iexact H
    isplitl [HG]; · iexact HG
    isplitl [Hk]
    · iapply Hk; iempintro
    iexact HC
  · have eG : GotF m c (sPos (cz c) (.inr (.inl x)) + 1) r fn = GotF m c (sPos (cz c) (.inr (.inl x))) r fn :=
      funext fun y => GotF_next m c (.inr (.inl x)) hl r fn y (by rintro h zs rfl hc; cases hc)
    have eC : StF m c (sPos (cz c) (.inr (.inl x)) + 1) = StF m c (sPos (cz c) (.inr (.inl x))) :=
      funext fun y => StF_next m c (.inr (.inl x)) hl y (by rintro ⟨⟩)
    unfold Src
    rw [eG, eC]
    iintro ⟨HG, HS, HC⟩
    ihave H := (bigSep_univ_update (Φ := CsF m c (sPos (cz c) (.inr (.inl x))) b2) (Ψ := CsF m c (sPos (cz c) (.inr (.inl x)) + 1) b2) x
      (fun y hy => CsF_next m c (.inr (.inl x)) hl b2 y (by rintro ⟨⟩; exact hy rfl))) $$ HC
    have e0 : CsF m c (sPos (cz c) (.inr (.inl x))) b2 x = paySend m c (.inr (.inl x)) := by
      unfold CsF; rw [if_neg fun h => Nat.lt_irrefl _ h.2, if_pos (of_decide_eq_true hok)]; rfl
    have e1 : CsF m c (sPos (cz c) (.inr (.inl x)) + 1) b2 x = iprop(emp) := by
      unfold CsF; exact if_pos ⟨hl, Nat.lt_succ_self _⟩
    rw [e0, e1]
    icases H with ⟨H, Hk⟩
    isplitl [H]; · iexact H
    isplitl [HG]; · iexact HG
    isplitl [HS]; · iexact HS
    iapply Hk; iempintro
  · refine take_cf m c _ hl r b2 fn h (cz c) rfl hok ?_
    rw [← sq_cf c _ hl h (cz c) rfl]
    unfold paySend sM sV sq
    simp only [dev_eta]
  · refine take_cf m c _ hl r b2 fn h zs rfl hok ?_
    rw [← sq_cf c _ hl h zs rfl]
    rfl

end Cert.AllReduce

end
-- ==== Proof.Steps.lean ====
module

public import proofs.«01_k».proof.Proof.State

@[expose] public section

set_option maxRecDepth 8000

/-!
# The steps of the program

One lemma for each kind of operation: a device that holds `Inv` at some counts
may perform the operation and holds `Inv` at the next counts.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The program has no loops. -/
abbrev 𝒱₀ : Variants := Variants.none

/-- The weakest precondition of a program of device `c`. -/
abbrev wpC (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Transfers -/

section Transfers
variable (K : Dev nD × CI → ℕ) (c : Dev nD) {s r w b1 b2 fn ou : ℕ}
variable {α : Type}

/-- The send rule at a transfer's cells. -/
theorem wp_send_tr (n : Dev nD) (t : Tr) (hl : live c t = true) (hn : n = tgt c t)
    {M1 M2 : Memref sig .tc .vmem S32x1024 .bf16} {q1 q2 : DmaSem sig}
    (h1 : M1 = sM c t) (h2 : M2 = rM (rix c t)) (h3 : q1 = semS t) (h4 : q2 = semR (rix c t))
    {hsc : (M2 : Memref sig (Dev.tc n : Thread nD τ).2.kind .vmem S32x1024 .bf16).view.ref.isScScratch = false}
    {hsrc : M1.view.WordExact} {hdst : M2.view.WordExact}
    {hsem : DmaTarget.Typed .vmem (.dma q2) (.remote (Dev.tc n : Thread nD τ) M2 (.dma q1) hsc)}
    {k : PUnit → Prog (TpuEff nD τ sig (Elt F) Λ₀ .tc) α} {Q : α → sProp 𝕄} (W : Waits sig Unit) :
    iprop(records m K ∗ paySend m c t ∗ anyslab (tgt c t) (rM (rix c t))
        ∗ owes (c : Thread nD τ) (owedS c (sPos (cz c) t)) W
        ∗ dutyTok ER (sCell c t) 0 c ∗ dutyTok ER (rCell (tgt c t) (rix c t)) 0 (tgt c t))
      ⊢ iprop(((cred (tallyAt (sCell c t) () nB) ∗ owes (c : Thread nD τ) (owedS c (sPos (cz c) t + 1)) W) -∗ wpC c (k ⟨⟩) Q)
          -∗ wpC c (.op (.enqueueDma M1 (.remote (Dev.tc n : Thread nD τ) M2 (.dma q1) hsc) (.dma q2) hsrc hdst hsem) k) Q) := by
  subst hn h1 h2 h3 h4
  have hd1 : c ∈ (sched (F := F) m).duties (sCell c t) 0 :=
    Eq.mpr (congrArg (c ∈ ·) (duties_k m c (.inl t) hl)) (Finset.mem_singleton_self _)
  have hd2 : tgt c t ∈ (sched (F := F) m).duties (rCell (tgt c t) (rix c t)) 0 :=
    Eq.mpr (congrArg (tgt c t ∈ ·) (duties_k m (tgt c t) (.inr (rix c t)) ((rlive_mate c t).trans hl))) (Finset.mem_singleton_self _)
  have hp1 : slab m c (sM c t) (sq (cz c) t) (sV m c t) ⊢ (sched m).payload (sCell c t) 0 c :=
    Entails.of_eq (payload_k m c c (.inl t)).symm
  have hp2 : slab m (tgt c t) (rM (rix c t)) fullShare (sV m c t) ⊢ (sched m).payload (rCell (tgt c t) (rix c t)) 0 (tgt c t) :=
    Entails.of_eq ((congrArg (slab m (tgt c t) (rM (rix c t)) fullShare) (rV_mate m c t).symm).trans
      (payload_k m (tgt c t) (tgt c t) (.inr (rix c t))).symm)
  unfold paySend slab anyslab
  iintro ⟨#HR, HS, ⟨%fd, HD⟩, HO, Ht1, Ht2⟩
  iapply (Rounds.wp_send_pointsTo 𝒱₀ ER (sched m) (c : Thread nD τ) none
    (c' := (tgt c t : Thread nD τ)) (src := sM c t) (dst := rM (rix c t)) (sS := .dma (semS t)) (sem := .dma (semR (rix c t)))
    (κ₁ := K (c, some (.inl t))) (κ₂ := K (tgt c t, some (.inr (rix c t))))
    (r₁ := 0) (r₂ := 0) (d₁ := c) (d₂ := tgt c t) (q := sq (cz c) t)
    (fs := (sM c t).view.write (Elt F) (m ((sM c t).view.loc (c : Thread nD τ))) (sV m c t) Finset.univ) (fd := fd)
    hd1 hd2 () () nB (credit_rM (rix c t)) (amount_k m c c (.inl t)) (amount_k m (tgt c t) (tgt c t) (.inr (rix c t)))
    (owedS c (sPos (cz c) t + 1)) (owedS_succ c t hl) (W := W)
    hp1 (by rw [View.read_write_univ, slab_write m]; exact hp2)) $$ [HS HD HO Ht1 Ht2]
  · isplitr; · iapply (inv_at m K (c, some (.inl t))); iexact HR
    isplitr; · iapply (inv_at m K (tgt c t, some (.inr (rix c t)))); iexact HR
    isplitl [HS]; · iexact HS
    isplitl [HD]; · iexact HD
    isplitl [HO]; · iexact HO
    isplitl [Ht1]; · iexact Ht1
    isplitr; · iapply (reached_at m K (c, some (.inl t))); iexact HR
    isplitl [Ht2]; · iexact Ht2
    iapply (reached_at m K (tgt c t, some (.inr (rix c t)))); iexact HR

/-- The wait rule at a cell of a transfer: what the cell hands over, and the cell closed. -/
theorem wp_wait_tr (kk : Tr ⊕ Tr) (hl : liveK c kk = true) {q : DmaSem sig} (hq : q = semT kk)
    {sh sh' : Shape} {e e' : EltTy}
    {X : Memref sig .tc .vmem sh e} {Y : Memref sig .tc .vmem sh' e'} (hY : Y.view.dmaCredit = nB) {hx : X.view.WordExact} {hy : Y.view.WordExact}
    {k : PUnit → Prog (TpuEff nD τ sig (Elt F) Λ₀ .tc) α} {Q : α → sProp 𝕄} (W : Waits sig Unit) (hlev : lvN (semT kk : Fin 162).val < floorS s) :
    iprop(records m K ∗ cred (tallyAt (kCell c kk) () nB) ∗ owes (c : Thread nD τ) (owedS c s) W ∗ atPos ER (kCell c kk) 0 ∅ 0)
      ⊢ iprop((((∃ W, owes (c : Thread nD τ) (owedS c s) W) ∗ semVal (kCell c kk) 0 ∗ payK m c kk) -∗ wpC c (k ⟨⟩) Q)
          -∗ wpC c (.op (.waitDma2 q X Y hx hy) k) Q) := by
  subst hq
  have hmw : records m K ⊢ MayWait (c : Thread nD τ) (.dma (semT kk)) () (owedS c s) :=
    BIBase.Entails.trans (Q := levAts L lv) (lev_at m K) (mayWait_dma c (semT kk) s hlev)
  have hex : 0 + Y.view.dmaCredit = (sched (F := F) m).expect (kCell c kk) 0 := by
    rw [Nat.zero_add, hY]; exact (expect_k m c kk hl).symm
  iintro ⟨#HR, Hc, HO, Ha⟩ Hk
  iapply (Rounds.wp_wait_rest_token 𝒱₀ ER (sched m) (c : Thread nD τ) none (κ := K (c, some kk))
      (wpE_waitDma2_eq 𝒱₀ (c : Thread nD τ) none Set.univ) (Set.mem_univ _) () (O := owedS c s) (W := W) (R := 0) (m := 0) (T := ∅) hex) $$ [Hc HO Ha]
  · isplitr; · iapply (inv_at m K (c, some kk)); iexact HR
    isplitl [Hc]; · rw [hY]; iexact Hc
    isplitl [HO]; · iexact HO
    isplitr
    · iapply hmw; iexact HR
    iexact Ha
  iintro ⟨HO, Ha, -, Hp⟩
  ihave Hp := (Entails.of_eq (rest_k m c kk hl)) $$ Hp
  imod (Rounds.cell_close ER (sched m) (Set.mem_univ (K (c, some kk))) (fun h => h) (R := 0 + 1) (duties_later m (kCell c kk))) $$ [Ha] with Hz
  · isplitr; · iapply (inv_at m K (c, some kk)); iexact HR
    iexact Ha
  iapply Hk
  isplitl [HO]; · iexists _; iexact HO
  isplitl [Hz]; · iexact Hz
  iexact Hp

/-- A send leaves the other send semaphores. -/
theorem SendF_next_s (t : Tr) (hl : live c t = true) (j : Tr) (hj : j ≠ t) :
    SendF m c (sPos (cz c) t + 1) w j = SendF m c (sPos (cz c) t) w j := by
  unfold SendF
  by_cases h : live c j = true
  · rw [if_pos h, if_pos h]
    exact if_congr Iff.rfl rfl (if_congr (sPos_lt_succ hl h hj) rfl rfl)
  · rw [if_neg h, if_neg h]

/-- A send wait leaves the other send semaphores. -/
theorem SendF_next_w (t : Tr) (hl : live c t = true) (j : Tr) (hj : j ≠ t) :
    SendF m c s (wPos t + 1) j = SendF m c s (wPos t) j := by
  unfold SendF
  by_cases h : live c j = true
  · rw [if_pos h, if_pos h]
    exact if_congr (wPos_lt_succ hl h hj) rfl rfl
  · rw [if_neg h, if_neg h]

/-- A receive wait leaves the other receive semaphores. -/
theorem RecvF_next (t : Tr) (hl : rlive c t = true) (j : Tr) (hj : j ≠ t) :
    (RecvF c (rPos (cz c) t + 1) j : sProp 𝕄) = RecvF c (rPos (cz c) t) j := by
  unfold RecvF
  refine if_congr (and_congr_right fun h => ?_) rfl rfl
  have := rPos_lt_succ hl h hj
  omega

/-- A receive wait receives nothing else. -/
theorem got_next (t : Tr) (hl : rlive c t = true) (j : Tr) (hj : j ≠ t) : got c (rPos (cz c) t + 1) fn j = got c (rPos (cz c) t) fn j := by
  have e : rlive c j = true → decide (rPos (cz c) j < rPos (cz c) t + 1) = decide (rPos (cz c) j < rPos (cz c) t) :=
    fun h => decide_eq_decide.mpr (rPos_lt_succ hl h hj)
  rcases j with ⟨h, o, zp⟩ | ⟨h, o⟩ | ⟨h, zs⟩ | ⟨h, o, zs⟩
  · show (rlive c _ && _) = (rlive c _ && _)
    cases hr : rlive c (tA h o zp); · rfl
    rw [e hr]
  · show (rlive c _ && _) = (rlive c _ && _)
    cases hr : rlive c (tB h o); · rfl
    rw [e hr]
  · show (if zs = cz c then _ else _) = (if zs = cz c then _ else _)
    by_cases hz : zs = cz c
    · rw [if_pos hz, if_pos hz]
    · rw [if_neg hz, if_neg hz]
      exact e (decide_eq_true hz)
  · show (rlive c _ && _) = (rlive c _ && _)
    cases hr : rlive c (tD h o zs); · rfl
    rw [e hr]

/-- A receive wait leaves the other slabs received. -/
theorem GotF_next_r (t : Tr) (hl : rlive c t = true) (j : Tr) (hj : j ≠ t) :
    GotF m c s (rPos (cz c) t + 1) fn j = GotF m c s (rPos (cz c) t) fn j := by
  unfold GotF
  rw [got_next c t hl j hj]

/-- A slab is received once its wait is past. -/
theorem got_at (t : Tr) (hl : rlive c t = true) : got c r fn t = decide (rPos (cz c) t < r) := by
  rcases t with ⟨h, o, zp⟩ | ⟨h, o⟩ | ⟨h, zs⟩ | ⟨h, o, zs⟩
  · show (rlive c _ && _) = _; rw [hl]; rfl
  · show (rlive c _ && _) = _; rw [hl]; rfl
  · exact if_neg (of_decide_eq_true hl)
  · show (rlive c _ && _) = _; rw [hl]; rfl

/-- A send. -/
theorem step_send (n : Dev nD) (t : Tr) (hl : live c t = true) (hs : sPos (cz c) t = s) (hok : srcOk c r b2 fn t = true) (hn : n = tgt c t)
    {M1 M2 : Memref sig .tc .vmem S32x1024 .bf16} {q1 q2 : DmaSem sig}
    (h1 : M1 = sM c t) (h2 : M2 = rM (rix c t)) (h3 : q1 = semS t) (h4 : q2 = semR (rix c t))
    {hsc : (M2 : Memref sig (Dev.tc n : Thread nD τ).2.kind .vmem S32x1024 .bf16).view.ref.isScScratch = false}
    {hsrc : M1.view.WordExact} {hdst : M2.view.WordExact}
    {hsem : DmaTarget.Typed .vmem (.dma q2) (.remote (Dev.tc n : Thread nD τ) M2 (.dma q1) hsc)}
    {k : PUnit → Prog (TpuEff nD τ sig (Elt F) Λ₀ .tc) α} {Q : α → sProp 𝕄}
    (hk : Inv m K c (s + 1) r 0 b1 b2 fn ou ⊢ wpC c (k ⟨⟩) Q) :
    Inv m K c s r 0 b1 b2 fn ou
      ⊢ wpC c (.op (.enqueueDma M1 (.remote (Dev.tc n : Thread nD τ) M2 (.dma q1) hsc) (.dma q2) hsrc hdst hsem) k) Q := by
  subst hs
  have e0 : SendF m c (sPos (cz c) t) 0 t = iprop(dutyTok ER (sCell c t) 0 c ∗ dutyTok ER (rCell (tgt c t) (rix c t)) 0 (tgt c t)
      ∗ anyslab (tgt c t) (rM (rix c t)) ∗ atPos ER (sCell c t) 0 ∅ 0) := by
    unfold SendF; rw [if_pos hl, if_neg (Nat.not_lt_zero _), if_neg (Nat.lt_irrefl _)]
  have e1 : SendF m c (sPos (cz c) t + 1) 0 t = iprop(cred (tallyAt (sCell c t) () nB) ∗ atPos ER (sCell c t) 0 ∅ 0) := by
    unfold SendF; rw [if_pos hl, if_neg (Nat.not_lt_zero _), if_pos (Nat.lt_succ_self _)]
  unfold Inv
  iintro ⟨#HR, ⟨%W, HO⟩, HX, HS, HRv, HG, HSt, HCs, HCu, HOu⟩
  ihave HS := (bigSep_univ_update (Φ := SendF m c (sPos (cz c) t) 0) (Ψ := SendF m c (sPos (cz c) t + 1) 0) t
    (fun j hj => SendF_next_s m c t hl j hj)) $$ HS
  rw [e0, e1]
  icases HS with ⟨⟨Ht1, Ht2, HD, Ha⟩, HS⟩
  ihave Hsrc := (take_src m c t hl r b2 fn hok) $$ [HG HSt HCs]
  · unfold Src
    isplitl [HG]; · iexact HG
    isplitl [HSt]; · iexact HSt
    iexact HCs
  unfold Src
  icases Hsrc with ⟨Hpay, HG, HSt, HCs⟩
  iapply (wp_send_tr m K c n t hl hn h1 h2 h3 h4 W) $$ [Hpay HD HO Ht1 Ht2]
  · isplitr; · iexact HR
    isplitl [Hpay]; · iexact Hpay
    isplitl [HD]; · iexact HD
    isplitl [HO]; · iexact HO
    isplitl [Ht1]; · iexact Ht1
    iexact Ht2
  iintro ⟨Hc, HO⟩
  iapply hk
  unfold Inv
  isplitr; · iexact HR
  isplitl [HO]; · iexists W; iexact HO
  isplitl [HX]; · iexact HX
  isplitl [HS Hc Ha]
  · iapply HS
    isplitl [Hc]; · iexact Hc
    iexact Ha
  isplitl [HRv]; · iexact HRv
  isplitl [HG]; · iexact HG
  isplitl [HSt]; · iexact HSt
  isplitl [HCs]; · iexact HCs
  isplitl [HCu]; · iexact HCu
  iexact HOu

/-- A send a device does not make. -/
theorem step_skip (hj : ∀ t', live c t' = true → sPos (cz c) t' ≠ s)
    (hq : ∀ h zs, kq (cz c) (s + 1) h zs = kq (cz c) s h zs) {P : sProp 𝕄}
    (hk : Inv m K c (s + 1) r 0 b1 b2 fn ou ⊢ P) :
    Inv m K c s r 0 b1 b2 fn ou ⊢ P := by
  have hlt : ∀ t', live c t' = true → (sPos (cz c) t' < s + 1 ↔ sPos (cz c) t' < s) := fun t' h => by
    have := hj t' h; omega
  have eS : SendF m c (s + 1) 0 = SendF m c s 0 := funext fun j => by
    unfold SendF
    by_cases h : live c j = true
    · rw [if_pos h, if_pos h]
      exact if_congr Iff.rfl rfl (if_congr (hlt j h) rfl rfl)
    · rw [if_neg h, if_neg h]
  have eG : GotF m c (s + 1) r fn = GotF m c s r fn := funext fun x => by
    have e : rq (cz c) (s + 1) x = rq (cz c) s x := by
      rcases x with ⟨h, j, zp⟩ | ⟨h, zp⟩ | ⟨h, zs⟩ | ⟨h, j, zs⟩
      · rfl
      · rfl
      · show Transfers.shareDrop fullShare _ = Transfers.shareDrop fullShare _
        rw [hq]
      · rfl
    unfold GotF
    rw [e]
  have eT : StF m c (s + 1) = StF m c s := funext fun x => by
    unfold StF
    exact if_congr (and_congr_right fun h => hlt _ h) rfl rfl
  have eC : CsF m c (s + 1) b2 = CsF m c s b2 := funext fun x => by
    unfold CsF
    exact if_congr (and_congr_right fun h => hlt _ h) rfl rfl
  have eO : owedS c (s + 1) = owedS c s := by
    unfold owedS
    refine congrArg (fun S => Finset.sum S _) (Finset.filter_congr fun t' _ => and_congr_right fun h => ?_)
    have := hlt t' h
    omega
  unfold Inv at hk ⊢
  rw [eS, eG, eT, eC, eO] at hk
  exact hk

/-- A receive wait. -/
theorem step_rwait (t : Tr) (hl : rlive c t = true) (hr : rPos (cz c) t = r) (hq0 : rq (cz c) s t = fullShare)
    {q : DmaSem sig} (hq : q = semR t) {sh sh' : Shape} {e e' : EltTy}
    {X : Memref sig .tc .vmem sh e} {Y : Memref sig .tc .vmem sh' e'} (hY : Y.view.dmaCredit = nB) {hx : X.view.WordExact} {hy : Y.view.WordExact}
    (hlev : lvN (semR t : Fin 162).val < floorS s)
    {k : PUnit → Prog (TpuEff nD τ sig (Elt F) Λ₀ .tc) α} {Q : α → sProp 𝕄}
    (hk : Inv m K c s (r + 1) w b1 b2 fn ou ⊢ wpC c (k ⟨⟩) Q) :
    Inv m K c s r w b1 b2 fn ou ⊢ wpC c (.op (.waitDma2 q X Y hx hy) k) Q := by
  subst hr
  have e0 : (RecvF c (rPos (cz c) t) t : sProp 𝕄) = iprop(cred (tallyAt (rCell c t) () nB) ∗ atPos ER (rCell c t) 0 ∅ 0) := by
    unfold RecvF; rw [if_pos ⟨hl, le_refl _⟩]
  have e1 : (RecvF c (rPos (cz c) t + 1) t : sProp 𝕄) = semVal (rCell c t) 0 := by
    unfold RecvF; rw [if_neg fun h => Nat.not_succ_le_self _ h.2]
  have g0 : GotF m c s (rPos (cz c) t) fn t = iprop(emp) := by
    unfold GotF; rw [got_at c t hl, if_neg (by simp), if_pos hl]
  have g1 : GotF m c s (rPos (cz c) t + 1) fn t = payRecv m c t := by
    unfold GotF payRecv; rw [got_at c t hl, if_pos (by simp), hq0]
  unfold Inv
  iintro ⟨#HR, ⟨%W, HO⟩, HX, HS, HRv, HG, HSt, HCs, HCu, HOu⟩
  ihave HRv := (bigSep_univ_update (Φ := RecvF c (rPos (cz c) t)) (Ψ := RecvF c (rPos (cz c) t + 1)) t
    (fun j hj => RecvF_next c t hl j hj)) $$ HRv
  ihave HG := (bigSep_univ_update (Φ := GotF m c s (rPos (cz c) t) fn) (Ψ := GotF m c s (rPos (cz c) t + 1) fn) t
    (fun j hj => GotF_next_r m c t hl j hj)) $$ HG
  rw [e0, e1, g0, g1]
  icases HRv with ⟨⟨Hc, Ha⟩, HRv⟩
  icases HG with ⟨-, HG⟩
  iapply (wp_wait_tr m K c (.inr t) hl hq hY W hlev) $$ [Hc HO Ha]
  · isplitr; · iexact HR
    isplitl [Hc]; · iexact Hc
    isplitl [HO]; · iexact HO
    iexact Ha
  iintro ⟨HO, Hz, Hp⟩
  iapply hk
  unfold Inv
  isplitr; · iexact HR
  isplitl [HO]; · iexact HO
  isplitl [HX]; · iexact HX
  isplitl [HS]; · iexact HS
  isplitl [HRv Hz]; · iapply HRv; iexact Hz
  isplitl [HG Hp]; · iapply HG; unfold payK; iexact Hp
  isplitl [HSt]; · iexact HSt
  isplitl [HCs]; · iexact HCs
  isplitl [HCu]; · iexact HCu
  iexact HOu

/-- A send wait. -/
theorem step_swait (t : Tr) (hl : live c t = true) (hw : wPos t = w) (hp : sPos (cz c) t < s)
    {q : DmaSem sig} (hq : q = semS t) {sh sh' : Shape} {e e' : EltTy}
    {X : Memref sig .tc .vmem sh e} {Y : Memref sig .tc .vmem sh' e'} (hY : Y.view.dmaCredit = nB) {hx : X.view.WordExact} {hy : Y.view.WordExact}
    (hlev : lvN (semS t : Fin 162).val < floorS s)
    {k : PUnit → Prog (TpuEff nD τ sig (Elt F) Λ₀ .tc) α} {Q : α → sProp 𝕄}
    (hk : Inv m K c s r (w + 1) b1 b2 fn ou ⊢ wpC c (k ⟨⟩) Q) :
    Inv m K c s r w b1 b2 fn ou ⊢ wpC c (.op (.waitDma2 q X Y hx hy) k) Q := by
  subst hw
  have e0 : SendF m c s (wPos t) t = iprop(cred (tallyAt (sCell c t) () nB) ∗ atPos ER (sCell c t) 0 ∅ 0) := by
    unfold SendF; rw [if_pos hl, if_neg (Nat.lt_irrefl _), if_pos hp]
  have e1 : SendF m c s (wPos t + 1) t = iprop(semVal (sCell c t) 0 ∗ paySend m c t) := by
    unfold SendF; rw [if_pos hl, if_pos (Nat.lt_succ_self _)]
  unfold Inv
  iintro ⟨#HR, ⟨%W, HO⟩, HX, HS, HRv, HG, HSt, HCs, HCu, HOu⟩
  ihave HS := (bigSep_univ_update (Φ := SendF m c s (wPos t)) (Ψ := SendF m c s (wPos t + 1)) t
    (fun j hj => SendF_next_w m c t hl j hj)) $$ HS
  rw [e0, e1]
  icases HS with ⟨⟨Hc, Ha⟩, HS⟩
  iapply (wp_wait_tr m K c (.inl t) hl hq hY W hlev) $$ [Hc HO Ha]
  · isplitr; · iexact HR
    isplitl [Hc]; · iexact Hc
    isplitl [HO]; · iexact HO
    iexact Ha
  iintro ⟨HO, Hz, Hp⟩
  iapply hk
  unfold Inv
  isplitr; · iexact HR
  isplitl [HO]; · iexact HO
  isplitl [HX]; · iexact HX
  isplitl [HS Hz Hp]
  · iapply HS
    isplitl [Hz]; · iexact Hz
    unfold payK
    iexact Hp
  isplitl [HRv]; · iexact HRv
  isplitl [HG]; · iexact HG
  isplitl [HSt]; · iexact HSt
  isplitl [HCs]; · iexact HCs
  isplitl [HCu]; · iexact HCu
  iexact HOu

/-- A send wait a device does not do. -/
theorem step_wskip (hj : ∀ t', live c t' = true → wPos t' ≠ w) {P : sProp 𝕄}
    (hk : Inv m K c s r (w + 1) b1 b2 fn ou ⊢ P) :
    Inv m K c s r w b1 b2 fn ou ⊢ P := by
  have eS : SendF m c s (w + 1) = SendF m c s w := funext fun j => by
    unfold SendF
    by_cases h : live c j = true
    · rw [if_pos h, if_pos h]
      have := hj j h
      exact if_congr (by omega) rfl rfl
    · rw [if_neg h, if_neg h]
  unfold Inv at hk ⊢
  rw [eS] at hk
  exact hk

end Transfers

end Cert.AllReduce

end
-- ==== Proof.Access.lean ====
module

public import proofs.«01_k».proof.Proof.Steps

@[expose] public section

set_option maxRecDepth 8000

/-!
# The loads and stores of the program
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## One slab -/

section Slab
variable (c : Dev nD) {α : Type} {sh : Shape} {e : EltTy} {M : Memref sig .tc .vmem sh e} {r : Rect sh} {hr : ∀ a, r.stride a = 1}
  {hq : r.shape.Squeezes S32x1024} {X : Memref sig .tc .vmem S32x1024 e}

/-- What a load of a slab reads. -/
theorem read_slab (hX : X = (M.slice r hr).squeeze S32x1024 hq) (f : X.view.ty.Contents (Elt F)) (v : Slab F e)
    (g : (M.access r).ty.Contents (Elt F)) (hg : HEq g (X.view.write (Elt F) f v Finset.univ)) :
    (M.access r).read (Elt F) g = shapeCast r.shape v hq.numel_eq.symm := by
  subst hX
  obtain rfl := eq_of_heq hg
  funext j
  have e2 : (M.access r).emb j = ((M.slice r hr).squeeze S32x1024 hq).view.emb (Shape.reshapeEquiv hq.numel_eq.symm j) := by
    show (M.access r).emb j = (M.access r).emb (Shape.reshapeEquiv hq.numel_eq (Shape.reshapeEquiv hq.numel_eq.symm j))
    rw [Shape.reshapeEquiv_reshapeEquiv, Shape.reshapeEquiv_self]
  show _root_.cast _ (((M.slice r hr).squeeze S32x1024 hq).view.write (Elt F) f v Finset.univ ((M.access r).emb j)) = _
  rw [e2, View.write_emb_of_mem _ _ (Finset.mem_univ _), cast_cast, cast_eq]
  rfl

/-- Loading a slab that is held. -/
theorem wp_load_slab (hX : X = (M.slice r hr).squeeze S32x1024 hq) (q : PosShare TreeShare) (v : Slab F e)
    {hl : M.view.LoadsAt r.toLoadRect} {k : (r.shape.Idx → Elt F e) → Prog (TpuEff nD τ sig (Elt F) Λ₀ .tc) α} {Q : α → sProp 𝕄} :
    slab m c X q v ⊢ iprop((slab m c X q v -∗ wpC c (k (shapeCast r.shape v hq.numel_eq.symm)) Q)
      -∗ wpC c (.op (.load M r.toLoadRect hl) k) Q) := by
  subst hX
  unfold slab
  have hs : (M.access r).set ⊆ ((M.slice r hr).squeeze S32x1024 hq).view.set :=
    subset_of_eq (View.set_reshape (M.access r) hq.numel_eq).symm
  rw [← read_slab (M := M) (r := r) (hr := hr) (hq := hq) rfl (m (((M.slice r hr).squeeze S32x1024 hq).view.loc (c : Thread nD τ))) v _ HEq.rfl]
  exact wp_load_rect 𝒱₀ (c : Thread nD τ) none Set.univ hs

/-- Loading a slab whose contents do not matter. -/
theorem wp_load_any (hX : X = (M.slice r hr).squeeze S32x1024 hq)
    {hl : M.view.LoadsAt r.toLoadRect} {k : (r.shape.Idx → Elt F e) → Prog (TpuEff nD τ sig (Elt F) Λ₀ .tc) α} {Q : α → sProp 𝕄} :
    (anyslab c X : sProp 𝕄) ⊢ iprop((∀ x, anyslab c X -∗ wpC c (k x) Q) -∗ wpC c (.op (.load M r.toLoadRect hl) k) Q) := by
  subst hX
  unfold anyslab
  have hs : (M.access r).set ⊆ ((M.slice r hr).squeeze S32x1024 hq).view.set :=
    subset_of_eq (View.set_reshape (M.access r) hq.numel_eq).symm
  iintro ⟨%f, H⟩ Hk
  iapply (wp_load_rect 𝒱₀ (c : Thread nD τ) none Set.univ (m := M) (r := r) (hl := hl) (k := k) (Q := Q) (q := fullShare)
    (f := f) hs) $$ H
  iintro H
  iapply Hk
  iexists f
  iexact H

/-- Storing a slab. -/
theorem wp_store_slab (hX : X = (M.slice r hr).squeeze S32x1024 hq) (v : Slab F e) {w : r.shape.Idx → Elt F e}
    (hw : shapeCast S32x1024 w hq.numel_eq = v)
    {hx : (M.access r).Stores Finset.univ} {hm : (Finset.univ : Finset r.shape.Idx) = Finset.univ ∨ ∀ a, r.stride a = 1}
    {k : PUnit → Prog (TpuEff nD τ sig (Elt F) Λ₀ .tc) α} {Q : α → sProp 𝕄} :
    (anyslab c X : sProp 𝕄) ⊢ iprop((slab m c X fullShare v -∗ wpC c (k ⟨⟩) Q) -∗ wpC c (.op (.store M r w Finset.univ hx hm) k) Q) := by
  subst hX
  have hr : ∀ f : Buf (Elt F) ((M.access r).loc (c : Thread nD τ)),
      ((M.slice r hr).squeeze S32x1024 hq).view.read (Elt F) ((M.access r).write (Elt F) f w Finset.univ) = v := fun f => by
    rw [← hw]
    funext j
    show _root_.cast _ ((M.access r).write (Elt F) f w Finset.univ ((M.access r).emb (Shape.reshapeEquiv hq.numel_eq j))) = _
    rw [View.write_emb_of_mem _ _ (Finset.mem_univ _), cast_cast, cast_eq]
    rfl
  rename ∀ a, r.stride a = 1 => hr'
  have hs : (M.access r).set ⊆ ((M.slice r hr').squeeze S32x1024 hq).view.set :=
    subset_of_eq (View.set_reshape (M.access r) hq.numel_eq).symm
  have hp : ∀ f : Buf (Elt F) ((M.access r).loc (c : Thread nD τ)),
      ((M.access r).loc (c : Thread nD τ) ↦[((M.slice r hr').squeeze S32x1024 hq).view.set]{fullShare} ((M.access r).write (Elt F) f w Finset.univ) : sProp 𝕄)
        ⊢ slab m c ((M.slice r hr').squeeze S32x1024 hq) fullShare v := fun f => by
    refine Entails.of_eq ((slab_of m c ((M.slice r hr').squeeze S32x1024 hq) fullShare ((M.access r).write (Elt F) f w Finset.univ)).trans ?_)
    rw [hr]
  unfold anyslab
  iintro ⟨%f, H⟩ Hk
  iapply (wp_store 𝒱₀ (c : Thread nD τ) none Set.univ (m := M) (r := r) (w := w) (Mk := Finset.univ) (hx := hx) (hm := hm) (k := k) (Q := Q)
    (f := f) hs) $$ H
  iintro H
  iapply Hk
  iapply (hp f)
  iexact H

end Slab

/-! ## From the state of the program -/

section Inv
variable (K : Dev nD × CI → ℕ) (c : Dev nD) {s r w b1 b2 fn ou : ℕ} {α : Type} {sh : Shape} {e : EltTy}
  {M : Memref sig .tc .vmem sh e} {R : Rect sh} {hr : ∀ a, R.stride a = 1}
  {hq : R.shape.Squeezes S32x1024} {X : Memref sig .tc .vmem S32x1024 e}

/-- Loading a slab the state holds. -/
theorem load_of {I : sProp 𝕄} {q : PosShare TreeShare} {v : Slab F e} (hacc : I ⊢ iprop(slab m c X q v ∗ (slab m c X q v -∗ I)))
    (hX : X = (M.slice R hr).squeeze S32x1024 hq)
    {hl : M.view.LoadsAt R.toLoadRect} {k : (R.shape.Idx → Elt F e) → Prog (TpuEff nD τ sig (Elt F) Λ₀ .tc) α} {Q : α → sProp 𝕄}
    (hk : I ⊢ wpC c (k (shapeCast R.shape v hq.numel_eq.symm)) Q) :
    I ⊢ wpC c (.op (.load M R.toLoadRect hl) k) Q := by
  refine hacc.trans ?_
  iintro ⟨H, Hb⟩
  iapply (wp_load_slab m c hX q v) $$ H
  iintro H
  iapply hk
  iapply Hb
  iexact H

/-- Loading a slab whose contents do not matter. -/
theorem load_any {I : sProp 𝕄} (hacc : I ⊢ iprop(anyslab c X ∗ (anyslab c X -∗ I)))
    (hX : X = (M.slice R hr).squeeze S32x1024 hq)
    {hl : M.view.LoadsAt R.toLoadRect} {k : (R.shape.Idx → Elt F e) → Prog (TpuEff nD τ sig (Elt F) Λ₀ .tc) α} {Q : α → sProp 𝕄}
    (hk : ∀ x, I ⊢ wpC c (k x) Q) :
    I ⊢ wpC c (.op (.load M R.toLoadRect hl) k) Q := by
  refine hacc.trans ?_
  iintro ⟨H, Hb⟩
  iapply (wp_load_any c hX) $$ H
  iintro %x H
  iapply (hk x)
  iapply Hb
  iexact H

/-- Storing a slab. -/
theorem store_of {I I' : sProp 𝕄} {v : Slab F e} (hacc : I ⊢ iprop(anyslab c X ∗ (slab m c X fullShare v -∗ I')))
    (hX : X = (M.slice R hr).squeeze S32x1024 hq) {x : R.shape.Idx → Elt F e} (hv : shapeCast S32x1024 x hq.numel_eq = v)
    {hx : (M.access R).Stores Finset.univ} {hm : (Finset.univ : Finset R.shape.Idx) = Finset.univ ∨ ∀ a, R.stride a = 1}
    {k : PUnit → Prog (TpuEff nD τ sig (Elt F) Λ₀ .tc) α} {Q : α → sProp 𝕄}
    (hk : I' ⊢ wpC c (k ⟨⟩) Q) :
    I ⊢ wpC c (.op (.store M R x Finset.univ hx hm) k) Q := by
  refine hacc.trans ?_
  iintro ⟨H, Hb⟩
  iapply (wp_store_slab m c hX v hv) $$ H
  iintro H
  iapply hk
  iapply Hb
  iexact H

/-- Taking one part of a part of the state, and putting another back. -/
theorem acc_mid {P A A' R' Y Y' : sProp 𝕄} (h : A ⊢ iprop(Y ∗ (Y' -∗ A'))) :
    iprop(P ∗ A ∗ R') ⊢ iprop(Y ∗ (Y' -∗ (P ∗ A' ∗ R'))) := by
  iintro ⟨HP, HA, HR⟩
  ihave HA := h $$ HA
  icases HA with ⟨HY, HA⟩
  isplitl [HY]; · iexact HY
  iintro HY
  isplitl [HP]; · iexact HP
  isplitl [HA HY]; · iapply HA; iexact HY
  iexact HR

/-- A part that changes, next to one that stays. -/
theorem acc_step {P A A' Y Y' : sProp 𝕄} (h : A ⊢ iprop(Y ∗ (Y' -∗ A'))) :
    iprop(P ∗ A) ⊢ iprop(Y ∗ (Y' -∗ (P ∗ A'))) := by
  iintro ⟨HP, HA⟩
  ihave HA := h $$ HA
  icases HA with ⟨HY, HA⟩
  isplitl [HY]; · iexact HY
  iintro HY
  isplitl [HP]; · iexact HP
  iapply HA; iexact HY

/-- The first of several parts changes. -/
theorem acc_fst {A A' R' Y Y' : sProp 𝕄} (h : A ⊢ iprop(Y ∗ (Y' -∗ A'))) :
    iprop(A ∗ R') ⊢ iprop(Y ∗ (Y' -∗ (A' ∗ R'))) := by
  iintro ⟨HA, HR⟩
  ihave HA := h $$ HA
  icases HA with ⟨HY, HA⟩
  isplitl [HY]; · iexact HY
  iintro HY
  isplitl [HA HY]; · iapply HA; iexact HY
  iexact HR

/-- A number as a half. -/
abbrev f2 (n : ℕ) : Fin 2 := ⟨n % 2, Nat.mod_lt _ (by decide)⟩

/-- The received slab of a transfer. -/
theorem acc_got (t : Tr) (hg : got c r fn t = true) :
    Inv m K c s r w b1 b2 fn ou ⊢ iprop(slab m c (rM t) (rq (cz c) s t) (rV m c t)
      ∗ (slab m c (rM t) (rq (cz c) s t) (rV m c t) -∗ Inv m K c s r w b1 b2 fn ou)) := by
  have h := bigSep_univ_update (Φ := GotF m c s r fn) (Ψ := GotF m c s r fn) t fun _ _ => rfl
  rw [show GotF m c s r fn t = slab m c (rM t) (rq (cz c) s t) (rV m c t) from if_pos hg] at h
  unfold Inv
  exact acc_step (acc_step (acc_step (acc_step (acc_step (acc_fst h)))))

/-- The own finished block, before it is finished. -/
theorem acc_cf (h' : Fin 2) (hh : h'.val = fn) :
    Inv m K c s r w b1 b2 fn ou ⊢ iprop(anyslab c (sl4 cfB (cz c) h') ∗ (anyslab c (sl4 cfB (cz c) h') -∗ Inv m K c s r w b1 b2 fn ou)) := by
  have h := bigSep_univ_update (Φ := GotF m c s r fn) (Ψ := GotF m c s r fn) (tC h' (cz c)) fun _ _ => rfl
  have e : GotF m c s r fn (tC h' (cz c)) = anyslab c (sl4 cfB (cz c) h') := by
    unfold GotF
    rw [if_neg, if_neg]
    · rfl
    · simp [rlive]
    · simp [got, hh]
  rw [e] at h
  unfold Inv
  exact acc_step (acc_step (acc_step (acc_step (acc_step (acc_fst h)))))

/-- The own finished block, while it is finished. -/
theorem acc_fin (h' : Fin 2) (hh : h'.val = fn) (hs : kq (cz c) s h' (cz c) = 0) :
    Inv m K c s r w b1 b2 fn ou ⊢ iprop(anyslab c (sl4 cfB (cz c) h')
      ∗ (slab m c (sl4 cfB (cz c) h') fullShare (cfV m c h') -∗ Inv m K c s r w b1 b2 (fn + 1) ou)) := by
  have h := bigSep_univ_update (Φ := GotF m c s r fn) (Ψ := GotF m c s r (fn + 1)) (tC h' (cz c)) fun t ht => by
    have e : got c r (fn + 1) t = got c r fn t := by
      rcases t with ⟨h, o, zp⟩ | ⟨h, o⟩ | ⟨h, zs⟩ | ⟨h, o, zs⟩
      · rfl
      · rfl
      · show (if zs = cz c then decide (h.val < fn + 1) else _) = (if zs = cz c then decide (h.val < fn) else _)
        by_cases hz : zs = cz c
        · subst hz
          rw [if_pos rfl, if_pos rfl]
          have hne : h.val ≠ fn := fun hx => ht (by rw [Fin.ext (hx.trans hh.symm)])
          exact decide_eq_decide.mpr (by omega)
        · rw [if_neg hz, if_neg hz]
      · rfl
    unfold GotF
    rw [e]
  have e : GotF m c s r fn (tC h' (cz c)) = anyslab c (sl4 cfB (cz c) h') := by
    unfold GotF
    rw [if_neg, if_neg]
    · rfl
    · simp [rlive]
    · simp [got, hh]
  have e' : GotF m c s r (fn + 1) (tC h' (cz c)) = slab m c (sl4 cfB (cz c) h') fullShare (cfV m c h') := by
    unfold GotF
    rw [if_pos (by simp [got, hh])]
    show slab m c (sl4 cfB (cz c) h') (Transfers.shareDrop fullShare (kq (cz c) s h' (cz c))) (cfV m (dev (cz c) (cw c)) h') = _
    rw [hs, dev_eta]
    rfl
  rw [e, e'] at h
  unfold Inv
  exact acc_step (acc_step (acc_step (acc_step (acc_step (acc_fst h)))))

/-- A kept plane sum. -/
theorem acc_cu (h' : Fin 2) (zp : Fin 4) (hh : 4 * h'.val + zp.val < b1) :
    Inv m K c s r w b1 b2 fn ou ⊢ iprop(slab m c (sl4 cuB zp h') fullShare (sumV m c zp h')
      ∗ (slab m c (sl4 cuB zp h') fullShare (sumV m c zp h') -∗ Inv m K c s r w b1 b2 fn ou)) := by
  have h := bigSep_univ_update (Φ := CuF m c b1) (Ψ := CuF m c b1) (h', zp) fun _ _ => rfl
  rw [show CuF m c b1 (h', zp) = slab m c (sl4 cuB zp h') fullShare (sumV m c zp h') from if_pos hh] at h
  unfold Inv
  exact acc_step (acc_step (acc_step (acc_step (acc_step (acc_step (acc_step (acc_step (acc_fst h))))))))

/-- The next plane sum to keep. -/
theorem acc_cu_any (h' : Fin 2) (zp : Fin 4) (hh : 4 * h'.val + zp.val = b1) :
    Inv m K c s r w b1 b2 fn ou ⊢ iprop(anyslab c (sl4 cuB zp h') ∗ (anyslab c (sl4 cuB zp h') -∗ Inv m K c s r w b1 b2 fn ou)) := by
  have h := bigSep_univ_update (Φ := CuF m c b1) (Ψ := CuF m c b1) (h', zp) fun _ _ => rfl
  rw [show CuF m c b1 (h', zp) = anyslab c (sl4 cuB zp h') from if_neg (by show ¬ (4 * h'.val + zp.val < b1); omega)] at h
  unfold Inv
  exact acc_step (acc_step (acc_step (acc_step (acc_step (acc_step (acc_step (acc_step (acc_fst h))))))))

/-- The wide sum's next slab, to be stored. -/
theorem acc_cu_st (h' : Fin 2) (zp : Fin 4) (hh : 4 * h'.val + zp.val = b1) :
    Inv m K c s r w b1 b2 fn ou ⊢ iprop(anyslab c (sl4 cuB zp h')
      ∗ (slab m c (sl4 cuB zp h') fullShare (sumV m c zp h') -∗ Inv m K c s r w (b1 + 1) b2 fn ou)) := by
  have h := bigSep_univ_update (Φ := CuF m c b1) (Ψ := CuF m c (b1 + 1)) (h', zp) fun x hx => by
    have hne : 4 * x.1.val + x.2.val ≠ b1 := fun hb => hx (by
      obtain ⟨x1, x2⟩ := x
      have := x2.isLt
      have := zp.isLt
      exact Prod.ext (Fin.ext (by show x1.val = h'.val; simp only at hb; omega)) (Fin.ext (by show x2.val = zp.val; simp only at hb; omega)))
    unfold CuF
    exact if_congr (by omega) rfl rfl
  rw [show CuF m c b1 (h', zp) = anyslab c (sl4 cuB zp h') from if_neg (by show ¬ (4 * h'.val + zp.val < b1); omega),
    show CuF m c (b1 + 1) (h', zp) = slab m c (sl4 cuB zp h') fullShare (sumV m c zp h') from
      if_pos (by show 4 * h'.val + zp.val < b1 + 1; omega)] at h
  unfold Inv
  exact acc_step (acc_step (acc_step (acc_step (acc_step (acc_step (acc_step (acc_step (acc_fst h))))))))

/-- The next plane sum to send. -/
theorem cs_any (h' : Fin 2) (zp : Fin 4) (hh : 4 * h'.val + zp.val = b2)
    (hs : live c (tB h' zp) = true → ¬ sPos (cz c) (tB h' zp) < s) : CsF m c s b2 (h', zp) = anyslab c (sl4 csB zp h') := by
  unfold CsF
  rw [if_neg fun hx => hs hx.1 hx.2, if_neg (by show ¬ (4 * h'.val + zp.val < b2); omega)]

/-- The narrow sum's next slab, at any contents. -/
theorem acc_cs_any (h' : Fin 2) (zp : Fin 4) (hh : 4 * h'.val + zp.val = b2)
    (hs : live c (tB h' zp) = true → ¬ sPos (cz c) (tB h' zp) < s) :
    Inv m K c s r w b1 b2 fn ou ⊢ iprop(anyslab c (sl4 csB zp h') ∗ (anyslab c (sl4 csB zp h') -∗ Inv m K c s r w b1 b2 fn ou)) := by
  have h := bigSep_univ_update (Φ := CsF m c s b2) (Ψ := CsF m c s b2) (h', zp) fun _ _ => rfl
  rw [cs_any m c h' zp hh hs] at h
  unfold Inv
  exact acc_step (acc_step (acc_step (acc_step (acc_step (acc_step (acc_step (acc_fst h)))))))

/-- The narrow sum's next slab, to be stored. -/
theorem acc_cs_st (h' : Fin 2) (zp : Fin 4) (hh : 4 * h'.val + zp.val = b2)
    (hs : live c (tB h' zp) = true → ¬ sPos (cz c) (tB h' zp) < s) :
    Inv m K c s r w b1 b2 fn ou ⊢ iprop(anyslab c (sl4 csB zp h')
      ∗ (slab m c (sl4 csB zp h') fullShare (cbV m c zp h') -∗ Inv m K c s r w b1 (b2 + 1) fn ou)) := by
  have h := bigSep_univ_update (Φ := CsF m c s b2) (Ψ := CsF m c s (b2 + 1)) (h', zp) fun x hx => by
    have hne : 4 * x.1.val + x.2.val ≠ b2 := fun hb => hx (by
      obtain ⟨x1, x2⟩ := x
      have := x2.isLt
      have := zp.isLt
      exact Prod.ext (Fin.ext (by show x1.val = h'.val; simp only at hb; omega)) (Fin.ext (by show x2.val = zp.val; simp only at hb; omega)))
    unfold CsF
    exact if_congr Iff.rfl rfl (if_congr (by omega) rfl rfl)
  have e' : CsF m c s (b2 + 1) (h', zp) = slab m c (sl4 csB zp h') fullShare (cbV m c zp h') := by
    unfold CsF
    rw [if_neg fun hx => hs hx.1 hx.2, if_pos (by show 4 * h'.val + zp.val < b2 + 1; omega)]
  rw [cs_any m c h' zp hh hs, e'] at h
  unfold Inv
  exact acc_step (acc_step (acc_step (acc_step (acc_step (acc_step (acc_step (acc_fst h)))))))

/-- The next slab of the result. -/
theorem acc_out_any (x : I3) (hx : oPos x = ou) :
    Inv m K c s r w b1 b2 fn ou ⊢ iprop(anyslab c (slO (blk x.2.2 (cw c + x.2.1)) x.1)
      ∗ (anyslab c (slO (blk x.2.2 (cw c + x.2.1)) x.1) -∗ Inv m K c s r w b1 b2 fn ou)) := by
  have h := bigSep_univ_update (Φ := OutF m c ou) (Ψ := OutF m c ou) x fun _ _ => rfl
  rw [show OutF m c ou x = anyslab c (slO (blk x.2.2 (cw c + x.2.1)) x.1) from if_neg (by omega)] at h
  unfold Inv
  exact acc_step (acc_step (acc_step (acc_step (acc_step (acc_step (acc_step (acc_step (acc_step h))))))))

/-- Different slabs of the result are stored at different times. -/
theorem oPos_inj : ∀ x y : I3, oPos x = oPos y → x = y := by decide +kernel

/-- The result's next slab, to be stored. -/
theorem acc_out_st (x : I3) (hx : oPos x = ou) :
    Inv m K c s r w b1 b2 fn ou ⊢ iprop(anyslab c (slO (blk x.2.2 (cw c + x.2.1)) x.1)
      ∗ (slab m c (slO (blk x.2.2 (cw c + x.2.1)) x.1) fullShare (cfV m (dev x.2.2 (cw c + x.2.1)) x.1) -∗ Inv m K c s r w b1 b2 fn (ou + 1))) := by
  have h := bigSep_univ_update (Φ := OutF m c ou) (Ψ := OutF m c (ou + 1)) x fun y hy => by
    have hne : oPos y ≠ ou := fun hb => hy (oPos_inj y x (hb.trans hx.symm))
    unfold OutF
    exact if_congr (by omega) rfl rfl
  rw [show OutF m c ou x = anyslab c (slO (blk x.2.2 (cw c + x.2.1)) x.1) from if_neg (by omega),
    show OutF m c (ou + 1) x = slab m c (slO (blk x.2.2 (cw c + x.2.1)) x.1) fullShare (cfV m (dev x.2.2 (cw c + x.2.1)) x.1) from
      if_pos (by omega)] at h
  unfold Inv
  exact acc_step (acc_step (acc_step (acc_step (acc_step (acc_step (acc_step (acc_step (acc_step h))))))))

end Inv

end Cert.AllReduce
-- ==== Proof.Moves.lean ====
module

public import proofs.«01_k».proof.Proof.Access

@[expose] public section

set_option maxRecDepth 8000

/-!
# The steps of the program in order

Each step of the program, as the program writes it, at the counts a device has
reached.  Which transfer, block or slab a step works on is a function of those
counts; what remains to check at a step is a statement about sixteen devices and
literal numbers.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Programs one after the other -/

section Seq
variable (c : Dev nD) {α β : Type}

/-- A program followed by another: prove the first for whatever must hold after it. -/
theorem bind_step {I : sProp 𝕄} {p : Prog (TpuEff nD τ sig (Elt F) Λ₀ .tc) α}
    {k : α → Prog (TpuEff nD τ sig (Elt F) Λ₀ .tc) β} {Q : β → sProp 𝕄}
    (h : ∀ Q' : α → sProp 𝕄, Q' = (fun x => wpC c (k x) Q) → I ⊢ wpC c p Q') : I ⊢ wpC c (p >>= k) Q := by
  have h' := h _ rfl
  show I ⊢ wp frame (wpE (defs₀ (F := F)) 𝒱₀ (c : Thread nD τ) none) Set.univ (p >>= k) Q
  rw [wp_bind]
  exact h'

/-- A program asks which device it runs on. -/
theorem dev_step {I : sProp 𝕄} {k : Dev nD → Prog (TpuEff nD τ sig (Elt F) Λ₀ .tc) α} {Q : α → sProp 𝕄}
    (h : I ⊢ wpC c (k c) Q) : I ⊢ wpC c (.op .deviceId k) Q := by
  show I ⊢ wp frame (wpE (defs₀ (F := F)) 𝒱₀ (c : Thread nD τ) none) Set.univ (.op .deviceId k) Q
  rw [wp_deviceId]
  exact h

/-- The end of a program. -/
theorem ret_step {I : sProp 𝕄} {x : α} {Q : α → sProp 𝕄} (h : I ⊢ Q x) :
    I ⊢ wpC c (.ret x) Q := by
  show I ⊢ wp frame (wpE (defs₀ (F := F)) 𝒱₀ (c : Thread nD τ) none) Set.univ (.ret x) Q
  rw [wp_ret]
  iintro H
  imodintro
  iapply h
  iexact H

/-- A program run for what it leaves, and then another. -/
theorem cut_step {I I' : sProp 𝕄} {p : Prog (TpuEff nD τ sig (Elt F) Λ₀ .tc) PUnit}
    {k : PUnit → Prog (TpuEff nD τ sig (Elt F) Λ₀ .tc) β} {Q : β → sProp 𝕄}
    (h : I ⊢ wpC c p (fun _ => I')) (hk : I' ⊢ wpC c (k ⟨⟩) Q) : I ⊢ wpC c (p >>= k) Q := by
  show I ⊢ wp frame (wpE (defs₀ (F := F)) 𝒱₀ (c : Thread nD τ) none) Set.univ (p >>= k) Q
  rw [wp_bind]
  exact h.trans (wp_mono _ _ _ fun _ => hk)

end Seq

/-! ## The argument -/

/-- A part of the argument's rows is a slab of its row blocks. -/
theorem xV_eq (c : Dev nD) (b : Fin 16) (h : Fin 2) {off : Fin 3 → ℕ} {hb} (ho : off = ![0, 64 * b.val + 32 * h.val, 0]) :
    (((Memref.whole cc0_stg0_0 : Memref sig .tc .vmem S1x1024x1024 .bf16)).access (Rect.unit (s := S1x1024x1024) off S1x32x1024.size hb)).read (Elt F) (xstg m c)
      = shapeCast S1x32x1024 (xV m c b h) shapeCasts_S32x1024_S1x32x1024 := by
  subst ho
  funext j
  have key : ∀ y : S16x64x1024.Idx, stC m c y
      = xstg m c (Shape.reshapeEquiv (shapeCasts_S1024x1024_S16x64x1024.trans shapeCasts_S1x1024x1024_S1024x1024) y) := fun y => by
    unfold stC k0_pay1
    rw [shapeCast_self]
    exact congrArg (xstg m c) (Shape.reshapeEquiv_reshapeEquiv _ _ y)
  have e1 : shapeCast S1x32x1024 (xV m c b h) shapeCasts_S32x1024_S1x32x1024 j
      = stC m c ((Rect.unit (s := S16x64x1024) (o3 b h) S1x32x1024.size (inb16 b h)).emb j) := by
    show stC m c ((Rect.unit (s := S16x64x1024) (o3 b h) S1x32x1024.size (inb16 b h)).emb
      (Shape.reshapeEquiv _ (Shape.reshapeEquiv shapeCasts_S32x1024_S1x32x1024 j))) = _
    rw [Shape.reshapeEquiv_reshapeEquiv, Shape.reshapeEquiv_self]
  rw [e1, key]
  show xstg m c (((Memref.whole cc0_stg0_0 : Memref sig .tc .vmem S1x1024x1024 .bf16).access _).emb j) = _
  refine congrArg (xstg m c) (Eq.symm ?_)
  refine Shape.reshapeEquiv_eq_of_rowMajor _ ?_
  have h0 : (j 0).val = 0 := by have : (j 0).val < 1 := (j 0).isLt; omega
  have hA : ((Shape.rowMajor S1x1024x1024) (((Memref.whole cc0_stg0_0 : Memref sig .tc .vmem S1x1024x1024 .bf16).access
      (Rect.unit (s := S1x1024x1024) ![0, 64 * b.val + 32 * h.val, 0] S1x32x1024.size hb)).emb j)).val
      = (64 * b.val + 32 * h.val + (j 1).val) * 1024 + (j 2).val := by
    rw [Shape.rowMajor_val_three]
    show ((0 + 1 * (j 0).val) * 1024 + (64 * b.val + 32 * h.val + 1 * (j 1).val)) * 1024 + (0 + 1 * (j 2).val) = _
    omega
  have hB : ((Shape.rowMajor S16x64x1024) ((Rect.unit (s := S16x64x1024) (o3 b h) S1x32x1024.size (inb16 b h)).emb j)).val
      = (64 * b.val + 32 * h.val + (j 1).val) * 1024 + (j 2).val := by
    rw [Shape.rowMajor_val_three]
    show ((b.val + 1 * (j 0).val) * 64 + (32 * h.val + 1 * (j 1).val)) * 1024 + (0 + 1 * (j 2).val) = _
    omega
  exact hA.trans hB.symm

section Moves
variable (K : Dev nD × CI → ℕ) (c : Dev nD) {s r w b1 b2 fn ou : ℕ} {α : Type}

/-- The argument, from the state. -/
theorem acc_x : Inv m K c s r w b1 b2 fn ou ⊢ iprop((((c : Thread nD τ).loc cc0_stg0_0) ↦{fullShare} (xstg m c))
    ∗ ((((c : Thread nD τ).loc cc0_stg0_0) ↦{fullShare} (xstg m c)) -∗ Inv m K c s r w b1 b2 fn ou)) := by
  have h : XF m c ⊢ iprop((((c : Thread nD τ).loc cc0_stg0_0) ↦{fullShare} (xstg m c))
      ∗ ((((c : Thread nD τ).loc cc0_stg0_0) ↦{fullShare} (xstg m c)) -∗ XF m c)) := by
    unfold XF
    iintro ⟨H, Hz⟩
    isplitl [H]; · iexact H
    iintro H
    isplitl [H]; · iexact H
    iexact Hz
  unfold Inv
  exact acc_step (acc_step (acc_fst h))

/-- The load rule at a buffer held whole. -/
theorem wp_load_whole {sh : Shape} {e : EltTy} {M : Memref sig .tc .vmem sh e} {R : Rect sh} {v : R.shape.Idx → Elt F e}
    (f : Buf (Elt F) ((M.access R).loc (c : Thread nD τ)))
    (hv : (M.access R).read (Elt F) f = v)
    {hl : M.view.LoadsAt R.toLoadRect} {k : (R.shape.Idx → Elt F e) → Prog (TpuEff nD τ sig (Elt F) Λ₀ .tc) α} {Q : α → sProp 𝕄} :
    ((M.access R).loc (c : Thread nD τ) ↦{fullShare} f : sProp 𝕄)
      ⊢ iprop((((M.access R).loc (c : Thread nD τ) ↦{fullShare} f) -∗ wpC c (k v) Q)
        -∗ wpC c (.op (.load M R.toLoadRect hl) k) Q) := by
  subst hv
  exact wp_load_rect 𝒱₀ (c : Thread nD τ) none Set.univ (Finset.subset_univ _)

/-- Loading part of a buffer held whole, taken out of what is held. -/
theorem load_whole {sh : Shape} {e : EltTy} {M : Memref sig .tc .vmem sh e} {R : Rect sh} {v : R.shape.Idx → Elt F e} {I : sProp 𝕄}
    (f : Buf (Elt F) ((M.access R).loc (c : Thread nD τ)))
    (hacc : I ⊢ iprop(((M.access R).loc (c : Thread nD τ) ↦{fullShare} f) ∗ (((M.access R).loc (c : Thread nD τ) ↦{fullShare} f) -∗ I)))
    (hv : (M.access R).read (Elt F) f = v)
    {hl : M.view.LoadsAt R.toLoadRect} {k : (R.shape.Idx → Elt F e) → Prog (TpuEff nD τ sig (Elt F) Λ₀ .tc) α} {Q : α → sProp 𝕄}
    (hk : I ⊢ wpC c (k v) Q) :
    I ⊢ wpC c (.op (.load M R.toLoadRect hl) k) Q := by
  refine hacc.trans ?_
  iintro ⟨H, Hb⟩
  iapply (wp_load_whole c f hv) $$ H
  iintro H
  iapply hk
  iapply Hb
  iexact H

/-- The argument, as the program names it. -/
abbrev xB : Memref sig .tc .vmem S1x1024x1024 .bf16 := Memref.whole cc0_stg0_0

/-- Loading a part of the argument. -/
theorem mv_ld_x {off : Fin 3 → ℕ} {hb}
    (ho : off = ![0, 64 * (blk (f4 b1) (cw c)).val + 32 * (f2 (b1 / 4)).val, 0])
    {hl : xB.view.LoadsAt (Rect.unit (s := S1x1024x1024) off S1x32x1024.size hb).toLoadRect}
    {k : ((Rect.unit (s := S1x1024x1024) off S1x32x1024.size hb).shape.Idx → Elt F .bf16) → Prog (TpuEff nD τ sig (Elt F) Λ₀ .tc) α} {Q : α → sProp 𝕄}
    (hk : Inv m K c s r w b1 b2 fn ou ⊢ wpC c (k (shapeCast S1x32x1024 (xV m c (blk (f4 b1) (cw c)) (f2 (b1 / 4))) shapeCasts_S32x1024_S1x32x1024)) Q) :
    Inv m K c s r w b1 b2 fn ou ⊢ wpC c (.op (.load xB
      (Rect.unit (s := S1x1024x1024) off S1x32x1024.size hb).toLoadRect hl) k) Q := by
  have h := xV_eq m c (blk (f4 b1) (cw c)) (f2 (b1 / 4)) (hb := hb) ho
  refine load_whole (M := xB) (R := (Rect.unit (s := S1x1024x1024) off S1x32x1024.size hb)) c (xstg m c) ?_ h hk
  exact (acc_x m K c)

/-! ## Loads -/

/-- Loading a slab received in the first exchange. -/
theorem mv_ld_p1 (o : Fin 4) {off : Fin 4 → ℕ} {hb}
    (ho : off = o4 o (f4 b1) (f2 (b1 / 4)) ∧ got c r fn (tA (f2 (b1 / 4)) o (f4 b1)) = true)
    {hl} {k : (S1x1x32x1024.Idx → Elt F .bf16) → Prog (TpuEff nD τ sig (Elt F) Λ₀ .tc) α} {Q : α → sProp 𝕄}
    (hk : Inv m K c s r w b1 b2 fn ou ⊢ wpC c (k (shapeCast S1x1x32x1024
      (xV m (dev (cz c) (cw c + o)) (blk (f4 b1) (cw c)) (f2 (b1 / 4))) shapeCasts_S1x1x32x1024_S32x1024.symm)) Q) :
    Inv m K c s r w b1 b2 fn ou ⊢ wpC c (.op (.load p1B (Rect.unit (s := S4x4x64x1024) off S1x1x32x1024.size hb).toLoadRect hl) k) Q :=
  load_of m c (acc_got m K c (tA (f2 (b1 / 4)) o (f4 b1)) ho.2)
    (sl44_of (hb := hb) p1B o (f4 b1) (f2 (b1 / 4)) ho.1).symm hk

/-- Loading a slab received in the second exchange. -/
theorem mv_ld_p2 (o : Fin 4) {off : Fin 3 → ℕ} {hb}
    (ho : off = o3 o (f2 fn) ∧ got c r fn (tB (f2 fn) o) = true)
    {hl} {k : (S1x32x1024.Idx → Elt F .bf16) → Prog (TpuEff nD τ sig (Elt F) Λ₀ .tc) α} {Q : α → sProp 𝕄}
    (hk : Inv m K c s r w b1 b2 fn ou ⊢ wpC c (k (shapeCast S1x32x1024
      (cbV m (dev (cz c + o) (cw c)) (cz c) (f2 fn)) shapeCasts_S32x1024_S1x32x1024)) Q) :
    Inv m K c s r w b1 b2 fn ou ⊢ wpC c (.op (.load p2B (Rect.unit (s := S4x64x1024) off S1x32x1024.size hb).toLoadRect hl) k) Q :=
  load_of m c (acc_got m K c (tB (f2 fn) o) ho.2) (sl4_of (hb := hb) p2B o (f2 fn) ho.1).symm hk

/-- Loading the plane sum of the own row block. -/
theorem mv_ld_cu {off : Fin 3 → ℕ} {hb}
    (ho : off = o3 (cz c) (f2 fn) ∧ 4 * (f2 fn).val + (cz c).val < b1)
    {hl} {k : (S1x32x1024.Idx → Elt F .f32) → Prog (TpuEff nD τ sig (Elt F) Λ₀ .tc) α} {Q : α → sProp 𝕄}
    (hk : Inv m K c s r w b1 b2 fn ou ⊢ wpC c (k (shapeCast S1x32x1024
      (sumV m c (cz c) (f2 fn)) shapeCasts_S32x1024_S1x32x1024)) Q) :
    Inv m K c s r w b1 b2 fn ou ⊢ wpC c (.op (.load cuB (Rect.unit (s := S4x64x1024) off S1x32x1024.size hb).toLoadRect hl) k) Q :=
  load_of m c (acc_cu m K c (f2 fn) (cz c) ho.2) (sl4_of (hb := hb) cuB (cz c) (f2 fn) ho.1).symm hk

/-- Loading a finished row block of the device's place. -/
theorem mv_ld_cf {off : Fin 3 → ℕ} {hb}
    (ho : off = o3 (f4 ou) (f2 (ou / 16)) ∧ got c r fn (tC (f2 (ou / 16)) (f4 ou)) = true)
    {hl} {k : (S1x32x1024.Idx → Elt F .bf16) → Prog (TpuEff nD τ sig (Elt F) Λ₀ .tc) α} {Q : α → sProp 𝕄}
    (hk : Inv m K c s r w b1 b2 fn ou ⊢ wpC c (k (shapeCast S1x32x1024
      (cfV m (dev (f4 ou) (cw c)) (f2 (ou / 16))) shapeCasts_S32x1024_S1x32x1024)) Q) :
    Inv m K c s r w b1 b2 fn ou ⊢ wpC c (.op (.load cfB (Rect.unit (s := S4x64x1024) off S1x32x1024.size hb).toLoadRect hl) k) Q :=
  load_of m c (acc_got m K c (tC (f2 (ou / 16)) (f4 ou)) ho.2) (sl4_of (hb := hb) cfB (f4 ou) (f2 (ou / 16)) ho.1).symm hk

/-- Loading a finished row block of the device's plane or beyond. -/
theorem mv_ld_pg {off : Fin 4 → ℕ} {hb}
    (ho : off = o4 (f4 (ou % 16 / 4 + 1)) (f4 ou) (f2 (ou / 16)) ∧ got c r fn (tD (f2 (ou / 16)) (f4 (ou % 16 / 4 + 1)) (f4 ou)) = true)
    {hl} {k : (S1x1x32x1024.Idx → Elt F .bf16) → Prog (TpuEff nD τ sig (Elt F) Λ₀ .tc) α} {Q : α → sProp 𝕄}
    (hk : Inv m K c s r w b1 b2 fn ou ⊢ wpC c (k (shapeCast S1x1x32x1024
      (cfV m (dev (f4 ou) (cw c + f4 (ou % 16 / 4 + 1))) (f2 (ou / 16))) shapeCasts_S1x1x32x1024_S32x1024.symm)) Q) :
    Inv m K c s r w b1 b2 fn ou ⊢ wpC c (.op (.load pgB (Rect.unit (s := S4x4x64x1024) off S1x1x32x1024.size hb).toLoadRect hl) k) Q :=
  load_of m c (acc_got m K c (tD (f2 (ou / 16)) (f4 (ou % 16 / 4 + 1)) (f4 ou)) ho.2)
    (sl44_of (hb := hb) pgB (f4 (ou % 16 / 4 + 1)) (f4 ou) (f2 (ou / 16)) ho.1).symm hk

/-! ## Loads before a store: what is read does not matter -/

/-- Loading the place of a plane sum. -/
theorem mv_ld_cu_any {off : Fin 3 → ℕ} {hb}
    (ho : off = o3 (f4 b1) (f2 (b1 / 4)) ∧ 4 * (f2 (b1 / 4)).val + (f4 b1).val = b1)
    {hl} {k : (S1x32x1024.Idx → Elt F .f32) → Prog (TpuEff nD τ sig (Elt F) Λ₀ .tc) α} {Q : α → sProp 𝕄}
    (hk : ∀ x, Inv m K c s r w b1 b2 fn ou ⊢ wpC c (k x) Q) :
    Inv m K c s r w b1 b2 fn ou ⊢ wpC c (.op (.load cuB (Rect.unit (s := S4x64x1024) off S1x32x1024.size hb).toLoadRect hl) k) Q :=
  load_any c (acc_cu_any m K c (f2 (b1 / 4)) (f4 b1) ho.2) (sl4_of (hb := hb) cuB (f4 b1) (f2 (b1 / 4)) ho.1).symm hk

/-- Loading the place of a plane sum to send. -/
theorem mv_ld_cs_any {off : Fin 3 → ℕ} {hb}
    (ho : off = o3 (f4 b2) (f2 (b2 / 4)) ∧ 4 * (f2 (b2 / 4)).val + (f4 b2).val = b2
      ∧ (live c (tB (f2 (b2 / 4)) (f4 b2)) = true → ¬ sPos (cz c) (tB (f2 (b2 / 4)) (f4 b2)) < s))
    {hl} {k : (S1x32x1024.Idx → Elt F .bf16) → Prog (TpuEff nD τ sig (Elt F) Λ₀ .tc) α} {Q : α → sProp 𝕄}
    (hk : ∀ x, Inv m K c s r w b1 b2 fn ou ⊢ wpC c (k x) Q) :
    Inv m K c s r w b1 b2 fn ou ⊢ wpC c (.op (.load csB (Rect.unit (s := S4x64x1024) off S1x32x1024.size hb).toLoadRect hl) k) Q :=
  load_any c (acc_cs_any m K c (f2 (b2 / 4)) (f4 b2) ho.2.1 ho.2.2) (sl4_of (hb := hb) csB (f4 b2) (f2 (b2 / 4)) ho.1).symm hk

/-- Loading the place of the own finished row block. -/
theorem mv_ld_cf_any {off : Fin 3 → ℕ} {hb}
    (ho : off = o3 (cz c) (f2 fn) ∧ (f2 fn).val = fn)
    {hl} {k : (S1x32x1024.Idx → Elt F .bf16) → Prog (TpuEff nD τ sig (Elt F) Λ₀ .tc) α} {Q : α → sProp 𝕄}
    (hk : ∀ x, Inv m K c s r w b1 b2 fn ou ⊢ wpC c (k x) Q) :
    Inv m K c s r w b1 b2 fn ou ⊢ wpC c (.op (.load cfB (Rect.unit (s := S4x64x1024) off S1x32x1024.size hb).toLoadRect hl) k) Q :=
  load_any c (acc_cf m K c (f2 fn) ho.2) (sl4_of (hb := hb) cfB (cz c) (f2 fn) ho.1).symm hk

/-- The place the next store of the result goes to. -/
abbrev oAt (n : ℕ) : I3 := (f2 (n / 16), f4 (n % 16 / 4 + 1), f4 n)

/-- A slab of the result named by the place where it begins. -/
theorem slO_of {off : Fin 2 → ℕ} {hb} (b : Fin 16) (h : Fin 2) (ho : off = ![64 * b.val + 32 * h.val, 0]) :
    slO b h = ((Memref.whole cc0_stg1_0 : Memref sig .tc .vmem S1024x1024 .bf16).slice
      (Rect.unit (s := S1024x1024) off S32x1024.size hb) (fun _ => rfl)).squeeze S32x1024 (Shape.Squeezes.refl S32x1024) := by
  subst ho; rfl

/-- Loading the place of a slab of the result. -/
theorem mv_ld_out_any {off : Fin 2 → ℕ} {hb}
    (ho : off = ![64 * (blk (oAt ou).2.2 (cw c + (oAt ou).2.1)).val + 32 * (oAt ou).1.val, 0] ∧ oPos (oAt ou) = ou)
    {hl} {k : (S32x1024.Idx → Elt F .bf16) → Prog (TpuEff nD τ sig (Elt F) Λ₀ .tc) α} {Q : α → sProp 𝕄}
    (hk : ∀ x, Inv m K c s r w b1 b2 fn ou ⊢ wpC c (k x) Q) :
    Inv m K c s r w b1 b2 fn ou ⊢ wpC c (.op (.load (Memref.whole cc0_stg1_0 : Memref sig .tc .vmem S1024x1024 .bf16)
      (Rect.unit (s := S1024x1024) off S32x1024.size hb).toLoadRect hl) k) Q :=
  load_any c (acc_out_any m K c (oAt ou) ho.2) (slO_of _ _ ho.1) hk

/-! ## Stores -/

/-- Keeping a plane sum. -/
theorem mv_st_cu {off : Fin 3 → ℕ} {hb}
    (ho : off = o3 (f4 b1) (f2 (b1 / 4)) ∧ 4 * (f2 (b1 / 4)).val + (f4 b1).val = b1)
    {x : S1x32x1024.Idx → Elt F .f32} (hv : shapeCast S32x1024 x shapeCasts_S1x32x1024_S32x1024 = sumV m c (f4 b1) (f2 (b1 / 4)))
    {hx hm} {k : PUnit → Prog (TpuEff nD τ sig (Elt F) Λ₀ .tc) α} {Q : α → sProp 𝕄}
    (hk : Inv m K c s r w (b1 + 1) b2 fn ou ⊢ wpC c (k ⟨⟩) Q) :
    Inv m K c s r w b1 b2 fn ou ⊢ wpC c (.op (.store cuB (Rect.unit (s := S4x64x1024) off S1x32x1024.size hb) x Finset.univ hx hm) k) Q :=
  store_of m c (acc_cu_st m K c (f2 (b1 / 4)) (f4 b1) ho.2) (sl4_of (hb := hb) cuB (f4 b1) (f2 (b1 / 4)) ho.1).symm hv hk

/-- Storing a plane sum to send. -/
theorem mv_st_cs {off : Fin 3 → ℕ} {hb}
    (ho : off = o3 (f4 b2) (f2 (b2 / 4)) ∧ 4 * (f2 (b2 / 4)).val + (f4 b2).val = b2
      ∧ (live c (tB (f2 (b2 / 4)) (f4 b2)) = true → ¬ sPos (cz c) (tB (f2 (b2 / 4)) (f4 b2)) < s))
    {x : S1x32x1024.Idx → Elt F .bf16} (hv : shapeCast S32x1024 x shapeCasts_S1x32x1024_S32x1024 = cbV m c (f4 b2) (f2 (b2 / 4)))
    {hx hm} {k : PUnit → Prog (TpuEff nD τ sig (Elt F) Λ₀ .tc) α} {Q : α → sProp 𝕄}
    (hk : Inv m K c s r w b1 (b2 + 1) fn ou ⊢ wpC c (k ⟨⟩) Q) :
    Inv m K c s r w b1 b2 fn ou ⊢ wpC c (.op (.store csB (Rect.unit (s := S4x64x1024) off S1x32x1024.size hb) x Finset.univ hx hm) k) Q :=
  store_of m c (acc_cs_st m K c (f2 (b2 / 4)) (f4 b2) ho.2.1 ho.2.2) (sl4_of (hb := hb) csB (f4 b2) (f2 (b2 / 4)) ho.1).symm hv hk

/-- Storing the own finished row block. -/
theorem mv_st_cf {off : Fin 3 → ℕ} {hb}
    (ho : off = o3 (cz c) (f2 fn) ∧ (f2 fn).val = fn ∧ kq (cz c) s (f2 fn) (cz c) = 0)
    {x : S1x32x1024.Idx → Elt F .bf16} (hv : shapeCast S32x1024 x shapeCasts_S1x32x1024_S32x1024 = cfV m c (f2 fn))
    {hx hm} {k : PUnit → Prog (TpuEff nD τ sig (Elt F) Λ₀ .tc) α} {Q : α → sProp 𝕄}
    (hk : Inv m K c s r w b1 b2 (fn + 1) ou ⊢ wpC c (k ⟨⟩) Q) :
    Inv m K c s r w b1 b2 fn ou ⊢ wpC c (.op (.store cfB (Rect.unit (s := S4x64x1024) off S1x32x1024.size hb) x Finset.univ hx hm) k) Q :=
  store_of m c (acc_fin m K c (f2 fn) ho.2.1 ho.2.2) (sl4_of (hb := hb) cfB (cz c) (f2 fn) ho.1).symm hv hk

/-- Storing a slab of the result. -/
theorem mv_st_out {off : Fin 2 → ℕ} {hb}
    (ho : off = ![64 * (blk (oAt ou).2.2 (cw c + (oAt ou).2.1)).val + 32 * (oAt ou).1.val, 0] ∧ oPos (oAt ou) = ou)
    {x : S32x1024.Idx → Elt F .bf16}
    (hv : shapeCast S32x1024 x rfl = cfV m (dev (oAt ou).2.2 (cw c + (oAt ou).2.1)) (oAt ou).1)
    {hx hm} {k : PUnit → Prog (TpuEff nD τ sig (Elt F) Λ₀ .tc) α} {Q : α → sProp 𝕄}
    (hk : Inv m K c s r w b1 b2 fn (ou + 1) ⊢ wpC c (k ⟨⟩) Q) :
    Inv m K c s r w b1 b2 fn ou ⊢ wpC c (.op (.store (Memref.whole cc0_stg1_0 : Memref sig .tc .vmem S1024x1024 .bf16)
      (Rect.unit (s := S1024x1024) off S32x1024.size hb) x Finset.univ hx hm) k) Q :=
  store_of m c (acc_out_st m K c (oAt ou) ho.2) (slO_of _ _ ho.1) hv hk

/-- No distance on is the same place. -/
theorem f4_plus_zero : ∀ a b : Fin 4, b = 0 → a = a + b := by decide

/-- Storing a slab of the result that comes from the device's own place. -/
theorem mv_st_own {off : Fin 2 → ℕ} {hb}
    (ho : off = ![64 * (blk (oAt ou).2.2 (cw c + (oAt ou).2.1)).val + 32 * (oAt ou).1.val, 0] ∧ oPos (oAt ou) = ou ∧ (oAt ou).2.1 = 0)
    {x : S32x1024.Idx → Elt F .bf16}
    (hv : shapeCast S32x1024 x rfl = cfV m (dev (oAt ou).2.2 (cw c)) (oAt ou).1)
    {hx hm} {k : PUnit → Prog (TpuEff nD τ sig (Elt F) Λ₀ .tc) α} {Q : α → sProp 𝕄}
    (hk : Inv m K c s r w b1 b2 fn (ou + 1) ⊢ wpC c (k ⟨⟩) Q) :
    Inv m K c s r w b1 b2 fn ou ⊢ wpC c (.op (.store (Memref.whole cc0_stg1_0 : Memref sig .tc .vmem S1024x1024 .bf16)
      (Rect.unit (s := S1024x1024) off S32x1024.size hb) x Finset.univ hx hm) k) Q :=
  mv_st_out m K c ⟨ho.1, ho.2.1⟩
    (hv.trans (congrArg (fun w => cfV m (dev (oAt ou).2.2 w) (oAt ou).1) (f4_plus_zero (cw c) (oAt ou).2.1 ho.2.2))) hk

/-! ## Sends and waits -/

/-- The coordinates of a transfer of the first or fourth exchange. -/
def c3 : Tr → I3
  | tA h j zp => (h, j, zp)
  | tD h j zs => (h, j, zs)
  | _ => (0, 0, 0)

/-- The coordinates of a transfer of the second or third exchange. -/
def c2 : Tr → I2
  | tB h zp => (h, zp)
  | tC h j => (h, j)
  | _ => (0, 0)

/-- A send of the first exchange. -/
theorem mv_sendA {n : ℕ} {hn : n < nD} {off1 : Fin 3 → ℕ} {off2 : Fin 4 → ℕ} {hb1 hb2} {q1 q2 : DmaSem sig}
    (hd : live c (tA (c3 (sAt (cz c) s)).1 (c3 (sAt (cz c) s)).2.1 (c3 (sAt (cz c) s)).2.2) = true ∧ sPos (cz c) (tA (c3 (sAt (cz c) s)).1 (c3 (sAt (cz c) s)).2.1 (c3 (sAt (cz c) s)).2.2) = s ∧ n = (tgt c (tA (c3 (sAt (cz c) s)).1 (c3 (sAt (cz c) s)).2.1 (c3 (sAt (cz c) s)).2.2)).val ∧ off1 = o3 (blk (c3 (sAt (cz c) s)).2.2 (cw c + (c3 (sAt (cz c) s)).2.1)) (c3 (sAt (cz c) s)).1
      ∧ off2 = o4 (-(c3 (sAt (cz c) s)).2.1) (c3 (sAt (cz c) s)).2.2 (c3 (sAt (cz c) s)).1 ∧ q1 = semS (tA (c3 (sAt (cz c) s)).1 (c3 (sAt (cz c) s)).2.1 (c3 (sAt (cz c) s)).2.2) ∧ q2 = semR (rix c (tA (c3 (sAt (cz c) s)).1 (c3 (sAt (cz c) s)).2.1 (c3 (sAt (cz c) s)).2.2)))
    {hsc hsrc hdst hsem}
    {k : PUnit → Prog (TpuEff nD τ sig (Elt F) Λ₀ .tc) α} {Q : α → sProp 𝕄}
    (hk : Inv m K c (s + 1) r 0 b1 b2 fn ou ⊢ wpC c (k ⟨⟩) Q) :
    Inv m K c s r 0 b1 b2 fn ou
      ⊢ wpC c (.op (.enqueueDma ((stB.slice (Rect.unit (s := S16x64x1024) off1 S1x32x1024.size hb1) (fun _ => rfl)).squeeze
          S32x1024 squeezes_S1x32x1024_S32x1024)
        (.remote (Dev.tc (⟨n, hn⟩ : Dev nD) : Thread nD τ) ((p1B.slice (Rect.unit (s := S4x4x64x1024) off2 S1x1x32x1024.size hb2) (fun _ => rfl)).squeeze
          S32x1024 squeezes_S1x1x32x1024_S32x1024) (.dma q1) hsc) (.dma q2) hsrc hdst hsem) k) Q :=
  step_send m K c ⟨n, hn⟩ (tA (c3 (sAt (cz c) s)).1 (c3 (sAt (cz c) s)).2.1 (c3 (sAt (cz c) s)).2.2) hd.1 hd.2.1 rfl (Fin.ext hd.2.2.1) (sl16_of stB _ _ hd.2.2.2.1)
    (sl44_of p1B _ _ _ hd.2.2.2.2.1) hd.2.2.2.2.2.1 hd.2.2.2.2.2.2 hk

/-- A send of the second exchange. -/
theorem mv_sendB {n : ℕ} {hn : n < nD} {off1 : Fin 3 → ℕ} {off2 : Fin 3 → ℕ} {hb1 hb2} {q1 q2 : DmaSem sig}
    (hd : live c (tB (c2 (sAt (cz c) s)).1 (c2 (sAt (cz c) s)).2) = true ∧ sPos (cz c) (tB (c2 (sAt (cz c) s)).1 (c2 (sAt (cz c) s)).2) = s ∧ 4 * (c2 (sAt (cz c) s)).1.val + (c2 (sAt (cz c) s)).2.val < b2 ∧ n = (tgt c (tB (c2 (sAt (cz c) s)).1 (c2 (sAt (cz c) s)).2)).val ∧ off1 = o3 (c2 (sAt (cz c) s)).2 (c2 (sAt (cz c) s)).1
      ∧ off2 = o3 (cz c - (c2 (sAt (cz c) s)).2) (c2 (sAt (cz c) s)).1 ∧ q1 = semS (tB (c2 (sAt (cz c) s)).1 (c2 (sAt (cz c) s)).2) ∧ q2 = semR (rix c (tB (c2 (sAt (cz c) s)).1 (c2 (sAt (cz c) s)).2)))
    {hsc hsrc hdst hsem}
    {k : PUnit → Prog (TpuEff nD τ sig (Elt F) Λ₀ .tc) α} {Q : α → sProp 𝕄}
    (hk : Inv m K c (s + 1) r 0 b1 b2 fn ou ⊢ wpC c (k ⟨⟩) Q) :
    Inv m K c s r 0 b1 b2 fn ou
      ⊢ wpC c (.op (.enqueueDma ((csB.slice (Rect.unit (s := S4x64x1024) off1 S1x32x1024.size hb1) (fun _ => rfl)).squeeze
          S32x1024 squeezes_S1x32x1024_S32x1024)
        (.remote (Dev.tc (⟨n, hn⟩ : Dev nD) : Thread nD τ) ((p2B.slice (Rect.unit (s := S4x64x1024) off2 S1x32x1024.size hb2) (fun _ => rfl)).squeeze
          S32x1024 squeezes_S1x32x1024_S32x1024) (.dma q1) hsc) (.dma q2) hsrc hdst hsem) k) Q :=
  step_send m K c ⟨n, hn⟩ (tB (c2 (sAt (cz c) s)).1 (c2 (sAt (cz c) s)).2) hd.1 hd.2.1 (decide_eq_true hd.2.2.1) (Fin.ext hd.2.2.2.1) (sl4_of csB _ _ hd.2.2.2.2.1)
    (sl4_of p2B _ _ hd.2.2.2.2.2.1) hd.2.2.2.2.2.2.1 hd.2.2.2.2.2.2.2 hk

/-- A send of the third exchange. -/
theorem mv_sendC {n : ℕ} {hn : n < nD} {off1 : Fin 3 → ℕ} {off2 : Fin 3 → ℕ} {hb1 hb2} {q1 q2 : DmaSem sig}
    (hd : live c (tC (c2 (sAt (cz c) s)).1 (c2 (sAt (cz c) s)).2) = true ∧ sPos (cz c) (tC (c2 (sAt (cz c) s)).1 (c2 (sAt (cz c) s)).2) = s ∧ got c r fn (tC (c2 (sAt (cz c) s)).1 (cz c)) = true ∧ n = (tgt c (tC (c2 (sAt (cz c) s)).1 (c2 (sAt (cz c) s)).2)).val
      ∧ off1 = o3 (cz c) (c2 (sAt (cz c) s)).1 ∧ off2 = o3 (cz c) (c2 (sAt (cz c) s)).1 ∧ q1 = semS (tC (c2 (sAt (cz c) s)).1 (c2 (sAt (cz c) s)).2) ∧ q2 = semR (rix c (tC (c2 (sAt (cz c) s)).1 (c2 (sAt (cz c) s)).2)))
    {hsc hsrc hdst hsem}
    {k : PUnit → Prog (TpuEff nD τ sig (Elt F) Λ₀ .tc) α} {Q : α → sProp 𝕄}
    (hk : Inv m K c (s + 1) r 0 b1 b2 fn ou ⊢ wpC c (k ⟨⟩) Q) :
    Inv m K c s r 0 b1 b2 fn ou
      ⊢ wpC c (.op (.enqueueDma ((cfB.slice (Rect.unit (s := S4x64x1024) off1 S1x32x1024.size hb1) (fun _ => rfl)).squeeze
          S32x1024 squeezes_S1x32x1024_S32x1024)
        (.remote (Dev.tc (⟨n, hn⟩ : Dev nD) : Thread nD τ) ((cfB.slice (Rect.unit (s := S4x64x1024) off2 S1x32x1024.size hb2) (fun _ => rfl)).squeeze
          S32x1024 squeezes_S1x32x1024_S32x1024) (.dma q1) hsc) (.dma q2) hsrc hdst hsem) k) Q :=
  step_send m K c ⟨n, hn⟩ (tC (c2 (sAt (cz c) s)).1 (c2 (sAt (cz c) s)).2) hd.1 hd.2.1 hd.2.2.1 (Fin.ext hd.2.2.2.1) (sl4_of cfB _ _ hd.2.2.2.2.1)
    (sl4_of cfB _ _ hd.2.2.2.2.2.1) hd.2.2.2.2.2.2.1 hd.2.2.2.2.2.2.2 hk

/-- A send of the fourth exchange. -/
theorem mv_sendD {n : ℕ} {hn : n < nD} {off1 : Fin 3 → ℕ} {off2 : Fin 4 → ℕ} {hb1 hb2} {q1 q2 : DmaSem sig}
    (hd : live c (tD (c3 (sAt (cz c) s)).1 (c3 (sAt (cz c) s)).2.1 (c3 (sAt (cz c) s)).2.2) = true ∧ sPos (cz c) (tD (c3 (sAt (cz c) s)).1 (c3 (sAt (cz c) s)).2.1 (c3 (sAt (cz c) s)).2.2) = s ∧ got c r fn (tC (c3 (sAt (cz c) s)).1 (c3 (sAt (cz c) s)).2.2) = true ∧ n = (tgt c (tD (c3 (sAt (cz c) s)).1 (c3 (sAt (cz c) s)).2.1 (c3 (sAt (cz c) s)).2.2)).val
      ∧ off1 = o3 (c3 (sAt (cz c) s)).2.2 (c3 (sAt (cz c) s)).1 ∧ off2 = o4 (-(c3 (sAt (cz c) s)).2.1) (c3 (sAt (cz c) s)).2.2 (c3 (sAt (cz c) s)).1 ∧ q1 = semS (tD (c3 (sAt (cz c) s)).1 (c3 (sAt (cz c) s)).2.1 (c3 (sAt (cz c) s)).2.2) ∧ q2 = semR (rix c (tD (c3 (sAt (cz c) s)).1 (c3 (sAt (cz c) s)).2.1 (c3 (sAt (cz c) s)).2.2)))
    {hsc hsrc hdst hsem}
    {k : PUnit → Prog (TpuEff nD τ sig (Elt F) Λ₀ .tc) α} {Q : α → sProp 𝕄}
    (hk : Inv m K c (s + 1) r 0 b1 b2 fn ou ⊢ wpC c (k ⟨⟩) Q) :
    Inv m K c s r 0 b1 b2 fn ou
      ⊢ wpC c (.op (.enqueueDma ((cfB.slice (Rect.unit (s := S4x64x1024) off1 S1x32x1024.size hb1) (fun _ => rfl)).squeeze
          S32x1024 squeezes_S1x32x1024_S32x1024)
        (.remote (Dev.tc (⟨n, hn⟩ : Dev nD) : Thread nD τ) ((pgB.slice (Rect.unit (s := S4x4x64x1024) off2 S1x1x32x1024.size hb2) (fun _ => rfl)).squeeze
          S32x1024 squeezes_S1x1x32x1024_S32x1024) (.dma q1) hsc) (.dma q2) hsrc hdst hsem) k) Q :=
  step_send m K c ⟨n, hn⟩ (tD (c3 (sAt (cz c) s)).1 (c3 (sAt (cz c) s)).2.1 (c3 (sAt (cz c) s)).2.2) hd.1 hd.2.1 hd.2.2.1 (Fin.ext hd.2.2.2.1) (sl4_of cfB _ _ hd.2.2.2.2.1)
    (sl44_of pgB _ _ _ hd.2.2.2.2.2.1) hd.2.2.2.2.2.2.1 hd.2.2.2.2.2.2.2 hk

/-- A send some devices make: those that do not pass over it. -/
theorem if_send {p : Prop} [Decidable p] {t : p → Prog (TpuEff nD τ sig (Elt F) Λ₀ .tc) α}
    {X : Prog (TpuEff nD τ sig (Elt F) Λ₀ .tc) α} {Q : α → sProp 𝕄}
    (hn : ¬ p → (∀ t', live c t' = true → sPos (cz c) t' ≠ s) ∧ ∀ h zs, kq (cz c) (s + 1) h zs = kq (cz c) s h zs)
    (ht : ∀ h : p, (Inv m K c (s + 1) r 0 b1 b2 fn ou ⊢ wpC c X Q) → Inv m K c s r 0 b1 b2 fn ou ⊢ wpC c (t h) Q)
    (hk : Inv m K c (s + 1) r 0 b1 b2 fn ou ⊢ wpC c X Q) : Inv m K c s r 0 b1 b2 fn ou ⊢ wpC c (dite p t fun _ => X) Q := by
  by_cases h : p
  · rw [dif_pos h]; exact ht h hk
  · rw [dif_neg h]; exact step_skip m K c (hn h).1 (hn h).2 hk

/-- A send wait some devices make: those that do not pass over it. -/
theorem if_wait {p : Prop} [Decidable p] {t : p → Prog (TpuEff nD τ sig (Elt F) Λ₀ .tc) α}
    {X : Prog (TpuEff nD τ sig (Elt F) Λ₀ .tc) α} {Q : α → sProp 𝕄}
    (hn : ¬ p → ∀ t', live c t' = true → wPos t' ≠ w)
    (ht : ∀ h : p, (Inv m K c s r (w + 1) b1 b2 fn ou ⊢ wpC c X Q) → Inv m K c s r w b1 b2 fn ou ⊢ wpC c (t h) Q)
    (hk : Inv m K c s r (w + 1) b1 b2 fn ou ⊢ wpC c X Q) : Inv m K c s r w b1 b2 fn ou ⊢ wpC c (dite p t fun _ => X) Q := by
  by_cases h : p
  · rw [dif_pos h]; exact ht h hk
  · rw [dif_neg h]; exact step_wskip m K c (hn h) hk

/-- The next receive wait. -/
theorem mv_rwait {q : DmaSem sig} {X Y : Memref sig .tc .vmem S32x1024 .bf16} {hx hy}
    (hd : rlive c (rAt (cz c) r) = true ∧ rPos (cz c) (rAt (cz c) r) = r ∧ q = semR (rAt (cz c) r)
      ∧ (∀ h zs, rAt (cz c) r = tC h zs → kq (cz c) s h zs = 0) ∧ lvN (semR (rAt (cz c) r) : Fin 162).val < floorS s)
    (hY : Y.view.dmaCredit = nB)
    {k : PUnit → Prog (TpuEff nD τ sig (Elt F) Λ₀ .tc) α} {Q : α → sProp 𝕄}
    (hk : Inv m K c s (r + 1) w b1 b2 fn ou ⊢ wpC c (k ⟨⟩) Q) :
    Inv m K c s r w b1 b2 fn ou ⊢ wpC c (.op (.waitDma2 q X Y hx hy) k) Q := by
  refine step_rwait m K c (rAt (cz c) r) hd.1 hd.2.1 ?_ hd.2.2.1 hY hd.2.2.2.2 hk
  have h := hd.2.2.2.1
  generalize rAt (cz c) r = t at h
  rcases t with ⟨h', o, zp⟩ | ⟨h', o⟩ | ⟨h', zs⟩ | ⟨h', o, zs⟩
  · rfl
  · rfl
  · show Transfers.shareDrop fullShare (kq (cz c) s h' zs) = _
    rw [h h' zs rfl]
    rfl
  · rfl

/-- The next send wait. -/
theorem mv_swait {q : DmaSem sig} {X Y : Memref sig .tc .vmem S32x1024 .bf16} {hx hy}
    (hd : live c (wAt w) = true ∧ wPos (wAt w) = w ∧ sPos (cz c) (wAt w) < s ∧ q = semS (wAt w)
      ∧ lvN (semS (wAt w) : Fin 162).val < floorS s)
    (hY : Y.view.dmaCredit = nB)
    {k : PUnit → Prog (TpuEff nD τ sig (Elt F) Λ₀ .tc) α} {Q : α → sProp 𝕄}
    (hk : Inv m K c s r (w + 1) b1 b2 fn ou ⊢ wpC c (k ⟨⟩) Q) :
    Inv m K c s r w b1 b2 fn ou ⊢ wpC c (.op (.waitDma2 q X Y hx hy) k) Q :=
  step_swait m K c (wAt w) hd.1 hd.2.1 hd.2.2.1 hd.2.2.2.1 hY hd.2.2.2.2 hk

end Moves

end Cert.AllReduce
-- ==== Proof.Parts.lean ====
module

public import proofs.«01_k».proof.Proof.Moves

@[expose] public section

set_option maxRecDepth 8000

/-!
# Buffers as slabs

Each buffer is the disjoint union of its slabs: an element is in the slab its
index names.  So a buffer held whole is its slabs held, and back.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Splitting and joining by a classifier -/

/-- A buffer held whole is its classes held. -/
theorem split_by {ι : Type} [Fintype ι] [DecidableEq ι] {ℓ : Loc nD τ sig} (S : ι → Finset (Idx ℓ)) (cl : Idx ℓ → ι)
    (h : ∀ t i, i ∈ S t ↔ cl i = t) (f : Buf (Elt F) ℓ) :
    (ℓ ↦{fullShare} f : sProp 𝕄) = bigSep Finset.univ fun t => ℓ ↦[S t]{fullShare} f := by
  have e : (Finset.univ : Finset (Idx ℓ)) = Finset.univ.biUnion S := by
    ext i
    simp only [Finset.mem_univ, true_iff, Finset.mem_biUnion, true_and]
    exact ⟨cl i, (h (cl i) i).mpr rfl⟩
  rw [e]
  refine pointsTo_biUnion Finset.univ S fun t _ t' _ hn => ?_
  refine Finset.disjoint_left.mpr fun i hi hi' => hn ?_
  rw [← (h t i).mp hi, (h t' i).mp hi']

/-- Classes held, each with its own contents, are the buffer held with contents that agree with each. -/
theorem join_by {ι : Type} [Fintype ι] [DecidableEq ι] {ℓ : Loc nD τ sig} (S : ι → Finset (Idx ℓ)) (cl : Idx ℓ → ι)
    (h : ∀ t i, i ∈ S t ↔ cl i = t) (fs : ι → Buf (Elt F) ℓ) :
    (bigSep Finset.univ fun t => (ℓ ↦[S t]{fullShare} fs t : sProp 𝕄)) = (ℓ ↦{fullShare} (fun i => fs (cl i) i)) := by
  rw [split_by S cl h]
  refine bigSep_congr fun t _ => pointsTo_congr fun i hi => ?_
  rw [(h t i).mp hi]

/-- Classes held at any contents are the buffer held. -/
theorem join_any {ι : Type} [Fintype ι] [DecidableEq ι] {ℓ : Loc nD τ sig} (S : ι → Finset (Idx ℓ)) (cl : Idx ℓ → ι)
    (h : ∀ t i, i ∈ S t ↔ cl i = t) :
    (bigSep Finset.univ fun t => (iprop(∃ f, ℓ ↦[S t]{fullShare} f) : sProp 𝕄)) ⊢ iprop(∃ f, ℓ ↦{fullShare} f) := by
  refine (BI.bigSep_exists_pi _ _).trans ?_
  iintro ⟨%fs, H⟩
  iexists _
  iapply (Entails.of_eq (join_by S cl h fs)) $$ H

/-! ## The slabs of each buffer -/

/-- The elements of a slab cut out of a whole buffer. -/
theorem set_sl (b : Ref sig .tc) (R : Rect b.ty.shape) (hs) (s' : Shape) (hq) :
    (((Memref.whole b).slice R hs).squeeze s' hq).view.set = R.set := by
  refine (View.set_reshape (v := (View.whole b).slice R) _).trans ?_
  exact View.set_slice_whole b R

/-- The half a row is in. -/
theorem half_iff (n : ℕ) (hn : n < 64) (h : Fin 2) : (32 * h.val ≤ n ∧ n < 32 * h.val + 32) ↔ f2 (n / 32) = h := by
  rw [Fin.ext_iff]
  show _ ↔ n / 32 % 2 = h.val
  omega

/-- The row block of a plane and of a distance from a place. -/
theorem blk_iff : ∀ (b : Fin 16) (w j zp : Fin 4), (b = blk zp (w + j)) ↔ (f4 b.val - w = j ∧ f4 (b.val / 4) = zp) := by
  decide +kernel

/-- The slab of the staged argument an element is in, counted from the device's place. -/
def clSt (c : Dev nD) (i : S16x64x1024.Idx) : I3 := (f2 ((i 1).val / 32), f4 (i 0).val - cw c, f4 ((i 0).val / 4))

/-- The slab of a buffer of four row blocks an element is in. -/
def cl4 (i : S4x64x1024.Idx) : I2 := (f2 ((i 1).val / 32), f4 (i 0).val)

/-- The slab of a buffer of four times four row blocks an element is in. -/
def cl44 (i : S4x4x64x1024.Idx) : I3 := (f2 ((i 2).val / 32), f4 (i 0).val, f4 (i 1).val)

/-- The slab of the result an element is in, counted from the device's place. -/
def clOut (c : Dev nD) (i : S1024x1024.Idx) : I3 :=
  (f2 ((i 0).val / 32), f4 ((i 0).val / 64) - cw c, f4 ((i 0).val / 64 / 4))

/-- The elements of a slab among sixteen row blocks. -/
theorem mem_r16 (c : Dev nD) (x : I3) (i : S16x64x1024.Idx) :
    i ∈ (Rect.unit (s := S16x64x1024) (o3 (blk x.2.2 (cw c + x.2.1)) x.1) S1x32x1024.size (inb16 _ _)).set ↔ clSt c i = x := by
  obtain ⟨h, j, zp⟩ := x
  have h1 : (i 1).val < 64 := (i 1).isLt
  have h2 : (i 2).val < 1024 := (i 2).isLt
  have e1 := half_iff (i 1).val h1 h
  have e0 := blk_iff ⟨(i 0).val, (i 0).isLt⟩ (cw c) j zp
  rw [Fin.ext_iff] at e0
  rw [Rect.mem_set_unit]
  unfold clSt
  simp only [Prod.mk.injEq]
  rw [← e1, ← e0]
  constructor
  · intro H
    have H0 : (blk zp (cw c + j)).val ≤ (i 0).val ∧ (i 0).val < (blk zp (cw c + j)).val + 1 := H 0
    have H1 : 32 * h.val ≤ (i 1).val ∧ (i 1).val < 32 * h.val + 32 := H 1
    exact ⟨H1, by show (i 0).val = _; omega⟩
  · rintro ⟨H1, H0⟩ a
    have H0' : (i 0).val = (blk zp (cw c + j)).val := H0
    match a with
    | ⟨0, _⟩ => exact (show (blk zp (cw c + j)).val ≤ (i 0).val ∧ (i 0).val < (blk zp (cw c + j)).val + 1 by omega)
    | ⟨1, _⟩ => exact H1
    | ⟨2, _⟩ => exact (show 0 ≤ (i 2).val ∧ (i 2).val < 0 + 1024 by omega)

/-- The elements of a slab among four row blocks. -/
theorem mem_r4 (x : I2) (i : S4x64x1024.Idx) :
    i ∈ (Rect.unit (s := S4x64x1024) (o3 x.2 x.1) S1x32x1024.size (inb4 _ _)).set ↔ cl4 i = x := by
  obtain ⟨h, z⟩ := x
  have h0 : (i 0).val < 4 := (i 0).isLt
  have h1 : (i 1).val < 64 := (i 1).isLt
  have h2 : (i 2).val < 1024 := (i 2).isLt
  have e1 := half_iff (i 1).val h1 h
  rw [Rect.mem_set_unit]
  unfold cl4
  simp only [Prod.mk.injEq]
  rw [← e1, Fin.ext_iff]
  show _ ↔ _ ∧ (i 0).val % 4 = z.val
  constructor
  · intro H
    have H0 : z.val ≤ (i 0).val ∧ (i 0).val < z.val + 1 := H 0
    have H1 : 32 * h.val ≤ (i 1).val ∧ (i 1).val < 32 * h.val + 32 := H 1
    exact ⟨H1, by omega⟩
  · rintro ⟨H1, H0⟩ a
    match a with
    | ⟨0, _⟩ => exact (show z.val ≤ (i 0).val ∧ (i 0).val < z.val + 1 by omega)
    | ⟨1, _⟩ => exact H1
    | ⟨2, _⟩ => exact (show 0 ≤ (i 2).val ∧ (i 2).val < 0 + 1024 by omega)

/-- The elements of a slab among four times four row blocks. -/
theorem mem_r44 (x : I3) (i : S4x4x64x1024.Idx) :
    i ∈ (Rect.unit (s := S4x4x64x1024) (o4 x.2.1 x.2.2 x.1) S1x1x32x1024.size (inb44 _ _ _)).set ↔ cl44 i = x := by
  obtain ⟨h, j, z⟩ := x
  have h0 : (i 0).val < 4 := (i 0).isLt
  have h1 : (i 1).val < 4 := (i 1).isLt
  have h2 : (i 2).val < 64 := (i 2).isLt
  have h3 : (i 3).val < 1024 := (i 3).isLt
  have e1 := half_iff (i 2).val h2 h
  rw [Rect.mem_set_unit]
  unfold cl44
  simp only [Prod.mk.injEq]
  rw [← e1, Fin.ext_iff, Fin.ext_iff]
  show _ ↔ _ ∧ (i 0).val % 4 = j.val ∧ (i 1).val % 4 = z.val
  constructor
  · intro H
    have H0 : j.val ≤ (i 0).val ∧ (i 0).val < j.val + 1 := H 0
    have H1 : z.val ≤ (i 1).val ∧ (i 1).val < z.val + 1 := H 1
    have H2 : 32 * h.val ≤ (i 2).val ∧ (i 2).val < 32 * h.val + 32 := H 2
    exact ⟨H2, by omega, by omega⟩
  · rintro ⟨H2, H0, H1⟩ a
    match a with
    | ⟨0, _⟩ => exact (show j.val ≤ (i 0).val ∧ (i 0).val < j.val + 1 by omega)
    | ⟨1, _⟩ => exact (show z.val ≤ (i 1).val ∧ (i 1).val < z.val + 1 by omega)
    | ⟨2, _⟩ => exact H2
    | ⟨3, _⟩ => exact (show 0 ≤ (i 3).val ∧ (i 3).val < 0 + 1024 by omega)

/-- The elements of a slab of the result. -/
theorem mem_rO (c : Dev nD) (x : I3) (i : S1024x1024.Idx) :
    i ∈ (Rect.unit (s := S1024x1024) ![64 * (blk x.2.2 (cw c + x.2.1)).val + 32 * x.1.val, 0] S32x1024.size (inbO _ _)).set ↔ clOut c i = x := by
  obtain ⟨h, j, zp⟩ := x
  have h0 : (i 0).val < 1024 := (i 0).isLt
  have h1 : (i 1).val < 1024 := (i 1).isLt
  have e0 := blk_iff ⟨(i 0).val / 64, by omega⟩ (cw c) j zp
  rw [Fin.ext_iff] at e0
  rw [Rect.mem_set_unit]
  unfold clOut
  simp only [Prod.mk.injEq]
  rw [← e0, Fin.ext_iff]
  show _ ↔ (i 0).val / 32 % 2 = h.val ∧ (i 0).val / 64 = (blk zp (cw c + j)).val
  constructor
  · intro H
    have H0 : 64 * (blk zp (cw c + j)).val + 32 * h.val ≤ (i 0).val ∧ (i 0).val < 64 * (blk zp (cw c + j)).val + 32 * h.val + 32 := H 0
    generalize (blk zp (cw c + j)) = b at H0 ⊢
    omega
  · rintro ⟨H1, H0⟩ a
    match a with
    | ⟨0, _⟩ =>
      have H' : 64 * (blk zp (cw c + j)).val + 32 * h.val ≤ (i 0).val ∧ (i 0).val < 64 * (blk zp (cw c + j)).val + 32 * h.val + 32 := by
        generalize (blk zp (cw c + j)) = b at H0 ⊢
        omega
      exact H'
    | ⟨1, _⟩ => exact (show 0 ≤ (i 1).val ∧ (i 1).val < 0 + 1024 by omega)

/-- The slab of an element of the argument. -/
theorem mem_st (c : Dev nD) (x : I3) (i : S16x64x1024.Idx) : i ∈ (sl16 stB (blk x.2.2 (cw c + x.2.1)) x.1).view.set ↔ clSt c i = x := by
  rw [← mem_r16]
  exact iff_of_eq (congrArg (i ∈ ·) (set_sl cc0_scratch0 _ (fun _ => rfl) S32x1024 squeezes_S1x32x1024_S32x1024))

/-- The slab of an element received from the plane. -/
theorem mem_p1 (x : I3) (i : S4x4x64x1024.Idx) : i ∈ (sl44 p1B x.2.1 x.2.2 x.1).view.set ↔ cl44 i = x := by
  rw [← mem_r44]
  exact iff_of_eq (congrArg (i ∈ ·) (set_sl cc0_scratch1 _ (fun _ => rfl) S32x1024 squeezes_S1x1x32x1024_S32x1024))

/-- The slab of an element of the wide sums. -/
theorem mem_cu (x : I2) (i : S4x64x1024.Idx) : i ∈ (sl4 cuB x.2 x.1).view.set ↔ cl4 i = x := by
  rw [← mem_r4]
  exact iff_of_eq (congrArg (i ∈ ·) (set_sl cc0_scratch2 _ (fun _ => rfl) S32x1024 squeezes_S1x32x1024_S32x1024))

/-- The slab of an element of the narrow sums. -/
theorem mem_cs (x : I2) (i : S4x64x1024.Idx) : i ∈ (sl4 csB x.2 x.1).view.set ↔ cl4 i = x := by
  rw [← mem_r4]
  exact iff_of_eq (congrArg (i ∈ ·) (set_sl cc0_scratch3 _ (fun _ => rfl) S32x1024 squeezes_S1x32x1024_S32x1024))

/-- The slab of an element received from other planes. -/
theorem mem_p2 (x : I2) (i : S4x64x1024.Idx) : i ∈ (sl4 p2B x.2 x.1).view.set ↔ cl4 i = x := by
  rw [← mem_r4]
  exact iff_of_eq (congrArg (i ∈ ·) (set_sl cc0_scratch4 _ (fun _ => rfl) S32x1024 squeezes_S1x32x1024_S32x1024))

/-- The slab of an element of the finished rows. -/
theorem mem_cf (x : I2) (i : S4x64x1024.Idx) : i ∈ (sl4 cfB x.2 x.1).view.set ↔ cl4 i = x := by
  rw [← mem_r4]
  exact iff_of_eq (congrArg (i ∈ ·) (set_sl cc0_scratch5 _ (fun _ => rfl) S32x1024 squeezes_S1x32x1024_S32x1024))

/-- The slab of a finished element received from the plane. -/
theorem mem_pg (x : I3) (i : S4x4x64x1024.Idx) : i ∈ (sl44 pgB x.2.1 x.2.2 x.1).view.set ↔ cl44 i = x := by
  rw [← mem_r44]
  exact iff_of_eq (congrArg (i ∈ ·) (set_sl cc0_scratch6 _ (fun _ => rfl) S32x1024 squeezes_S1x1x32x1024_S32x1024))

/-- The slab of an element of the result. -/
theorem mem_out (c : Dev nD) (x : I3) (i : S1024x1024.Idx) : i ∈ (slO (blk x.2.2 (cw c + x.2.1)) x.1).view.set ↔ clOut c i = x := by
  rw [← mem_rO]
  exact iff_of_eq (congrArg (i ∈ ·) (set_sl cc0_stg1_0 _ (fun _ => rfl) S32x1024 (Shape.Squeezes.refl S32x1024)))

end Cert.AllReduce
-- ==== Proof.Start.lean ====
module

public import proofs.«01_k».proof.Proof.Parts

@[expose] public section

set_option maxRecDepth 8000

/-!
# The opening of the program

Each device tells its six peers that its buffers may be written, stages its
argument, and waits to be told the same by all six.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-- The peer a device signals `n`-th. -/
def pk (c : Dev nD) (n : ℕ) : Dev nD :=
  if n < 3 then dev (cz c) (cw c + f4 (n + 1)) else dev (cz c + f4 (n - 2)) (cw c)

/-- What a device owes the barrier when it has signalled `n` peers. -/
def owedB (c : Dev nD) (n : ℕ) : CellTallies nD τ sig Unit :=
  ∑ i ∈ Finset.univ.filter (fun i : Fin 6 => n ≤ i.val), tallyAt (barCell (pk c i.val)) () 1

/-- What a device has to give the peer it signals. -/
def GiftF (c : Dev nD) (n : ℕ) (i : Fin 6) : sProp 𝕄 :=
  if n ≤ i.val then iprop(dutyTok ER (barCell (pk c i.val)) 0 c ∗ payBar (pk c i.val) c) else iprop(emp)

/-- A transfer to make, before the barrier. -/
def SendP (c : Dev nD) (t : Tr) : sProp 𝕄 :=
  if live c t = true then iprop(dutyTok ER (sCell c t) 0 c ∗ dutyTok ER (rCell (tgt c t) (rix c t)) 0 (tgt c t) ∗ atPos ER (sCell c t) 0 ∅ 0)
  else semVal (sCell c t) 0

/-- What a device holds when it has signalled `n` peers. -/
def Pre (K : Dev nD × CI → ℕ) (c : Dev nD) (n : ℕ) : sProp 𝕄 :=
  iprop(records m K ∗ (∃ W, owes (c : Thread nD τ) (owedS c 0 + owedB c n) W)
    ∗ (cred (tallyAt (barCell c) () 6) ∗ atPos ER (barCell c) 0 ∅ 0)
    ∗ (((c : Thread nD τ).loc cc0_stg0_0) ↦{fullShare} (xstg m c))
    ∗ (∃ f, ((c : Thread nD τ).loc cc0_scratch0) ↦{fullShare} f)
    ∗ bigSep Finset.univ (GiftF c n) ∗ bigSep Finset.univ (SendP c)
    ∗ bigSep Finset.univ (RecvF c 0) ∗ bigSep Finset.univ (GotF m c 0 0 0)
    ∗ bigSep Finset.univ (CsF m c 0 0) ∗ bigSep Finset.univ (CuF m c 0) ∗ bigSep Finset.univ (OutF m c 0))

section Start
variable (K : Dev nD × CI → ℕ) (c : Dev nD) {α : Type}

/-- The next barrier signal, owed, and the later ones. -/
theorem owedB_succ {n : ℕ} (hn : n < 6) : owedB c n = owedB c (n + 1) + tallyAt (barCell (pk c n)) () 1 := by
  unfold owedB
  have hs : Finset.univ.filter (fun i : Fin 6 => n ≤ i.val) = insert ⟨n, hn⟩ (Finset.univ.filter (fun i : Fin 6 => n + 1 ≤ i.val)) := by
    ext i
    simp only [Finset.mem_filter, Finset.mem_univ, true_and, Finset.mem_insert, Fin.ext_iff]
    omega
  rw [hs, Finset.sum_insert (fun hm => by have := (Finset.mem_filter.mp hm).2; simp at this), add_comm]

/-- After six signals none is owed. -/
theorem owedB_end : owedB c 6 = 0 := by
  unfold owedB
  rw [Finset.filter_false_of_mem, Finset.sum_empty]
  intro i _ h
  exact absurd i.isLt (by omega)

/-- A device is a peer of each of its peers. -/
theorem pk_mem : ∀ (c : Dev nD) (i : Fin 6), c ∈ peers (pk c i.val) := by decide +kernel

/-- A barrier signal leaves the gifts of the others. -/
theorem GiftF_next {n : ℕ} (hn : n < 6) (j : Fin 6) (hj : j ≠ ⟨n, hn⟩) : (GiftF c (n + 1) j : sProp 𝕄) = GiftF c n j := by
  unfold GiftF
  refine if_congr ?_ rfl rfl
  have : j.val ≠ n := fun h => hj (Fin.ext h)
  omega

/-- A signal to a peer. -/
theorem mv_signal {n a : ℕ} {ha : a < nD} (hd : n < 6 ∧ a = (pk c n).val)
    {k : PUnit → Prog (TpuEff nD τ sig (Elt F) Λ₀ .tc) α} {Q : α → sProp 𝕄}
    (hk : Pre m K c (n + 1) ⊢ wpC c (k ⟨⟩) Q) :
    Pre m K c n ⊢ wpC c (.op (.semSignal ((⟨a, ha⟩ : Dev nD), Proc.tc) barS (1#32 : BitVec 32).toInt) k) Q := by
  obtain ⟨hn, rfl⟩ := hd
  have e0 : (GiftF c n ⟨n, hn⟩ : sProp 𝕄) = iprop(dutyTok ER (barCell (pk c n)) 0 c ∗ payBar (pk c n) c) := by
    unfold GiftF; exact if_pos (le_refl n)
  have e1 : (GiftF c (n + 1) ⟨n, hn⟩ : sProp 𝕄) = iprop(emp) := by
    unfold GiftF; exact if_neg (fun h => Nat.lt_irrefl n h)
  unfold Pre
  rw [owedB_succ c hn, ← add_assoc]
  iintro ⟨#HR, ⟨%W, HO⟩, Hb, Hx, Hst, HG, Hrest⟩
  ihave HG := (bigSep_univ_update (Φ := GiftF (F := F) c n) (Ψ := GiftF (F := F) c (n + 1)) ⟨n, hn⟩ (GiftF_next c hn)) $$ HG
  rw [e0, e1]
  icases HG with ⟨⟨Ht, Hp⟩, HG⟩
  iapply (Rounds.wp_signal 𝒱₀ ER (sched m) (c : Thread nD τ) none (dst := ((pk c n : Dev nD) : Thread nD τ)) (κ := K (pk c n, none))
      (d := c) (r := 0) (by rw [duties_bar]; exact pk_mem c ⟨n, hn⟩) ((amount_bar m (pk c n) c).trans (by decide)) ()
      (owedS c 0 + owedB c (n + 1)) rfl) $$ [HO Ht Hp]
  · isplitr; · iapply (inv_at m K (pk c n, none)); iexact HR
    isplitl [HO]; · iexact HO
    isplitl [Ht]; · iexact Ht
    isplitl [Hp]; · iapply (Entails.of_eq (payload_bar m (pk c n) c).symm) $$ Hp
    iapply (reached_at m K (pk c n, none)); iexact HR
  iintro HO
  iapply hk
  unfold Pre
  isplitr; · iexact HR
  isplitl [HO]; · iexists W; iexact HO
  isplitl [Hb]; · iexact Hb
  isplitl [Hx]; · iexact Hx
  isplitl [Hst]; · iexact Hst
  isplitl [HG]
  · iapply HG; iempintro
  iexact Hrest

/-- The staged argument is its slabs. -/
theorem st_split : (((c : Thread nD τ).loc cc0_scratch0) ↦{fullShare} (stC m c) : sProp 𝕄) = bigSep Finset.univ (StF m c 0) := by
  rw [split_by (ℓ := (c : Thread nD τ).loc cc0_scratch0) (fun x : I3 => (sl16 stB (blk x.2.2 (cw c + x.2.1)) x.1).view.set) (clSt c) (mem_st c)]
  refine bigSep_congr fun x _ => ?_
  unfold StF
  rw [if_neg fun h => Nat.not_lt_zero _ h.2]
  exact slab_of m c (sl16 stB (blk x.2.2 (cw c + x.2.1)) x.1) fullShare (stC m c)

/-- A transfer goes to a peer. -/
theorem tgt_peer : ∀ (c : Dev nD) (t : Tr), live c t = true → tgt c t ∈ peers c := by decide +kernel

/-- What the peers hand over at the barrier is the slabs to fill. -/
theorem bar_slabs : bigSep (peers c) (fun d => (payBar c d : sProp 𝕄))
    ⊢ bigSep Finset.univ (fun t : Tr => if live c t = true then anyslab (tgt c t) (rM (rix c t)) else iprop(emp)) := by
  refine (bigSep_biUnion (peers c) (fun d => Finset.univ.filter fun t : Tr => live c t = true ∧ tgt c t = d)).trans ?_
  have e : (peers c).biUnion (fun d => Finset.univ.filter fun t : Tr => live c t = true ∧ tgt c t = d)
      = Finset.univ.filter fun t : Tr => live c t = true := by
    ext t
    simp only [Finset.mem_biUnion, Finset.mem_filter, Finset.mem_univ, true_and]
    exact ⟨fun ⟨d, _, h, _⟩ => h, fun h => ⟨tgt c t, tgt_peer c t h, h, rfl⟩⟩
  rw [e]
  exact Entails.of_eq (bigSep_filter _ _ _)

/-- With them every transfer may be made. -/
theorem send_ready : iprop(bigSep (peers c) (fun d => (payBar c d : sProp 𝕄)) ∗ bigSep Finset.univ (SendP c))
    ⊢ bigSep Finset.univ (SendF m c 0 0) := by
  have key : ∀ t : Tr, iprop((if live c t = true then anyslab (tgt c t) (rM (rix c t)) else iprop(emp)) ∗ SendP c t) ⊢ SendF m c 0 0 t := by
    intro t
    unfold SendP SendF
    by_cases h : live c t = true
    · rw [if_pos h, if_pos h, if_pos h, if_neg (Nat.not_lt_zero _), if_neg (Nat.not_lt_zero _)]
      iintro ⟨Ha, H1, H2, H3⟩
      isplitl [H1]; · iexact H1
      isplitl [H2]; · iexact H2
      isplitl [Ha]; · iexact Ha
      iexact H3
    · rw [if_neg h, if_neg h, if_neg h]
      iintro ⟨-, H⟩
      iexact H
  refine (BIClass.sep_mono (bar_slabs c) (Entails.refl _)).trans ?_
  exact (Entails.of_eq (bigSep_sep' _ _ _).symm).trans (bigSep_mono fun t _ => key t)

/-- The argument staged, and the barrier passed. -/
theorem mv_open {hb1 hb2 hl1 hl2 hx hm}
    {k : PUnit → Prog (TpuEff nD τ sig (Elt F) Λ₀ .tc) α} {Q : α → sProp 𝕄}
    (hk : Inv m K c 0 0 0 0 0 0 0 ⊢ wpC c (k ⟨⟩) Q) :
    Pre m K c 6 ⊢ wpC c (.op (.load xB (Rect.unit (s := S1x1024x1024) ![0, 0, 0] S1x1024x1024.size hb1).toLoadRect hl1) fun v =>
      .op (.load stB (Rect.unit (s := S16x64x1024) ![0, 0, 0] S16x64x1024.size hb2).toLoadRect hl2) fun _ =>
      .op (.store stB (Rect.unit (s := S16x64x1024) ![0, 0, 0] S16x64x1024.size hb2) (k0_pay1 v) Finset.univ hx hm) fun _ =>
      .op (.semWait barS (6#32 : BitVec 32).toInt) k) Q := by
  have hz : (![0, 0, 0] : Fin 3 → ℕ) = fun _ => 0 := by funext a; match a with | ⟨0, _⟩ => rfl | ⟨1, _⟩ => rfl | ⟨2, _⟩ => rfl
  have hr : (xB.access (Rect.unit (s := S1x1024x1024) ![0, 0, 0] S1x1024x1024.size hb1)).read (Elt F) (xstg m c) = xstg m c :=
    Memref.read_access_unit_zero (Elt F) cc0_stg0_0 hz hb1 (xstg m c)
  have hw : ∀ f, (stB.access (Rect.unit (s := S16x64x1024) ![0, 0, 0] S16x64x1024.size hb2)).write (Elt F) f (k0_pay1 (xstg m c)) Finset.univ
      = stC m c := fun f => Memref.write_access_unit_zero_univ (Elt F) cc0_scratch0 hz hb2 f (stC m c)
  unfold Pre
  rw [owedB_end, add_zero]
  iintro ⟨#HR, ⟨%W, HO⟩, ⟨Hc, Ha⟩, Hx, ⟨%f, Hst⟩, -, HS, Hrest⟩
  iapply (wp_load_whole (M := xB) (R := Rect.unit (s := S1x1024x1024) ![0, 0, 0] S1x1024x1024.size hb1) c (xstg m c) hr) $$ Hx
  iintro Hx
  iapply (wp_load_whole (M := stB) (R := Rect.unit (s := S16x64x1024) ![0, 0, 0] S16x64x1024.size hb2) c f rfl) $$ Hst
  iintro Hst
  iapply (wp_store 𝒱₀ (c : Thread nD τ) none Set.univ (m := stB) (r := Rect.unit (s := S16x64x1024) ![0, 0, 0] S16x64x1024.size hb2) (Mk := Finset.univ) (Finset.subset_univ _)) $$ Hst
  iintro Hst
  rw [hw]
  iapply (Rounds.wp_wait_rest_token 𝒱₀ ER (sched m) (c : Thread nD τ) none (κ := K (c, none))
      (wpE_semWait_eq 𝒱₀ (c : Thread nD τ) none Set.univ) (Set.mem_univ _) () (O := owedS c 0) (W := W) (R := 0) (m := 0) (T := ∅)
      (by rw [expect_bar]; decide)) $$ [Hc HO Ha]
  · isplitr; · iapply (inv_at m K (c, none)); iexact HR
    isplitl [Hc]; · iexact Hc
    isplitl [HO]; · iexact HO
    isplitr
    · iapply (BIBase.Entails.trans (Q := levAts L lv) (lev_at m K) (mayWait_bar c)); iexact HR
    iexact Ha
  iintro ⟨HO, Ha, -, Hp⟩
  ihave Hp := (Entails.of_eq (rest_bar m c)) $$ Hp
  imod (Rounds.cell_close ER (sched m) (Set.mem_univ (K (c, none))) (fun h => h) (R := 0 + 1) (duties_later m (barCell c))) $$ [Ha] with Hz
  · isplitr; · iapply (inv_at m K (c, none)); iexact HR
    iexact Ha
  iapply hk
  unfold Inv XF
  icases Hrest with ⟨Hr, Hg, Hcs, Hcu, Ho⟩
  isplitr; · iexact HR
  isplitl [HO]; · iexists _; iexact HO
  isplitl [Hx Hz]
  · isplitl [Hx]; · iexact Hx
    iexact Hz
  isplitl [Hp HS]
  · iapply (send_ready m c)
    isplitl [Hp]; · iexact Hp
    iexact HS
  isplitl [Hr]; · iexact Hr
  isplitl [Hg]; · iexact Hg
  isplitl [Hst]
  · iapply (Entails.of_eq (st_split m c)) $$ Hst
  isplitl [Hcs]; · iexact Hcs
  isplitl [Hcu]; · iexact Hcu
  iexact Ho

end Start

end Cert.AllReduce
-- ==== Proof.Deal.lean ====
module

public import proofs.«01_k».proof.Proof.Start

@[expose] public section

set_option maxRecDepth 8000

/-!
# What the launch deals

At the launch every semaphore of the mesh becomes a cell of the schedule, each
device gets the right to wait at its own cells and to pay its duties at the
others', and the cells of transfers that are never made are closed at once.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Peers in pairs -/

/-- The place a device has among the peers of its `i`-th peer. -/
def ki (i : Fin 6) : Fin 6 := if h : i.val < 3 then ⟨2 - i.val, by omega⟩ else ⟨8 - i.val, by omega⟩

/-- A device is its peer's peer. -/
theorem pk_pk : ∀ (c : Dev nD) (i : Fin 6), pk (pk c i.val) (ki i).val = c := by decide +kernel

/-- Its place among them is symmetric. -/
theorem ki_ki : ∀ i : Fin 6, ki (ki i) = i := by decide

/-- The six peers of a device differ. -/
theorem pk_inj : ∀ (c : Dev nD) (i i' : Fin 6), pk c i.val = pk c i'.val → i = i' := by decide +kernel

/-- The signals of all devices, paired with the signals they meet. -/
def bmate : Dev nD × Fin 6 ≃ Dev nD × Fin 6 where
  toFun p := (pk p.1 p.2.val, ki p.2)
  invFun p := (pk p.1 p.2.val, ki p.2)
  left_inv p := Prod.ext (pk_pk p.1 p.2) (ki_ki p.2)
  right_inv p := Prod.ext (pk_pk p.1 p.2) (ki_ki p.2)

/-! ## Cells and duty tokens -/

/-- Different names are different cells. -/
theorem cellC_injective : Function.Injective (cellC : Dev nD × CI → GSem nD τ sig) := by
  rintro ⟨c, a⟩ ⟨c', a'⟩ h
  have h1 : c = c' := by
    have := congrArg (fun g : GSem nD τ sig => g.1.1) h
    rcases a with _ | a <;> rcases a' with _ | a' <;> exact this
  subst h1
  rcases a with _ | a <;> rcases a' with _ | a'
  · rfl
  · exact absurd (congrArg Prod.snd h) (fun h' => by cases h')
  · exact absurd (congrArg Prod.snd h) (fun h' => by cases h')
  · have h2 : (SemLoc.dma (semT a) : SemLoc sig) = .dma (semT a') := congrArg Prod.snd h
    rw [semT_injective (SemLoc.dma.inj h2)]

/-- All cells of the mesh. -/
def meshCells : Finset (GSem nD τ sig) := Finset.univ.map ⟨cellC, cellC_injective⟩

/-- The duty tokens minted for the cells of a device: its barrier's, one for each peer, and one for each transfer. -/
abbrev tokC (p : Dev nD × (Fin 6 ⊕ (Tr ⊕ Tr))) : GSem nD τ sig × ℕ × Dev nD := match p.2 with
  | .inl i => (barCell p.1, 0, pk p.1 i.val)
  | .inr k => (kCell p.1 k, 0, p.1)

/-- Different names are different tokens. -/
theorem tokC_injective : Function.Injective (tokC : Dev nD × (Fin 6 ⊕ (Tr ⊕ Tr)) → GSem nD τ sig × ℕ × Dev nD) := by
  rintro ⟨c, a⟩ ⟨c', a'⟩ h
  have h1 : c = c' := by
    have := congrArg (fun g : GSem nD τ sig × ℕ × Dev nD => g.1.1.1) h
    rcases a with a | a <;> rcases a' with a' | a' <;> exact this
  subst h1
  rcases a with a | a <;> rcases a' with a' | a'
  · have h2 : pk c a.val = pk c a'.val := congrArg (fun g : GSem nD τ sig × ℕ × Dev nD => g.2.2) h
    rw [pk_inj c a a' h2]
  · exact absurd (congrArg (fun g : GSem nD τ sig × ℕ × Dev nD => g.1.2) h) (fun h' => by cases h')
  · exact absurd (congrArg (fun g : GSem nD τ sig × ℕ × Dev nD => g.1.2) h) (fun h' => by cases h')
  · have h2 : (SemLoc.dma (semT a) : SemLoc sig) = .dma (semT a') := congrArg (fun g : GSem nD τ sig × ℕ × Dev nD => g.1.2) h
    rw [semT_injective (SemLoc.dma.inj h2)]

/-- All duty tokens of the mesh. -/
def meshToks : Finset (GSem nD τ sig × ℕ × Dev nD) := Finset.univ.map ⟨tokC, tokC_injective⟩

/-- The launch's ghost state. -/
def u₀ : UU :=
  (initOf (Pipeline.cells cfgs cellOf_inj) (Pipeline.launchToks cfgs cellOf_inj), initOf meshCells meshToks)

/-- The tokens of the duties at a device's own cells. -/
def ownToks (c : Dev nD) : sProp 𝕄 :=
  iprop((bigSep Finset.univ fun i : Fin 6 => dutyTok ER (barCell c) 0 (pk c i.val))
    ∗ (bigSep Finset.univ fun t : Tr => dutyTok ER (sCell c t) 0 c) ∗ (bigSep Finset.univ fun t : Tr => dutyTok ER (rCell c t) 0 c))

/-- The tokens of the duties a device pays. -/
def payToks (c : Dev nD) : sProp 𝕄 :=
  iprop((bigSep Finset.univ fun i : Fin 6 => dutyTok ER (barCell (pk c i.val)) 0 c)
    ∗ (bigSep Finset.univ fun t : Tr => dutyTok ER (sCell c t) 0 c)
    ∗ (bigSep Finset.univ fun t : Tr => dutyTok ER (rCell (tgt c t) (rix c t)) 0 (tgt c t)))

/-- What the ghost state deals a device. -/
def G (c : Dev nD) : sProp 𝕄 :=
  iprop((bigSep Finset.univ fun k : CI => roundState ER (sched m) (cellC (c, k)) 0)
    ∗ (bigSep Finset.univ fun k : CI => iprop(atPos ER (cellC (c, k)) 0 ∅ 0 ∗ reached ER (cellC (c, k)) 0)) ∗ ownToks c)

/-- The invariants of all cells, and that each has reached its round. -/
def recs (K : Dev nD × CI → ℕ) : sProp 𝕄 :=
  iprop((bigSep Finset.univ fun ci : Dev nD × CI => cellInv ER (sched m) (K ci) (cellC ci))
    ∗ (bigSep Finset.univ fun ci : Dev nD × CI => reached ER (cellC ci) 0))

/-- The records may be used again and again. -/
instance recs_persistent (K : Dev nD × CI → ℕ) : BI.Persistent (recs m K) := by unfold recs; infer_instance

/-- A device's positions at its cells, and the tokens of the duties it pays. -/
def linear (c : Dev nD) : sProp 𝕄 :=
  iprop((bigSep Finset.univ fun k : CI => atPos ER (cellC (c, k)) 0 ∅ 0) ∗ payToks c)

/-- What a device has when all cells are made. -/
def G' (c : Dev nD) : sProp 𝕄 := iprop(∃ K, recs m K ∗ linear c)

/-- A family over the cells of a device: its barrier's, and the transfers'. -/
theorem bigSep_CI (Φ : CI → sProp 𝕄) :
    bigSep Finset.univ Φ = iprop(Φ none ∗ (bigSep Finset.univ fun t : Tr => Φ (some (.inl t))) ∗ bigSep Finset.univ fun t : Tr => Φ (some (.inr t))) := by
  have h := bigSep_univ_sum (fun k : Tr ⊕ Tr => Φ (some k))
  have hn : none ∉ (Finset.univ : Finset (Tr ⊕ Tr)).map Function.Embedding.some := by simp
  have hu : (Finset.univ : Finset CI) = insert none (Finset.univ.map Function.Embedding.some) := by
    ext x; cases x <;> simp
  rw [hu, bigSep_insert hn, bigSep_map]
  exact congrArg (fun X : sProp 𝕄 => iprop(Φ none ∗ X)) h

/-- The ghost state deals every device its part. -/
theorem fund_mesh : BI.own (ER (F := F) (initOf meshCells meshToks)) ⊢ (|==> bigSep Finset.univ (G m) : sProp 𝕄) := by
  have hX (Φ : GSem nD τ sig → sProp 𝕄) : bigSep meshCells Φ = bigSep Finset.univ fun c : Dev nD => bigSep Finset.univ fun k : CI => Φ (cellC (c, k)) := by
    unfold meshCells; rw [bigSep_map, bigSep_univ_prod]; rfl
  have hT : bigSep meshToks (fun x => (dutyTok ER x.1 x.2.1 x.2.2 : sProp 𝕄)) = bigSep Finset.univ fun c : Dev nD => ownToks c := by
    unfold meshToks; rw [bigSep_map, bigSep_univ_prod]
    refine bigSep_congr fun c _ => ?_
    unfold ownToks
    rw [bigSep_univ_sum, bigSep_univ_sum]; rfl
  iintro HX
  imod (Rounds.fund ER (sched m) meshCells meshToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores become cells -/

/-- The kernel's own semaphores: those of the transfers. -/
abbrev osem : Tr ⊕ Tr → SemLoc sig := fun k => .dma (semT k)

/-- The barrier semaphore is the only other. -/
theorem unscopedSems0_eq (c : Dev nD) : (unscopedSems0 c : sProp 𝕄) = semVal (barCell c) 0 := by
  unfold unscopedSems0; rw [bigSep_eq_bigSepL_of_eq [SemLoc.reg barS] (by decide +kernel) (by decide)]; rfl

/-- All of a device's semaphores, by the names of its cells. -/
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CI => semVal (cellC (c, k)) 0 : sProp 𝕄) := by
  rw [bigSep_CI, unscopedSems0_eq]
  unfold Pipeline.ownSems0
  have h := bigSep_univ_sum (fun k : Tr ⊕ Tr => (semVal ((c : Thread nD τ), osem k) 0 : sProp 𝕄))
  iintro ⟨HS, HB⟩
  isplitl [HB]; · iexact HB
  iapply (Entails.of_eq h) $$ HS

/-- Every cell of a device gets its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CI => iprop(∃ κ : ℕ, cellInv ER (sched m) κ (cellC (c, k))))
          ∗ (bigSep Finset.univ fun k : CI => iprop(atPos ER (cellC (c, k)) 0 ∅ 0 ∗ reached ER (cellC (c, k)) 0)) ∗ ownToks c) := by
  unfold G
  iintro ⟨Hos, Hus, Hst, Hat, Htok⟩
  ihave Hv := (sems0_eq (F := F) c) $$ [Hos Hus]
  · isplitl [Hos] <;> iassumption
  imod (show iprop((bigSep Finset.univ fun k : CI => semVal (cellC (c, k)) 0) ∗ bigSep Finset.univ fun k : CI => roundState ER (sched m) (cellC (c, k)) 0)
      ⊢ (|={Set.univ}=> bigSep Finset.univ fun k : CI => iprop(∃ κ : ℕ, cellInv ER (sched m) κ (cellC (c, k))) : sProp 𝕄) from by
        rw [← bigSep_sep']
        exact (bigSep_mono fun k _ => (Rounds.body_intro ER (sched m) (cellC (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Every duty token goes to the device that pays the duty. -/
theorem toks_around : (bigSep Finset.univ fun c : Dev nD => (ownToks c : sProp 𝕄)) ⊢ bigSep Finset.univ fun c : Dev nD => payToks c := by
  have hb : (bigSep Finset.univ fun c : Dev nD => bigSep Finset.univ fun i : Fin 6 => (dutyTok ER (barCell c) 0 (pk c i.val) : sProp 𝕄))
      = bigSep Finset.univ fun c : Dev nD => bigSep Finset.univ fun i : Fin 6 => dutyTok ER (barCell (pk c i.val)) 0 c := by
    rw [← bigSep_univ_prod (fun p : Dev nD × Fin 6 => (dutyTok ER (barCell p.1) 0 (pk p.1 p.2.val) : sProp 𝕄)),
      ← bigSep_univ_prod (fun p : Dev nD × Fin 6 => (dutyTok ER (barCell (pk p.1 p.2.val)) 0 p.1 : sProp 𝕄)),
      bigSep_univ_equiv bmate (fun p : Dev nD × Fin 6 => (dutyTok ER (barCell p.1) 0 (pk p.1 p.2.val) : sProp 𝕄))]
    refine bigSep_congr fun p _ => ?_
    show (dutyTok ER (barCell (pk p.1 p.2.val)) 0 (pk (pk p.1 p.2.val) (ki p.2).val) : sProp 𝕄) = _
    rw [pk_pk]
  have hr : (bigSep Finset.univ fun c : Dev nD => bigSep Finset.univ fun t : Tr => (dutyTok ER (rCell c t) 0 c : sProp 𝕄))
      = bigSep Finset.univ fun c : Dev nD => bigSep Finset.univ fun t : Tr => dutyTok ER (rCell (tgt c t) (rix c t)) 0 (tgt c t) := by
    rw [← bigSep_univ_prod (fun p : Dev nD × Tr => (dutyTok ER (rCell p.1 p.2) 0 p.1 : sProp 𝕄)),
      ← bigSep_univ_prod (fun p : Dev nD × Tr => (dutyTok ER (rCell (tgt p.1 p.2) (rix p.1 p.2)) 0 (tgt p.1 p.2) : sProp 𝕄)),
      bigSep_univ_equiv mate (fun p : Dev nD × Tr => (dutyTok ER (rCell p.1 p.2) 0 p.1 : sProp 𝕄))]
    rfl
  unfold ownToks payToks
  rw [bigSep_sep', bigSep_sep', bigSep_sep', bigSep_sep', hb, hr]

/-- A persistent assertion is available for each member of a family. -/
theorem bigSep_using {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- All devices' cells under one table of names. -/
theorem regroup :
    (bigSep Finset.univ fun c : Dev nD => iprop((bigSep Finset.univ fun k : CI => iprop(∃ κ : ℕ, cellInv ER (sched m) κ (cellC (c, k))))
          ∗ (bigSep Finset.univ fun k : CI => iprop(atPos ER (cellC (c, k)) 0 ∅ 0 ∗ reached ER (cellC (c, k)) 0)) ∗ ownToks c) : sProp 𝕄)
      ⊢ bigSep Finset.univ (G' m) := by
  rw [bigSep_sep', bigSep_sep', ← bigSep_univ_prod (fun ck : Dev nD × CI => iprop(∃ κ : ℕ, cellInv ER (sched m) κ (cellC ck))),
    bigSep_congr (s := Finset.univ) (fun (c : Dev nD) _ => bigSep_sep' Finset.univ (fun k : CI => (atPos ER (cellC (c, k)) 0 ∅ 0 : sProp 𝕄)) (fun k => reached ER (cellC (c, k)) 0)),
    bigSep_sep', ← bigSep_univ_prod (fun ck : Dev nD × CI => (reached ER (cellC ck) 0 : sProp 𝕄))]
  iintro ⟨HI, ⟨Hat, #HR⟩, Htok⟩
  ihave HK := (BI.bigSep_exists_pi Finset.univ (fun (ck : Dev nD × CI) (κ : ℕ) => (cellInv ER (sched m) κ (cellC ck) : sProp 𝕄))) $$ HI
  icases HK with ⟨%K, #HI⟩
  ihave Htk := (toks_around (F := F)) $$ Htok
  have hg : ∀ c : Dev nD, iprop(recs m K ∗ linear c) ⊢ G' m c := by
    intro c
    unfold G'
    iintro H
    iexists K
    iexact H
  iapply (bigSep_using (R := recs m K) fun c _ => hg c)
  isplitr
  · unfold recs; isplitl; · iexact HI
    iexact HR
  · iapply ((Entails.of_eq (bigSep_sep' Finset.univ (fun c : Dev nD => bigSep Finset.univ fun k : CI => (atPos ER (cellC (c, k)) 0 ∅ 0 : sProp 𝕄)) payToks).symm).trans
      (bigSep_mono fun c _ => show _ ⊢ linear c from Entails.of_eq rfl))
    isplitl [Hat]; · iexact Hat
    iexact Htk

/-- The semaphores of every device become cells at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

/-- What a device owes at the start: every send's credit, and a unit to each peer. -/
def O₀ (c : Dev nD) : CellTallies nD τ sig Unit := owedS c 0 + owedB c 0

/-- A sum of tallies at a cell. -/
theorem sum_tally {ι : Type} (s : Finset ι) (f : ι → GSem nD τ sig) (n : ℕ) (g : GSem nD τ sig) :
    (∑ i ∈ s, tallyAt (Ix := Unit) (f i) () n) g () = ∑ i ∈ s, if f i = g then n else 0 := by
  rw [Finset.sum_apply, Finsupp.finset_sum_apply]
  refine Finset.sum_congr rfl fun i _ => ?_
  rw [tallyAt_apply]
  exact if_congr ⟨fun h => h.1.symm, fun h => ⟨h.symm, rfl⟩⟩ rfl rfl

/-- Two barrier cells are the same when their devices are. -/
theorem bar_iff {a b : Dev nD} : barCell a = barCell b ↔ a = b :=
  ⟨fun h => congrArg (fun g : GSem nD τ sig => g.1.1) h, fun h => h ▸ rfl⟩

/-- Two receive cells are the same when their devices and transfers are. -/
theorem rCell_iff {a b : Dev nD} {t u : Tr} : rCell a t = rCell b u ↔ (a, t) = (b, u) := by
  refine ⟨fun h => ?_, fun h => by cases h; rfl⟩
  have h1 := cellC_injective (a₁ := (a, some (.inr t))) (a₂ := (b, some (.inr u))) h
  cases h1
  rfl

/-- What device `d` owes the barrier of device `c`. -/
theorem owed_bar (d c : Dev nD) : O₀ d (barCell c) () = ∑ i : Fin 6, if pk d i.val = c then 1 else 0 := by
  unfold O₀ owedS owedB
  rw [Pi.add_apply, Finsupp.add_apply, sum_tally, sum_tally, Finset.sum_eq_zero, Nat.zero_add]
  · rw [Finset.filter_true_of_mem (fun i _ => Nat.zero_le _)]
    exact Finset.sum_congr rfl fun i _ => if_congr bar_iff rfl rfl
  · intro t _
    exact if_neg fun h => by cases congrArg Prod.snd h

/-- What device `d` owes a receive cell of device `c`. -/
theorem owed_recv (d c : Dev nD) (u : Tr) :
    O₀ d (rCell c u) () = ∑ t : Tr, if mate (d, t) = (c, u) ∧ live d t = true then nB else 0 := by
  unfold O₀ owedS owedB
  rw [Pi.add_apply, Finsupp.add_apply, sum_tally, sum_tally,
    Finset.sum_eq_zero (s := Finset.univ.filter (fun i : Fin 6 => 0 ≤ i.val)), Nat.add_zero, Finset.sum_filter]
  · refine Finset.sum_congr rfl fun t _ => ?_
    have e : (rCell (tgt d t) (rix d t) = rCell c u) ↔ mate (d, t) = (c, u) := rCell_iff
    by_cases h1 : live d t = true
    · rw [if_pos ⟨h1, Nat.zero_le _⟩]
      exact if_congr (e.trans ⟨fun h => ⟨h, h1⟩, fun h => h.1⟩) rfl rfl
    · rw [if_neg fun h => h1 h.1, if_neg fun h => h1 h.2]
  · intro t _
    exact if_neg fun h => by cases congrArg Prod.snd h

/-- Six units are owed every barrier. -/
theorem six_units : ∀ c : Dev nD, (∑ d : Dev nD, ∑ i : Fin 6, if pk d i.val = c then 1 else 0) = 6 := by decide +kernel

/-- The credit of a device's barrier. -/
theorem launch_bar (c : Dev nD) :
    tallyOn (barCell c) (launchCredit (Pipeline.owing O₀) 0 (barCell c)) = (tallyAt (barCell c) () 6 : CellTallies nD τ sig Unit) := by
  unfold tallyAt; refine congrArg _ (Finsupp.ext fun u => ?_); cases u
  rw [Pipeline.launchCredit_owing, Finsupp.single_eq_same, Finset.sum_congr rfl fun d _ => owed_bar d c, six_units]

/-- The credit of a transfer received. -/
theorem launch_recv (c : Dev nD) (u : Tr) (h : rlive c u = true) :
    tallyOn (rCell c u) (launchCredit (Pipeline.owing O₀) 0 (rCell c u)) = (tallyAt (rCell c u) () nB : CellTallies nD τ sig Unit) := by
  unfold tallyAt; refine congrArg _ (Finsupp.ext fun x => ?_); cases x
  rw [Pipeline.launchCredit_owing, Finsupp.single_eq_same, Finset.sum_congr rfl fun d _ => owed_recv d c u,
    ← Fintype.sum_prod_type' (fun (d : Dev nD) (t : Tr) => if mate (d, t) = (c, u) ∧ live d t = true then nB else 0)]
  have e : ∀ p : Dev nD × Tr, (if mate (p.1, p.2) = (c, u) ∧ live p.1 p.2 = true then nB else 0)
      = (fun q : Dev nD × Tr => if q = (c, u) then nB else 0) (mate p) := by
    rintro ⟨d, t⟩
    refine if_congr ⟨fun h => h.1, fun hq => ⟨hq, ?_⟩⟩ rfl rfl
    have hm := rlive_mate d t
    have h1 : tgt d t = c := congrArg Prod.fst hq
    have h2 : rix d t = u := congrArg Prod.snd hq
    rw [← hm, h1, h2, h]
  rw [Finset.sum_congr rfl fun p _ => e p, Equiv.sum_comp mate (fun q : Dev nD × Tr => if q = (c, u) then nB else 0),
    Finset.sum_ite_eq' Finset.univ (c, u) fun _ => nB, if_pos (Finset.mem_univ _)]

/-- The credits a device gets at the launch. -/
theorem creds (c : Dev nD) :
    (Pipeline.launchCred O₀ c : sProp 𝕄) ⊢ iprop(cred (tallyAt (barCell c) () 6)
      ∗ bigSep Finset.univ fun t : Tr => if rlive c t = true then cred (tallyAt (rCell c t) () nB) else iprop(emp)) := by
  unfold Pipeline.launchCred
  rw [bigSep_univ_at _ (SemLoc.reg barS), launch_bar]
  refine sep_mono_right ?_
  have hinj : Function.Injective fun t : Tr => (SemLoc.dma (semR t) : SemLoc sig) := fun a b h => by
    have := semT_injective (a₁ := .inr a) (a₂ := .inr b) (SemLoc.dma.inj h)
    exact Sum.inr.inj this
  refine (bigSep_subset (t := (Finset.univ.filter fun t : Tr => rlive c t = true).map ⟨_, hinj⟩) ?_).trans ?_
  · intro x hx
    obtain ⟨t, -, rfl⟩ := Finset.mem_map.mp hx
    exact Finset.mem_erase.mpr ⟨fun (h : SemLoc.dma (semR t) = SemLoc.reg barS) => by injection h, Finset.mem_univ _⟩
  rw [bigSep_map]
  refine BI.Entails.trans ?_ (Entails.of_eq (bigSep_filter Finset.univ (fun t : Tr => rlive c t = true) fun t => (cred (tallyAt (rCell c t) () nB) : sProp 𝕄)))
  refine bigSep_mono fun t ht => ?_
  show (cred (tallyOn (rCell c t) (launchCredit (Pipeline.owing O₀) 0 (rCell c t))) : sProp 𝕄) ⊢ cred (tallyAt (rCell c t) () nB)
  rw [launch_recv c t (Finset.mem_filter.mp ht).2]

/-! ## What a device starts with -/

/-- What a device starts with, besides its buffers. -/
def start (c : Dev nD) : sProp 𝕄 :=
  iprop(∃ K, records m K ∗ (cred (tallyAt (barCell c) () 6) ∗ atPos ER (barCell c) 0 ∅ 0)
    ∗ (bigSep Finset.univ fun i : Fin 6 => dutyTok ER (barCell (pk c i.val)) 0 c)
    ∗ bigSep Finset.univ (SendP c) ∗ bigSep Finset.univ (RecvF c 0))

/-- The cell of a transfer never made is closed. -/
theorem close_dead (K : Dev nD × CI → ℕ) (c : Dev nD) (k : Tr ⊕ Tr) (h : liveK c k = false) :
    iprop(records m K ∗ atPos ER (kCell c k) 0 ∅ 0) ⊢ (|={Set.univ}=> semVal (kCell c k) 0 : sProp 𝕄) := by
  iintro ⟨#HR, Ha⟩
  iapply (Rounds.cell_close ER (sched m) (Set.mem_univ (K (c, some k))) (fun h => h) (R := 0) (fun r _ => duties_dead m c k h r)) $$ [Ha]
  isplitr; · iapply (inv_at m K (c, some k)); iexact HR
  iexact Ha

/-- A transfer may be made, or its cell is closed. -/
theorem send_start (K : Dev nD × CI → ℕ) (c : Dev nD) (t : Tr) :
    iprop(records m K ∗ atPos ER (sCell c t) 0 ∅ 0 ∗ dutyTok ER (sCell c t) 0 c ∗ dutyTok ER (rCell (tgt c t) (rix c t)) 0 (tgt c t))
      ⊢ (|={Set.univ}=> SendP c t : sProp 𝕄) := by
  unfold SendP
  by_cases h : live c t = true
  · rw [if_pos h]
    iintro ⟨-, Ha, H1, H2⟩
    imodintro
    isplitl [H1]; · iexact H1
    isplitl [H2]; · iexact H2
    iexact Ha
  · rw [if_neg h]
    iintro ⟨#HR, Ha, -, -⟩
    iapply (close_dead m K c (.inl t) (Bool.eq_false_iff.mpr h))
    isplitr; · iexact HR
    iexact Ha

/-- A transfer may be received, or its cell is closed. -/
theorem recv_start (K : Dev nD × CI → ℕ) (c : Dev nD) (t : Tr) :
    iprop(records m K ∗ atPos ER (rCell c t) 0 ∅ 0 ∗ (if rlive c t = true then cred (tallyAt (rCell c t) () nB) else iprop(emp)))
      ⊢ (|={Set.univ}=> RecvF c 0 t : sProp 𝕄) := by
  unfold RecvF
  by_cases h : rlive c t = true
  · rw [if_pos h, if_pos ⟨h, Nat.zero_le _⟩]
    iintro ⟨-, Ha, H1⟩
    imodintro
    isplitl [H1]; · iexact H1
    iexact Ha
  · rw [if_neg h, if_neg fun h' => h h'.1]
    iintro ⟨#HR, Ha, -⟩
    iapply (close_dead m K c (.inr t) (Bool.eq_false_iff.mpr h))
    isplitr; · iexact HR
    iexact Ha

/-- What the launch hands a device is what it starts with. -/
theorem start_of (c : Dev nD) :
    iprop((levAts L lv : sProp 𝕄) ∗ Pipeline.launchCred O₀ c ∗ G' m c) ⊢ (|={Set.univ}=> start m c : sProp 𝕄) := by
  unfold G' linear payToks
  rw [bigSep_CI]
  iintro ⟨#Hlev, Hcr, ⟨%K, #HI, ⟨HaB, HaS, HaR⟩, HtB, HtS, HtR⟩⟩
  ihave Hc := (creds (F := F) c) $$ Hcr
  icases Hc with ⟨HcB, HcR⟩
  have hR : iprop(recs m K ∗ (levAts L lv : sProp 𝕄)) ⊢ records m K := by
    unfold recs records
    iintro ⟨⟨H1, H2⟩, H3⟩
    isplitl [H1]; · iexact H1
    isplitl [H2] <;> iassumption
  ihave #HR := hR $$ []
  · isplitr; · iexact HI
    iexact Hlev
  have hS : iprop(records m K ∗ bigSep Finset.univ fun t : Tr => iprop(atPos ER (sCell c t) 0 ∅ 0 ∗ dutyTok ER (sCell c t) 0 c
      ∗ dutyTok ER (rCell (tgt c t) (rix c t)) 0 (tgt c t))) ⊢ (|={Set.univ}=> bigSep Finset.univ (SendP c) : sProp 𝕄) :=
    (bigSep_using fun t _ => send_start m K c t).trans (bigSep_fupd _ _)
  have hV : iprop(records m K ∗ bigSep Finset.univ fun t : Tr => iprop(atPos ER (rCell c t) 0 ∅ 0
      ∗ (if rlive c t = true then cred (tallyAt (rCell c t) () nB) else iprop(emp)))) ⊢ (|={Set.univ}=> bigSep Finset.univ (RecvF c 0) : sProp 𝕄) :=
    (bigSep_using fun t _ => recv_start m K c t).trans (bigSep_fupd _ _)
  rw [bigSep_sep', bigSep_sep'] at hS
  rw [bigSep_sep'] at hV
  imod hS $$ [HaS HtS HtR] with HS
  · isplitr; · iexact HR
    isplitl [HaS]; · iexact HaS
    isplitl [HtS]; · iexact HtS
    iexact HtR
  imod hV $$ [HaR HcR] with HV
  · isplitr; · iexact HR
    isplitl [HaR]; · iexact HaR
    iexact HcR
  imodintro
  unfold start
  iexists K
  isplitr; · iexact HR
  isplitl [HcB HaB]
  · isplitl [HcB] <;> iassumption
  isplitl [HtB]; · iexact HtB
  isplitl [HS] <;> iassumption

/-! ## The buffers at the start -/

/-- A buffer held is its slabs held, whatever is in them. -/
theorem any_split {ι : Type} [Fintype ι] [DecidableEq ι] {ℓ : Loc nD τ sig} (S : ι → Finset (Idx ℓ)) (cl : Idx ℓ → ι)
    (h : ∀ t i, i ∈ S t ↔ cl i = t) :
    iprop(∃ f, ℓ ↦{fullShare} f) ⊢ (bigSep Finset.univ fun t => (iprop(∃ f, ℓ ↦[S t]{fullShare} f) : sProp 𝕄)) := by
  have key : ∀ (f : Buf (Elt F) ℓ) (t : ι), (ℓ ↦[S t]{fullShare} f : sProp 𝕄) ⊢ iprop(∃ f, ℓ ↦[S t]{fullShare} f) := by
    intro f t
    iintro H
    iexists f
    iexact H
  have key2 : ∀ f : Buf (Elt F) ℓ, (ℓ ↦{fullShare} f : sProp 𝕄) ⊢ bigSep Finset.univ fun t => (iprop(∃ f, ℓ ↦[S t]{fullShare} f) : sProp 𝕄) := by
    intro f
    rw [split_by S cl h f]
    exact bigSep_mono fun t _ => key f t
  iintro ⟨%f, H⟩
  iapply (key2 f) $$ H

/-- A family over all transfers, by phases. -/
theorem bigSep_Tr (Φ : Tr → sProp 𝕄) :
    bigSep Finset.univ Φ = iprop((bigSep Finset.univ fun x : I3 => Φ (.inl x)) ∗ (bigSep Finset.univ fun x : I2 => Φ (.inr (.inl x)))
      ∗ (bigSep Finset.univ fun x : I2 => Φ (.inr (.inr (.inl x)))) ∗ bigSep Finset.univ fun x : I3 => Φ (.inr (.inr (.inr x)))) := by
  rw [bigSep_univ_sum, bigSep_univ_sum, bigSep_univ_sum]
  rfl

/-- The slabs that transfers fill make up four of the buffers. -/
theorem bufs_split (c : Dev nD) :
    iprop((∃ f : Buf (Elt F) ((c : Thread nD τ).loc cc0_scratch1), ((c : Thread nD τ).loc cc0_scratch1) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f))
      ⊢ (bigSep Finset.univ fun t : Tr => anyslab c (rM t) : sProp 𝕄) := by
  rw [bigSep_Tr]
  iintro ⟨H1, H2, H3, H4⟩
  isplitl [H1]; · iapply (any_split (ℓ := (c : Thread nD τ).loc cc0_scratch1) (fun x : I3 => (sl44 p1B x.2.1 x.2.2 x.1).view.set) cl44 mem_p1) $$ H1
  isplitl [H2]; · iapply (any_split (ℓ := (c : Thread nD τ).loc cc0_scratch4) (fun x : I2 => (sl4 p2B x.2 x.1).view.set) cl4 mem_p2) $$ H2
  isplitl [H3]; · iapply (any_split (ℓ := (c : Thread nD τ).loc cc0_scratch5) (fun x : I2 => (sl4 cfB x.2 x.1).view.set) cl4 mem_cf) $$ H3
  iapply (any_split (ℓ := (c : Thread nD τ).loc cc0_scratch6) (fun x : I3 => (sl44 pgB x.2.1 x.2.2 x.1).view.set) cl44 mem_pg) $$ H4

/-- Nothing has been received at the start. -/
theorem got_zero (c : Dev nD) (t : Tr) : got c 0 0 t = false := by
  rcases t with ⟨h, j, zp⟩ | ⟨h, zp⟩ | ⟨h, zs⟩ | ⟨h, j, zs⟩ <;> simp [got]

/-- The slabs that others fill, among those a device holds. -/
theorem lands (c : Dev nD) : (bigSep Finset.univ fun t : Tr => (anyslab c (rM t) : sProp 𝕄))
    ⊢ iprop(bigSep Finset.univ (GotF m c 0 0 0) ∗ bigSep (Finset.univ.filter fun t : Tr => rlive c t = true) fun t => anyslab c (rM t)) := by
  have key : ∀ t : Tr, (anyslab c (rM t) : sProp 𝕄)
      ⊢ iprop(GotF m c 0 0 0 t ∗ if rlive c t = true then anyslab c (rM t) else iprop(emp)) := by
    intro t
    unfold GotF
    rw [if_neg (by rw [got_zero]; decide)]
    by_cases h : rlive c t = true
    · rw [if_pos h, if_pos h]
      iintro H
      isplitr; · iempintro
      iexact H
    · rw [if_neg h, if_neg h]
      iintro H
      isplitl; · iexact H
      iempintro
  rw [bigSep_filter, ← bigSep_sep']
  exact bigSep_mono fun t _ => key t

/-- A family over a set gives one over each of some disjoint parts of it. -/
theorem bigSep_parts {ι κ : Type} [DecidableEq ι] [DecidableEq κ] (T : ι → Finset κ) (Φ : κ → sProp 𝕄)
    (hd : ∀ i i', i ≠ i' → Disjoint (T i) (T i')) (s : Finset ι) :
    ∀ S : Finset κ, (∀ i ∈ s, T i ⊆ S) → (bigSep S Φ ⊢ bigSep s fun i => bigSep (T i) Φ) := by
  induction s using Finset.induction_on with
  | empty =>
    intro S _
    rw [bigSep_empty]
    iintro -
    iempintro
  | insert a s ha ih =>
    intro S hS
    rw [bigSep_insert ha, bigSep_sdiff_split (hS a (Finset.mem_insert_self a s))]
    refine sep_mono_right (ih _ fun i hi => Finset.subset_sdiff.mpr ⟨hS i (Finset.mem_insert_of_mem hi), hd i a ?_⟩)
    rintro rfl
    exact ha hi

/-- Those slabs are what a device has to give its peers. -/
theorem gifts (c : Dev nD) : (bigSep (Finset.univ.filter fun t : Tr => rlive c t = true) fun t => (anyslab c (rM t) : sProp 𝕄))
    ⊢ bigSep Finset.univ fun i : Fin 6 => payBar (pk c i.val) c := by
  have e (d : Dev nD) : (payBar d c : sProp 𝕄)
      = bigSep ((Finset.univ.filter fun t : Tr => live d t = true ∧ tgt d t = c).image (rix d)) fun t => anyslab c (rM t) := by
    rw [bigSep_image_of_injOn]
    · unfold payBar
      refine bigSep_congr fun t ht => ?_
      rw [(Finset.mem_filter.mp ht).2.2]
    · intro t ht u hu h
      have h1 : mate (d, t) = mate (d, u) := Prod.ext
        ((Finset.mem_filter.mp ht).2.2.trans (Finset.mem_filter.mp hu).2.2.symm) h
      exact congrArg Prod.snd (mate.injective h1)
  rw [bigSep_congr fun (i : Fin 6) _ => e (pk c i.val)]
  refine bigSep_parts (fun i : Fin 6 =>
    (Finset.univ.filter fun t : Tr => live (pk c i.val) t = true ∧ tgt (pk c i.val) t = c).image (rix (pk c i.val))) _ ?_ _ _ ?_
  · intro i i' hn
    refine Finset.disjoint_left.mpr fun t ht ht' => hn (pk_inj c i i' ?_)
    obtain ⟨u, hu, rfl⟩ := Finset.mem_image.mp ht
    obtain ⟨u', hu', h⟩ := Finset.mem_image.mp ht'
    have h1 : mate (pk c i.val, u) = mate (pk c i'.val, u') := Prod.ext
      ((Finset.mem_filter.mp hu).2.2.trans (Finset.mem_filter.mp hu').2.2.symm) h.symm
    exact congrArg Prod.fst (mate.injective h1)
  · intro i _ t ht
    obtain ⟨u, hu, rfl⟩ := Finset.mem_image.mp ht
    obtain ⟨-, h1, h2⟩ := Finset.mem_filter.mp hu
    refine Finset.mem_filter.mpr ⟨Finset.mem_univ _, ?_⟩
    have h3 := rlive_mate (pk c i.val) u
    rw [h2] at h3
    exact h3.trans h1

end Cert.AllReduce
-- ==== Proof.Finish.lean ====
module

public import proofs.«01_k».proof.Proof.Deal

@[expose] public section

set_option maxRecDepth 8000

/-!
# What a device ends with

After the last step every buffer is whole again, every semaphore is at zero,
and the result holds every device's finished block.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The result -/

/-- The place of an element of the result in its slab. -/
def inSlab (i : S1024x1024.Idx) : S32x1024.Idx := fun a => match a with
  | ⟨0, _⟩ => ⟨(i 0).val % 32, Nat.mod_lt _ (by decide)⟩
  | ⟨1, _⟩ => ⟨(i 1).val, (i 1).isLt⟩

/-- The result: row block `4 z + w` is the finished block of the device at place `w` of plane `z`. -/
def outV : (cc0_stg1_0 : Ref sig .tc).ty.Contents (Elt F) := fun (i : S1024x1024.Idx) =>
  cfV m (dev (f4 ((i 0).val / 64 / 4)) (f4 ((i 0).val / 64))) (f2 ((i 0).val / 32)) (inSlab i)

/-- The result at an element of a slab. -/
theorem outV_at (zp w : Fin 4) (h : Fin 2) (i : S1024x1024.Idx) (x : S32x1024.Idx)
    (h0 : (i 0).val = 64 * (blk zp w).val + 32 * h.val + (x 0).val) (h1 : (i 1).val = (x 1).val) :
    outV m i = cfV m (dev zp w) h x := by
  have hx : (x 0).val < 32 := (x 0).isLt
  have hz := zp.isLt
  have hw := w.isLt
  have hh := h.isLt
  have hb : (blk zp w).val = 4 * zp.val + w.val := rfl
  rw [hb] at h0
  have e1 : f4 ((i 0).val / 64 / 4) = zp := Fin.ext (show (i 0).val / 64 / 4 % 4 = zp.val by omega)
  have e2 : f4 ((i 0).val / 64) = w := Fin.ext (show (i 0).val / 64 % 4 = w.val by omega)
  have e3 : f2 ((i 0).val / 32) = h := Fin.ext (show (i 0).val / 32 % 2 = h.val by omega)
  have e4 : inSlab i = x := by
    funext a
    match a with
    | ⟨0, _⟩ => exact Fin.ext (show (i 0).val % 32 = (x 0).val by omega)
    | ⟨1, _⟩ => exact Fin.ext h1
  unfold outV
  rw [e1, e2, e3, e4]

/-- A slab of the result read off it. -/
theorem read_outV (zp w : Fin 4) (h : Fin 2) : (slO (blk zp w) h).view.read (Elt F) (outV m) = cfV m (dev zp w) h := by
  funext x
  refine (show _ = outV m ((slO (blk zp w) h).view.emb x) from rfl).trans ?_
  have e : (slO (blk zp w) h).view.emb x
      = (Rect.unit (s := S1024x1024) ![64 * (blk zp w).val + 32 * h.val, 0] S32x1024.size (inbO (blk zp w) h)).emb x :=
    congrArg (Rect.unit (s := S1024x1024) ![64 * (blk zp w).val + 32 * h.val, 0] S32x1024.size (inbO (blk zp w) h)).emb
      (Shape.reshapeEquiv_self _ x)
  rw [e]
  refine outV_at m zp w h _ x ?_ ?_
  · show 64 * (blk zp w).val + 32 * h.val + 1 * (x 0).val = _
    omega
  · show 0 + 1 * (x 1).val = _
    omega

section Finish
variable (c : Dev nD)

/-- The result's slabs are the result. -/
theorem out_end : bigSep Finset.univ (OutF m c 32) ⊢ (((c : Thread nD τ).loc cc0_stg1_0) ↦{fullShare} (outV m) : sProp 𝕄) := by
  rw [split_by (ℓ := (c : Thread nD τ).loc cc0_stg1_0) (fun x : I3 => (slO (blk x.2.2 (cw c + x.2.1)) x.1).view.set) (clOut c) (mem_out c)]
  refine Entails.of_eq (bigSep_congr fun x _ => ?_)
  have hp : ∀ x : I3, oPos x < 32 := by decide +kernel
  unfold OutF
  rw [if_pos (hp x)]
  have e := read_outV m x.2.2 (cw c + x.2.1) x.1
  exact ((slab_of m c (slO (blk x.2.2 (cw c + x.2.1)) x.1) fullShare (outV m)).trans
    (congrArg (slab m c (slO (blk x.2.2 (cw c + x.2.1)) x.1) fullShare) e)).symm

/-! ## What the send semaphores hand back -/

/-- The source of a transfer, handed back. -/
def PayF (t : Tr) : sProp 𝕄 := if live c t = true then paySend m c t else iprop(emp)

/-- A send semaphore at the end: at zero, the transfer's source handed back. -/
theorem send_end (t : Tr) : SendF m c 62 62 t ⊢ iprop(semVal (sCell c t) 0 ∗ PayF m c t) := by
  have hw : ∀ t : Tr, wPos t < 62 ∨ live c t = false := by
    generalize c = d; revert d; decide +kernel
  unfold SendF PayF
  by_cases h : live c t = true
  · rw [if_pos h, if_pos h, if_pos ((hw t).resolve_right (by rw [h]; decide))]
  · rw [if_neg h, if_neg h]
    iintro H
    isplitl; · iexact H
    iempintro

/-- A receive semaphore at the end: at zero. -/
theorem recv_end (t : Tr) : RecvF c 60 t ⊢ (semVal (rCell c t) 0 : sProp 𝕄) := by
  have hr : ∀ t : Tr, rlive c t = true → ¬ 60 ≤ rPos (cz c) t := by
    generalize c = d; revert d; decide +kernel
  unfold RecvF
  rw [if_neg fun h => hr t h.1 h.2]

/-- Slabs held at any contents are their buffer held. -/
theorem scr_any {ι : Type} [Fintype ι] [DecidableEq ι] {ℓ : Loc nD τ sig} (S : ι → Finset (Idx ℓ)) (cl : Idx ℓ → ι)
    (h : ∀ t i, i ∈ S t ↔ cl i = t) {Φ : ι → sProp 𝕄} (hΦ : ∀ t, Φ t ⊢ iprop(∃ f, ℓ ↦[S t]{fullShare} f)) :
    bigSep Finset.univ Φ ⊢ iprop(∃ f, ℓ ↦{fullShare} f) :=
  (bigSep_mono fun t _ => hΦ t).trans (join_any S cl h)

/-- The argument's row blocks at the end. -/
theorem st_end : iprop(bigSep Finset.univ (StF m c 62) ∗ bigSep Finset.univ fun x : I3 => PayF m c (.inl x))
    ⊢ (iprop(∃ f, ((c : Thread nD τ).loc cc0_scratch0) ↦{fullShare} f) : sProp 𝕄) := by
  rw [← bigSep_sep']
  refine scr_any (ℓ := (c : Thread nD τ).loc cc0_scratch0) (fun x : I3 => (sl16 stB (blk x.2.2 (cw c + x.2.1)) x.1).view.set) (clSt c) (mem_st c) fun x => ?_
  have hs : live c (.inl x) = true → sPos (cz c) (.inl x) < 62 := by
    revert x; generalize c = d; revert d; decide +kernel
  unfold StF PayF
  by_cases h : live c (.inl x) = true
  · rw [if_pos ⟨h, hs h⟩, if_pos h]
    iintro ⟨-, H⟩
    iapply (show paySend m c (.inl x) ⊢ iprop(∃ f, ((c : Thread nD τ).loc cc0_scratch0) ↦[(sl16 stB (blk x.2.2 (cw c + x.2.1)) x.1).view.set]{fullShare} f)
      from slab_any m c (sM c (.inl x)) (sV m c (.inl x))) $$ H
  · rw [if_neg fun h' => h h'.1, if_neg h]
    iintro ⟨H, -⟩
    iapply (show paySend m c (.inl x) ⊢ iprop(∃ f, ((c : Thread nD τ).loc cc0_scratch0) ↦[(sl16 stB (blk x.2.2 (cw c + x.2.1)) x.1).view.set]{fullShare} f)
      from slab_any m c (sM c (.inl x)) (sV m c (.inl x))) $$ H

/-- The narrow sums at the end. -/
theorem cs_end : iprop(bigSep Finset.univ (CsF m c 62 8) ∗ bigSep Finset.univ fun x : I2 => PayF m c (.inr (.inl x)))
    ⊢ (iprop(∃ f, ((c : Thread nD τ).loc cc0_scratch3) ↦{fullShare} f) : sProp 𝕄) := by
  rw [← bigSep_sep']
  refine scr_any (ℓ := (c : Thread nD τ).loc cc0_scratch3) (fun x : I2 => (sl4 csB x.2 x.1).view.set) cl4 mem_cs fun x => ?_
  have hs : live c (.inr (.inl x)) = true → sPos (cz c) (.inr (.inl x)) < 62 := by
    revert x; generalize c = d; revert d; decide +kernel
  have hb : 4 * x.1.val + x.2.val < 8 := by omega
  unfold CsF PayF
  by_cases h : live c (.inr (.inl x)) = true
  · rw [if_pos ⟨h, hs h⟩, if_pos h]
    iintro ⟨-, H⟩
    iapply (show paySend m c (.inr (.inl x)) ⊢ iprop(∃ f, ((c : Thread nD τ).loc cc0_scratch3) ↦[(sl4 csB x.2 x.1).view.set]{fullShare} f)
      from slab_any m c (sM c (.inr (.inl x))) (sV m c (.inr (.inl x)))) $$ H
  · rw [if_neg fun h' => h h'.1, if_neg h, if_pos hb]
    iintro ⟨H, -⟩
    iapply (show _ ⊢ iprop(∃ f, ((c : Thread nD τ).loc cc0_scratch3) ↦[(sl4 csB x.2 x.1).view.set]{fullShare} f)
      from slab_any m c (sl4 csB x.2 x.1) (cbV m c x.2 x.1)) $$ H

/-- The wide sums at the end. -/
theorem cu_end : bigSep Finset.univ (CuF m c 8) ⊢ (iprop(∃ f, ((c : Thread nD τ).loc cc0_scratch2) ↦{fullShare} f) : sProp 𝕄) := by
  refine scr_any (ℓ := (c : Thread nD τ).loc cc0_scratch2) (fun x : I2 => (sl4 cuB x.2 x.1).view.set) cl4 mem_cu fun x => ?_
  have hb : 4 * x.1.val + x.2.val < 8 := by omega
  unfold CuF
  rw [if_pos hb]
  exact slab_any m c (sl4 cuB x.2 x.1) (sumV m c x.2 x.1)

/-- A slab received whole, or never to be received. -/
theorem got_any (t : Tr) (hq : rq (cz c) 62 t = fullShare) (hg : rlive c t = true → got c 60 2 t = true) :
    GotF m c 62 60 2 t ⊢ (anyslab c (rM t) : sProp 𝕄) := by
  unfold GotF
  by_cases h : got c 60 2 t = true
  · rw [if_pos h, hq]
    exact slab_any m c (rM t) (rV m c t)
  · rw [if_neg h, if_neg fun h' => h (hg h')]

/-- At the end every slab is received. -/
theorem got_all : ∀ t : Tr, rlive c t = true → got c 60 2 t = true := by
  generalize c = d; revert d; decide +kernel

/-- The slabs received from the plane at the end. -/
theorem p1_end : (bigSep Finset.univ fun x : I3 => GotF m c 62 60 2 (.inl x))
    ⊢ (iprop(∃ f, ((c : Thread nD τ).loc cc0_scratch1) ↦{fullShare} f) : sProp 𝕄) :=
  scr_any (ℓ := (c : Thread nD τ).loc cc0_scratch1) (fun x : I3 => (sl44 p1B x.2.1 x.2.2 x.1).view.set) cl44 mem_p1
    fun x => got_any m c (.inl x) rfl (got_all c _)

/-- The slabs received from other planes at the end. -/
theorem p2_end : (bigSep Finset.univ fun x : I2 => GotF m c 62 60 2 (.inr (.inl x)))
    ⊢ (iprop(∃ f, ((c : Thread nD τ).loc cc0_scratch4) ↦{fullShare} f) : sProp 𝕄) :=
  scr_any (ℓ := (c : Thread nD τ).loc cc0_scratch4) (fun x : I2 => (sl4 p2B x.2 x.1).view.set) cl4 mem_p2
    fun x => got_any m c (.inr (.inl x)) rfl (got_all c _)

/-- The finished slabs received from the plane at the end. -/
theorem pg_end : (bigSep Finset.univ fun x : I3 => GotF m c 62 60 2 (.inr (.inr (.inr x))))
    ⊢ (iprop(∃ f, ((c : Thread nD τ).loc cc0_scratch6) ↦{fullShare} f) : sProp 𝕄) :=
  scr_any (ℓ := (c : Thread nD τ).loc cc0_scratch6) (fun x : I3 => (sl44 pgB x.2.1 x.2.2 x.1).view.set) cl44 mem_pg
    fun x => got_any m c (.inr (.inr (.inr x))) rfl (got_all c _)

/-! ## The finished blocks, their shares put together -/

/-- A family over four. -/
theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

/-- Three shares put back. -/
theorem three_back (k : ℕ) (M : Memref sig .tc .vmem S32x1024 .bf16) (v : Slab F .bf16) :
    iprop(slab m c M (Transfers.shareDrop fullShare (k + 3)) v ∗ slab m c M (Transfers.shareTokN fullShare k) v
        ∗ slab m c M (Transfers.shareTokN fullShare (k + 1)) v ∗ slab m c M (Transfers.shareTokN fullShare (k + 2)) v)
      ⊢ slab m c M (Transfers.shareDrop fullShare k) v := by
  have h0 := (slab_share m c M fullShare k v).2
  have h1 := (slab_share m c M fullShare (k + 1) v).2
  have h2 := (slab_share m c M fullShare (k + 2) v).2
  iintro ⟨H, H0, H1, H2⟩
  iapply h0
  isplitr [H0]
  · iapply h1
    isplitr [H1]
    · iapply h2
      isplitl [H]; · iexact H
      iexact H2
    · iexact H1
  · iexact H0

/-- The sends of a finished block inside the plane hand their shares back. -/
theorem payD_back (h : Fin 2) (zs : Fin 4) (k : ℕ) (hk : k = if zs = cz c then 3 else 0) :
    iprop(slab m c (sl4 cfB zs h) (Transfers.shareDrop fullShare (k + 3)) (cfV m (dev zs (cw c)) h)
        ∗ bigSep Finset.univ fun j : Fin 4 => PayF m c (tD h j zs))
      ⊢ slab m c (sl4 cfB zs h) (Transfers.shareDrop fullShare k) (cfV m (dev zs (cw c)) h) := by
  have e (j : Fin 4) (hj : j ≠ 0) : PayF m c (tD h j zs)
      = slab m c (sl4 cfB zs h) (Transfers.shareTokN fullShare (k + (j.val - 1))) (cfV m (dev zs (cw c)) h) := by
    unfold PayF
    rw [if_pos (show live c (tD h j zs) = true from decide_eq_true hj)]
    unfold paySend
    have hs : sq (cz c) (tD h j zs) = Transfers.shareTokN fullShare (k + (j.val - 1)) := by
      show Transfers.shareTokN fullShare (if zs = cz c then 3 + (j.val - 1) else j.val - 1) = _
      rw [hk]
      split_ifs <;> simp
    rw [hs]
    rfl
  rw [bigSep_four, e 1 (by decide), e 2 (by decide), e 3 (by decide)]
  iintro ⟨H, -, H0, H1, H2⟩
  iapply (three_back m c k (sl4 cfB zs h) (cfV m (dev zs (cw c)) h))
  isplitl [H]; · iexact H
  isplitl [H0]; · iexact H0
  isplitl [H1]; · iexact H1
  iexact H2

/-- The sends of a finished block to the other planes hand their shares back. -/
theorem payC_back (h : Fin 2) :
    iprop(slab m c (sl4 cfB (cz c) h) (Transfers.shareDrop fullShare 3) (cfV m c h)
        ∗ bigSep Finset.univ fun j : Fin 4 => PayF m c (tC h j))
      ⊢ slab m c (sl4 cfB (cz c) h) fullShare (cfV m c h) := by
  have e (j : Fin 4) (hj : j ≠ 0) : PayF m c (tC h j)
      = slab m c (sl4 cfB (cz c) h) (Transfers.shareTokN fullShare (0 + (j.val - 1))) (cfV m c h) := by
    unfold PayF
    rw [if_pos (show live c (tC h j) = true from decide_eq_true hj), Nat.zero_add]
    rfl
  rw [bigSep_four, e 1 (by decide), e 2 (by decide), e 3 (by decide)]
  iintro ⟨H, -, H0, H1, H2⟩
  iapply (three_back m c 0 (sl4 cfB (cz c) h) (cfV m c h))
  isplitl [H]; · iexact H
  isplitl [H0]; · iexact H0
  isplitl [H1]; · iexact H1
  iexact H2

/-- What is left of a finished block at the end. -/
theorem gotC (h : Fin 2) (zs : Fin 4) : GotF m c 62 60 2 (tC h zs)
    = slab m c (sl4 cfB zs h) (Transfers.shareDrop fullShare ((if zs = cz c then 3 else 0) + 3)) (cfV m (dev zs (cw c)) h) := by
  have hg : ∀ (h : Fin 2) (zs : Fin 4), got c 60 2 (tC h zs) = true ∧ kq (cz c) 62 h zs = (if zs = cz c then 3 else 0) + 3 := by
    generalize c = d; revert d; decide +kernel
  unfold GotF
  rw [if_pos (hg h zs).1]
  show slab m c (rM (tC h zs)) (Transfers.shareDrop fullShare (kq (cz c) 62 h zs)) (rV m c (tC h zs)) = _
  rw [(hg h zs).2]
  rfl

/-- The finished blocks of one half, whole again. -/
theorem cf_half (h : Fin 2) :
    iprop((bigSep Finset.univ fun zs : Fin 4 => GotF m c 62 60 2 (tC h zs)) ∗ (bigSep Finset.univ fun j : Fin 4 => PayF m c (tC h j))
        ∗ bigSep Finset.univ fun j : Fin 4 => bigSep Finset.univ fun zs : Fin 4 => PayF m c (tD h j zs))
      ⊢ bigSep Finset.univ fun zs : Fin 4 => (anyslab c (sl4 cfB zs h) : sProp 𝕄) := by
  rw [bigSep_univ_comm (fun (j zs : Fin 4) => PayF m c (tD h j zs))]
  have hD (zs : Fin 4) : iprop(GotF m c 62 60 2 (tC h zs) ∗ bigSep Finset.univ fun j : Fin 4 => PayF m c (tD h j zs))
      ⊢ slab m c (sl4 cfB zs h) (Transfers.shareDrop fullShare (if zs = cz c then 3 else 0)) (cfV m (dev zs (cw c)) h) := by
    rw [gotC]
    exact payD_back m c h zs _ rfl
  have hE : iprop((bigSep Finset.univ fun zs : Fin 4 => GotF m c 62 60 2 (tC h zs))
        ∗ bigSep Finset.univ fun zs : Fin 4 => bigSep Finset.univ fun j : Fin 4 => PayF m c (tD h j zs))
      ⊢ bigSep Finset.univ fun zs : Fin 4 => slab m c (sl4 cfB zs h) (Transfers.shareDrop fullShare (if zs = cz c then 3 else 0)) (cfV m (dev zs (cw c)) h) := by
    rw [← bigSep_sep']
    exact bigSep_mono fun zs _ => hD zs
  have hz : slab m c (sl4 cfB (cz c) h) (Transfers.shareDrop fullShare (if cz c = cz c then 3 else 0)) (cfV m (dev (cz c) (cw c)) h)
      = slab m c (sl4 cfB (cz c) h) (Transfers.shareDrop fullShare 3) (cfV m c h) := by
    rw [if_pos rfl, dev_eta]
  have hr : (bigSep (Finset.univ.erase (cz c)) fun zs : Fin 4 => slab m c (sl4 cfB zs h) (Transfers.shareDrop fullShare (if zs = cz c then 3 else 0)) (cfV m (dev zs (cw c)) h))
      ⊢ bigSep (Finset.univ.erase (cz c)) fun zs : Fin 4 => (anyslab c (sl4 cfB zs h) : sProp 𝕄) := by
    refine bigSep_mono fun zs hzs => ?_
    rw [if_neg (Finset.mem_erase.mp hzs).1]
    exact slab_any m c (sl4 cfB zs h) (cfV m (dev zs (cw c)) h)
  rw [bigSep_univ_at (fun zs : Fin 4 => slab m c (sl4 cfB zs h) (Transfers.shareDrop fullShare (if zs = cz c then 3 else 0)) (cfV m (dev zs (cw c)) h)) (cz c), hz] at hE
  rw [bigSep_univ_at (fun zs : Fin 4 => (anyslab c (sl4 cfB zs h) : sProp 𝕄)) (cz c)]
  iintro ⟨HG, HC, HD⟩
  ihave H := hE $$ [HG HD]
  · isplitl [HG]; · iexact HG
    iexact HD
  icases H with ⟨H0, H⟩
  isplitl [H0 HC]
  · iapply (slab_any m c (sl4 cfB (cz c) h) (cfV m c h))
    iapply (payC_back m c h)
    isplitl [H0]; · iexact H0
    iexact HC
  · iapply hr $$ H

/-- The buffer of finished blocks, whole again. -/
theorem cf_end :
    iprop((bigSep Finset.univ fun x : I2 => GotF m c 62 60 2 (.inr (.inr (.inl x)))) ∗ (bigSep Finset.univ fun x : I2 => PayF m c (.inr (.inr (.inl x))))
        ∗ bigSep Finset.univ fun x : I3 => PayF m c (.inr (.inr (.inr x))))
      ⊢ (iprop(∃ f, ((c : Thread nD τ).loc cc0_scratch5) ↦{fullShare} f) : sProp 𝕄) := by
  rw [bigSep_univ_prod, bigSep_univ_prod, bigSep_univ_prod (fun x : I3 => PayF m c (.inr (.inr (.inr x)))),
    bigSep_congr (s := Finset.univ) (fun (h : Fin 2) _ => bigSep_univ_prod (fun x : Fin 4 × Fin 4 => PayF m c (.inr (.inr (.inr (h, x)))))),
    ← bigSep_sep', ← bigSep_sep']
  refine (bigSep_mono fun h _ => cf_half m c h).trans ?_
  rw [← bigSep_univ_prod (fun x : I2 => (anyslab c (sl4 cfB x.2 x.1) : sProp 𝕄))]
  exact scr_any (ℓ := (c : Thread nD τ).loc cc0_scratch5) (fun x : I2 => (sl4 cfB x.2 x.1).view.set) cl4 mem_cf fun x => Entails.refl _

/-! ## The end -/

/-- What a device ends with. -/
theorem inv_end (K : Dev nD × CI → ℕ) :
    Inv m K c 62 60 62 8 8 2 32 ⊢ iprop((∃ W, owes (c : Thread nD τ) 0 W)
      ∗ (((c : Thread nD τ).loc cc0_stg0_0) ↦{fullShare} (xstg m c)) ∗ (((c : Thread nD τ).loc cc0_stg1_0) ↦{fullShare} (outV m))
      ∗ unscopedSems0 c ∗ Pipeline.ownSems0 (Ix := Unit) (Name := ℕ) (U := UU) (Lvl := ℕ) (Val := Elt F) (τ := τ) osem c
      ∗ Pipeline.scopedRest spec0 c) := by
  have hS : bigSep Finset.univ (SendF m c 62 62)
      ⊢ iprop((bigSep Finset.univ fun t : Tr => semVal (sCell c t) 0) ∗ bigSep Finset.univ (PayF m c)) := by
    rw [← bigSep_sep']
    exact bigSep_mono fun t _ => send_end m c t
  have hR : bigSep Finset.univ (RecvF c 60) ⊢ (bigSep Finset.univ fun t : Tr => semVal (rCell c t) 0 : sProp 𝕄) :=
    bigSep_mono fun t _ => recv_end c t
  have hsem : (bigSep Finset.univ fun k : Tr ⊕ Tr => (semVal ((c : Thread nD τ), osem k) 0 : sProp 𝕄))
      = iprop((bigSep Finset.univ fun t : Tr => semVal (sCell c t) 0) ∗ bigSep Finset.univ fun t : Tr => semVal (rCell c t) 0) :=
    bigSep_univ_sum _
  rw [bigSep_Tr (PayF m c)] at hS
  rw [scopedRest0_eq, unscopedSems0_eq]
  unfold Inv Pipeline.ownSems0 XF
  rw [owedS_end, bigSep_Tr (GotF m c 62 60 2)]
  iintro ⟨-, HO, ⟨Hx, HzB⟩, HS, HR, ⟨HG1, HG2, HG3, HG4⟩, Hst, Hcs, Hcu, Hout⟩
  ihave HS := hS $$ HS
  icases HS with ⟨HzS, HPA, HPB, HPC, HPD⟩
  ihave HzR := hR $$ HR
  isplitl [HO]; · iexact HO
  isplitl [Hx]; · iexact Hx
  isplitl [Hout]; · iapply (out_end m c) $$ Hout
  isplitl [HzB]; · iexact HzB
  isplitl [HzS HzR]
  · iapply (Entails.of_eq hsem.symm)
    isplitl [HzS]; · iexact HzS
    iexact HzR
  isplitl [Hst HPA]
  · iapply (st_end m c)
    isplitl [Hst]; · iexact Hst
    iexact HPA
  isplitl [HG1]; · iapply (p1_end m c) $$ HG1
  isplitl [Hcu]; · iapply (cu_end m c) $$ Hcu
  isplitl [Hcs HPB]
  · iapply (cs_end m c)
    isplitl [Hcs]; · iexact Hcs
    iexact HPB
  isplitl [HG2]; · iapply (p2_end m c) $$ HG2
  isplitl [HG3 HPC HPD]
  · iapply (cf_end m c)
    isplitl [HG3]; · iexact HG3
    isplitl [HPC]; · iexact HPC
    iexact HPD
  iapply (pg_end m c) $$ HG4

end Finish

end Cert.AllReduce
-- ==== Proof.Body.lean ====
module

public import proofs.«01_k».proof.Proof.Start

@[expose] public section

set_option maxRecDepth 8000

/-!
# The program of one device

The whole program, run from what a device holds at its start to what it holds
at its end, one step at a time.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

attribute [local irreducible] Inv Pre wp

section Body
variable (K : Dev nD × CI → ℕ) (c : Dev nD)

set_option maxHeartbeats 40000000 in
/-- The program of device `c`, from what it holds at its start: it makes its six signals
    and its 62 sends, does its 60 receive waits and 62 send waits, and stores the 32 slabs
    of the result. -/
theorem body_run {h0 h1 h2 h3 h4 h5 h6 h7 h8} :
    Pre m K c 0 ⊢ wpC c (cc0_body xB h0 (Memref.whole cc0_stg1_0) h1 stB h2 p1B h3 cuB h4 csB h5 p2B h6 cfB h7 pgB h8
      cc0_scratch7 cc0_scratch8 cc0_scratch9 cc0_scratch10 cc0_scratch11 cc0_scratch12 cc0_scratch13 cc0_scratch14)
      (fun _ => Inv m K c 62 60 62 8 8 2 32) := by
  rw [cc0_body_eq_skeleton]; unfold cc0_body_skel
  repeat (first
    | (simp only [Prog.bind_ret]; try simp only [Prog.lift, Prog.bind_op, Prog.bind_ret, Prog.pure_eq_ret])
    | (refine bind_step c fun Q0 hQ0 => ?_; rw [k0_part107_eq_skeleton]; unfold k0_part107_skel)
    | (refine bind_step c fun Q0 hQ0 => ?_; rw [k0_part108_eq_skeleton]; unfold k0_part108_skel)
    | (refine bind_step c fun Q1 hQ1 => ?_; simp only [k0_part1_eq_skeleton, k0_part1_skel, k0_part2_eq_skeleton, k0_part2_skel, k0_part3_eq_skeleton, k0_part3_skel, k0_part4_eq_skeleton, k0_part4_skel, k0_part5_eq_skeleton, k0_part5_skel, k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, k0_part13_eq_skeleton, k0_part13_skel, k0_part14_eq_skeleton, k0_part14_skel, k0_part15_eq_skeleton, k0_part15_skel, k0_part16_eq_skeleton, k0_part16_skel, k0_part17_eq_skeleton, k0_part17_skel, k0_part18_eq_skeleton, k0_part18_skel, k0_part19_eq_skeleton, k0_part19_skel, k0_part20_eq_skeleton, k0_part20_skel, k0_part21_eq_skeleton, k0_part21_skel, k0_part22_eq_skeleton, k0_part22_skel, k0_part23_eq_skeleton, k0_part23_skel, k0_part24_eq_skeleton, k0_part24_skel, k0_part25_eq_skeleton, k0_part25_skel, k0_part26_eq_skeleton, k0_part26_skel, k0_part27_eq_skeleton, k0_part27_skel, k0_part28_eq_skeleton, k0_part28_skel, k0_part29_eq_skeleton, k0_part29_skel, k0_part30_eq_skeleton, k0_part30_skel, k0_part31_eq_skeleton, k0_part31_skel, k0_part32_eq_skeleton, k0_part32_skel, k0_part33_eq_skeleton, k0_part33_skel, k0_part34_eq_skeleton, k0_part34_skel, k0_part35_eq_skeleton, k0_part35_skel, k0_part36_eq_skeleton, k0_part36_skel, k0_part37_eq_skeleton, k0_part37_skel, k0_part38_eq_skeleton, k0_part38_skel, k0_part39_eq_skeleton, k0_part39_skel, k0_part40_eq_skeleton, k0_part40_skel, k0_part41_eq_skeleton, k0_part41_skel, k0_part42_eq_skeleton, k0_part42_skel, k0_part43_eq_skeleton, k0_part43_skel, k0_part44_eq_skeleton, k0_part44_skel, k0_part45_eq_skeleton, k0_part45_skel, k0_part46_eq_skeleton, k0_part46_skel, k0_part47_eq_skeleton, k0_part47_skel, k0_part48_eq_skeleton, k0_part48_skel, k0_part49_eq_skeleton, k0_part49_skel, k0_part50_eq_skeleton, k0_part50_skel, k0_part51_eq_skeleton, k0_part51_skel, k0_part52_eq_skeleton, k0_part52_skel, k0_part53_eq_skeleton, k0_part53_skel, k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, k0_part68_eq_skeleton, k0_part68_skel, k0_part69_eq_skeleton, k0_part69_skel, k0_part70_eq_skeleton, k0_part70_skel, k0_part71_eq_skeleton, k0_part71_skel, k0_part72_eq_skeleton, k0_part72_skel, k0_part73_eq_skeleton, k0_part73_skel, k0_part74_eq_skeleton, k0_part74_skel, k0_part75_eq_skeleton, k0_part75_skel, k0_part76_eq_skeleton, k0_part76_skel, k0_part77_eq_skeleton, k0_part77_skel, k0_part78_eq_skeleton, k0_part78_skel, k0_part79_eq_skeleton, k0_part79_skel, k0_part80_eq_skeleton, k0_part80_skel, k0_part81_eq_skeleton, k0_part81_skel, k0_part82_eq_skeleton, k0_part82_skel, k0_part83_eq_skeleton, k0_part83_skel, k0_part84_eq_skeleton, k0_part84_skel, k0_part85_eq_skeleton, k0_part85_skel, k0_part86_eq_skeleton, k0_part86_skel, k0_part87_eq_skeleton, k0_part87_skel, k0_part88_eq_skeleton, k0_part88_skel, k0_part89_eq_skeleton, k0_part89_skel, k0_part90_eq_skeleton, k0_part90_skel, k0_part91_eq_skeleton, k0_part91_skel, k0_part92_eq_skeleton, k0_part92_skel, k0_part93_eq_skeleton, k0_part93_skel, k0_part94_eq_skeleton, k0_part94_skel, k0_part95_eq_skeleton, k0_part95_skel, k0_part96_eq_skeleton, k0_part96_skel, k0_part97_eq_skeleton, k0_part97_skel, k0_part98_eq_skeleton, k0_part98_skel, k0_part99_eq_skeleton, k0_part99_skel, k0_part100_eq_skeleton, k0_part100_skel, k0_part101_eq_skeleton, k0_part101_skel, k0_part102_eq_skeleton, k0_part102_skel, k0_part103_eq_skeleton, k0_part103_skel, k0_part104_eq_skeleton, k0_part104_skel, k0_part105_eq_skeleton, k0_part105_skel, k0_part106_eq_skeleton, k0_part106_skel, semSignalWord, semWaitWord, Prog.lift, Prog.bind_op, Prog.bind_ret, Prog.pure_eq_ret])
    | (refine if_send m K c ?_ (fun hh hk => ?_) ?_; (· (intro hh; revert hh; generalize c = d; revert d; decide +kernel)); (· refine mv_sendB m K c ?_ hk; clear hk; revert hh; generalize c = d; revert d; decide +kernel))
    | (refine if_wait m K c ?_ (fun hh hk => ?_) ?_; (· (intro hh; revert hh; generalize c = d; revert d; decide +kernel)); (· refine mv_swait m K c ?_ (by rfl) hk; clear hk; revert hh; generalize c = d; revert d; decide +kernel))
    | (refine mv_sendA m K c ?_ ?_; (· (generalize c = d; revert d; decide +kernel)))
    | (refine mv_sendB m K c ?_ ?_; (· (generalize c = d; revert d; decide +kernel)))
    | (refine mv_sendC m K c ?_ ?_; (· (generalize c = d; revert d; decide +kernel)))
    | (refine mv_sendD m K c ?_ ?_; (· (generalize c = d; revert d; decide +kernel)))
    | (refine mv_rwait m K c ?_ (by rfl) ?_; (· (generalize c = d; revert d; decide +kernel)))
    | (refine mv_swait m K c ?_ (by rfl) ?_; (· (generalize c = d; revert d; decide +kernel)))
    | (refine mv_ld_p1 m K c 1 ?_ ?_; (· (generalize c = d; revert d; decide +kernel)))
    | (refine mv_ld_p1 m K c 2 ?_ ?_; (· (generalize c = d; revert d; decide +kernel)))
    | (refine mv_ld_p1 m K c 3 ?_ ?_; (· (generalize c = d; revert d; decide +kernel)))
    | (refine mv_ld_p2 m K c 1 ?_ ?_; (· (generalize c = d; revert d; decide +kernel)))
    | (refine mv_ld_p2 m K c 2 ?_ ?_; (· (generalize c = d; revert d; decide +kernel)))
    | (refine mv_ld_p2 m K c 3 ?_ ?_; (· (generalize c = d; revert d; decide +kernel)))
    | (refine mv_ld_x m K c ?_ ?_; (· (generalize c = d; revert d; decide +kernel)))
    | (refine mv_ld_pg m K c ?_ ?_; (· (generalize c = d; revert d; decide +kernel)))
    | (refine mv_ld_cf m K c ?_ ?_; (· (generalize c = d; revert d; decide +kernel)))
    | (refine mv_ld_cs_any m K c ?_ (fun _ => ?_); · (generalize c = d; revert d; decide +kernel))
    | (refine mv_ld_cf_any m K c ?_ (fun _ => ?_); · (generalize c = d; revert d; decide +kernel))
    | (refine mv_ld_out_any m K c ?_ (fun _ => ?_); · (generalize c = d; revert d; decide +kernel))
    | (refine mv_ld_cu_any m K c ?_ (fun _ => ?_); · (generalize c = d; revert d; decide +kernel))
    | (refine mv_ld_cu m K c ?_ ?_; (· (generalize c = d; revert d; decide +kernel)))
    | (refine mv_st_cu m K c ?_ ?_ ?_; (· (generalize c = d; revert d; decide +kernel)); (· (simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_shapeCast, shapeCast_self, sumV, wide]; first | done | rfl)))
    | (refine mv_st_cs m K c ?_ ?_ ?_; (· (generalize c = d; revert d; decide +kernel)); (· (simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_shapeCast, shapeCast_self, cbV, sumV, wide, narrow]; first | done | rfl)))
    | (refine mv_st_cf m K c ?_ ?_ ?_; (· (generalize c = d; revert d; decide +kernel)); (· (simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_shapeCast, shapeCast_self, cfV, finV, wide, narrow]; first | done | rfl)))
    | (refine mv_st_own m K c ?_ ?_ ?_; (· (generalize c = d; revert d; decide +kernel)); (· (simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_shapeCast, shapeCast_self]; first | done | rfl)))
    | (refine mv_st_out m K c ?_ ?_ ?_; (· (generalize c = d; revert d; decide +kernel)); (· (simp only [k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, shapeCast_shapeCast, shapeCast_self]; first | done | rfl)))
    | (refine mv_signal m K c ?_ ?_; (· (generalize c = d; revert d; decide +kernel)))
    | refine mv_open m K c ?_
    | refine dev_step c ?_
    | (refine ret_step c ?_; subst hQ1; dsimp only)
    | (refine ret_step c ?_; subst hQ0; dsimp only))
  exact ret_step (F := F) c Entails.rfl

end Body

end Cert.AllReduce
-- ==== Proof.Run.lean ====
module

public import proofs.«01_k».proof.Proof.Finish
public import proofs.«01_k».proof.Proof.Body
public import Idealize.ShloMosaic.Lib.Pipeline.Launch
public import Idealize.ShloMosaic.Lib.Pipeline.Kit
public import Idealize.ShloMosaic.Lib.Pipeline.CollectiveSegs
public import Idealize.ShloMosaic.Lib.Quiescent

@[expose] public section

set_option maxRecDepth 8000

/-!
# The run

The launch of the program on the sixteen devices: what the body starts from is put
together from what the launch deals, the body runs, and what it leaves is handed back.
-/

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)
variable (ρ : Dev nD → PrngReg)

/-! ## The run's data -/

/-- The memory a run starts from. -/
abbrev s₀ : MemSt nD τ sig (Elt F) := ⟨m, fun _ => 0, ρ⟩

/-- The region has one point. -/
theorem fin_N (t : Fin cfg0.N) : t = t0_0 := fin_N0 t

/-- What a device has before the body runs. -/
def Φ₀ (c : Dev nD) : sProp 𝕄 := iprop(start m c ∗ Pipeline.scopedRest (Ix := Unit) (Name := ℕ) (U := UU) (Lvl := ℕ) (Val := Elt F) spec0 c)

/-- What a device has after the body has run. -/
def Φ₁ (c : Dev nD) : sProp 𝕄 := iprop(unscopedSems0 c
  ∗ Pipeline.ownSems0 (Ix := Unit) (Name := ℕ) (U := UU) (Lvl := ℕ) (Val := Elt F) (τ := τ) osem c
  ∗ Pipeline.scopedRest (Ix := Unit) (Name := ℕ) (U := UU) (Lvl := ℕ) (Val := Elt F) spec0 c)

/-- The data of the region: the argument staged, the result written, the rest carried. -/
def dats (_ : Fin 1) (c : Dev nD) : Pipeline.Dat τ (Elt F) Unit ℕ UU ℕ cfg0 c where
  A w := (s₀ m ρ).mem ((cfg0.win w).arr.view.loc (c : Thread nD τ))
  after w _ := match w with
    | ⟨0, _⟩ => xstg m c
    | ⟨1, _⟩ => outV m
  Φ t := match t with
    | ⟨0, _⟩ => Φ₀ m c
    | ⟨_ + 1, _⟩ => Φ₁ c
  q _ := fullShare
  owed t := match t with
    | ⟨0, _⟩ => O₀ c
    | ⟨_ + 1, _⟩ => 0

/-- A whole buffer's holding. -/
theorem owns_buf (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) ((c : Thread nD τ).loc b), ⌜f = X⌝ ∗ (((c : Thread nD τ).loc b) ↦{fullShare} f)) := by
  unfold owns
  simp only [Memref.view_whole, View.read_whole, View.set_whole]

/-! ## What the body starts from -/

/-- The buffer of plane sums to send, as slabs. -/
theorem cs_start (c : Dev nD) : (iprop(∃ f, ((c : Thread nD τ).loc cc0_scratch3) ↦{fullShare} f) : sProp 𝕄)
    ⊢ bigSep Finset.univ (CsF m c 0 0) := by
  refine (any_split (ℓ := (c : Thread nD τ).loc cc0_scratch3) (fun x : I2 => (sl4 csB x.2 x.1).view.set) cl4 mem_cs).trans
    (bigSep_mono fun x _ => ?_)
  unfold CsF
  rw [if_neg fun h => absurd h.2 (Nat.not_lt_zero _), if_neg (Nat.not_lt_zero _)]
  exact Entails.refl _

/-- The buffer of plane sums to keep, as slabs. -/
theorem cu_start (c : Dev nD) : (iprop(∃ f, ((c : Thread nD τ).loc cc0_scratch2) ↦{fullShare} f) : sProp 𝕄)
    ⊢ bigSep Finset.univ (CuF m c 0) := by
  refine (any_split (ℓ := (c : Thread nD τ).loc cc0_scratch2) (fun x : I2 => (sl4 cuB x.2 x.1).view.set) cl4 mem_cu).trans
    (bigSep_mono fun x _ => ?_)
  unfold CuF
  rw [if_neg (Nat.not_lt_zero _)]
  exact Entails.refl _

/-- The result's buffer, as slabs. -/
theorem out_start (c : Dev nD) : (iprop(∃ f, ((c : Thread nD τ).loc cc0_stg1_0) ↦{fullShare} f) : sProp 𝕄)
    ⊢ bigSep Finset.univ (OutF m c 0) := by
  refine (any_split (ℓ := (c : Thread nD τ).loc cc0_stg1_0) (fun x : I3 => (slO (blk x.2.2 (cw c + x.2.1)) x.1).view.set) (clOut c) (mem_out c)).trans
    (bigSep_mono fun x _ => ?_)
  unfold OutF
  rw [if_neg (Nat.not_lt_zero _)]
  exact Entails.refl _

/-- What the signals give. -/
theorem gift_start (c : Dev nD) :
    iprop((bigSep Finset.univ fun i : Fin 6 => dutyTok ER (barCell (pk c i.val)) 0 c)
      ∗ bigSep Finset.univ fun i : Fin 6 => payBar (pk c i.val) c) ⊢ (bigSep Finset.univ (GiftF c 0) : sProp 𝕄) := by
  rw [← bigSep_sep']
  refine bigSep_mono fun i _ => ?_
  unfold GiftF
  rw [if_pos (Nat.zero_le _)]
  exact Entails.refl _

/-- What the body starts from, out of what the launch deals. -/
theorem pre_of (K : Dev nD × CI → ℕ) (c : Dev nD) :
    iprop((records m K ∗ (cred (tallyAt (barCell c) () 6) ∗ atPos ER (barCell c) 0 ∅ 0)
          ∗ (bigSep Finset.univ fun i : Fin 6 => dutyTok ER (barCell (pk c i.val)) 0 c)
          ∗ bigSep Finset.univ (SendP c) ∗ bigSep Finset.univ (RecvF c 0))
        ∗ Pipeline.scopedRest (Ix := Unit) (Name := ℕ) (U := UU) (Lvl := ℕ) (Val := Elt F) spec0 c
        ∗ (∃ W, owes (c : Thread nD τ) (O₀ c) W)
        ∗ (((c : Thread nD τ).loc cc0_stg0_0) ↦{fullShare} (xstg m c)) ∗ (∃ f, ((c : Thread nD τ).loc cc0_stg1_0) ↦{fullShare} f))
      ⊢ Pre m K c 0 := by
  rw [scopedRest0_eq]
  unfold Pre
  iintro ⟨⟨HR, HB, Hd, HS, HV⟩, ⟨H0, H1, H2, H3, H4, H5, H6⟩, HO, Hx, Hout⟩
  ihave Hb := (bufs_split (F := F) c) $$ [H1 H4 H5 H6]
  · isplitl [H1]; · iexact H1
    isplitl [H4]; · iexact H4
    isplitl [H5]; · iexact H5
    iexact H6
  ihave Hl := (lands m c) $$ Hb
  icases Hl with ⟨HG, Hl⟩
  ihave Hg := (gifts (F := F) c) $$ Hl
  isplitl [HR]; · iexact HR
  isplitl [HO]; · iexact HO
  isplitl [HB]; · iexact HB
  isplitl [Hx]; · iexact Hx
  isplitl [H0]; · iexact H0
  isplitl [Hd Hg]
  · iapply (gift_start (F := F) c)
    isplitl [Hd]; · iexact Hd
    iexact Hg
  isplitl [HS]; · iexact HS
  isplitl [HV]; · iexact HV
  isplitl [HG]; · iexact HG
  isplitl [H3]; · iapply (cs_start m c) $$ H3
  isplitl [H2]; · iapply (cu_start m c) $$ H2
  iapply (out_start m c) $$ Hout

/-! ## The body -/

/-- A staged buffer at given contents. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- What the region hands the body. -/
def bodyPre (c : Dev nD) : sProp 𝕄 :=
  iprop(Φ₀ m c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What the body hands back. -/
def bodyPost (c : Dev nD) : sProp 𝕄 :=
  iprop(Φ₁ c ∗ (dats m ρ 0 c).owesAt () t0_0.succ ∗ stg c cc0_stg0_0 (xstg m c) ∗ stg c cc0_stg1_0 (outV m))

/-- The argument is staged before the body runs. -/
theorem before_x (c : Dev nD) (d) : (dats m ρ 0 c).before (0 : Fin 2) t0_0 d = xstg m c := by
  unfold Pipeline.Dat.before
  rw [if_pos (show (cfg0.win (0 : Fin 2)).fetch t0_0 = true from by decide +kernel)]
  rfl

/-- The end of the body is what the region takes back. -/
theorem post_of (K : Dev nD × CI → ℕ) (c : Dev nD) : Inv m K c 62 60 62 8 8 2 32 ⊢ bodyPost m ρ c := by
  refine (inv_end m c K).trans ?_
  unfold bodyPost Φ₁ Pipeline.Dat.owesAt Pipeline.owesWithin
  rw [show (dats m ρ 0 c).owed t0_0.succ = 0 from rfl]
  iintro ⟨⟨%W, HO⟩, Hx, Hout, Hrest⟩
  isplitl [Hrest]; · iexact Hrest
  isplitl [HO]
  · iexists W
    isplitr; · ipureintro; exact fun _ _ => Or.inl trivial
    iexact HO
  isplitl [Hx]
  · iexists _; isplitr; · (ipureintro; rfl)
    iexact Hx
  iexists _; isplitr; · (ipureintro; rfl)
  iexact Hout

/-- The body, from what the region hands it to what the region takes back. -/
theorem body_ok (c : Dev nD) : bodyPre m ρ c ⊢ wp frame (wpE (defs₀ (F := F)) 𝒱₀ (c : Thread nD τ) none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      (Memref.whole cc0_scratch6) (Memref.isWhole_whole _)
      cc0_scratch7 cc0_scratch8 cc0_scratch9 cc0_scratch10 cc0_scratch11 cc0_scratch12 cc0_scratch13 cc0_scratch14)
    (fun _ => bodyPost m ρ c) := by
  have hrun (K : Dev nD × CI → ℕ) := (body_run m K c (h0 := Memref.isWhole_whole _) (h1 := Memref.isWhole_whole _)
    (h2 := Memref.isWhole_whole _) (h3 := Memref.isWhole_whole _) (h4 := Memref.isWhole_whole _) (h5 := Memref.isWhole_whole _)
    (h6 := Memref.isWhole_whole _) (h7 := Memref.isWhole_whole _) (h8 := Memref.isWhole_whole _)).trans
      (wp_mono frame (wpE (defs₀ (F := F)) 𝒱₀ (c : Thread nD τ) none) (E := Set.univ) fun _ => post_of m ρ K c)
  unfold bodyPre Φ₀ start Pipeline.Dat.owesAt Pipeline.owesWithin
  rw [show (dats m ρ 0 c).owed t0_0.castSucc = O₀ c from rfl]
  iintro ⟨⟨⟨%K, Hst⟩, Hrest⟩, ⟨%W, %hW, HO⟩, ⟨%d0, %g0, %hg0, Hx⟩, ⟨%d1, %g1, %hg1, Hout⟩⟩
  have hx : g0 = xstg m c := hg0.trans (before_x m ρ c d0)
  subst hx
  iapply (hrun K)
  iapply (pre_of m K c)
  isplitl [Hst]; · iexact Hst
  isplitl [Hrest]; · iexact Hrest
  isplitl [HO]; · iexists W; iexact HO
  isplitl [Hx]; · iexact Hx
  iexists g1
  iexact Hout

/-- The body of the region on device `c`. -/
theorem body_obligation (c : Dev nD) : Pipeline.BodyObligation (dats (F := F) m ρ 0 c) (defs₀ (F := F)) 𝒱₀ () Set.univ := fun t => by
  rw [fin_N t, bigSep_W0, bigSep_W0]
  simp only [owns_buf]
  exact body_ok m ρ c

/-! ## The launch -/

/-- The semaphores of the transfers are the kernel's own. -/
theorem ownSemFacts : Pipeline.OwnSemFacts cfg0.spec osem where
  isScoped := by decide +kernel
  inj := fun a b h => semT_injective (SemLoc.dma.inj h)
  disj := by decide +kernel

/-- Every buffer is held whole. -/
theorem share_eq (c : Dev nD) (w : Fin cfg0.W) : (dats m ρ 0 c).share w = fullShare := by
  unfold Pipeline.Dat.share
  split <;> rfl

/-- What a device owes at the start, it owes to a barrier or to a receive cell. -/
theorem O₀_pos {c : Dev nD} {g : GSem nD τ sig} {u : Unit} (h : 0 < O₀ c g u) :
    (∃ t, live c t = true ∧ 0 ≤ sPos (cz c) t ∧ g = rCell (tgt c t) (rix c t)) ∨ ∃ d, g = barCell d := by
  cases u
  unfold O₀ at h
  rw [Pi.add_apply, Finsupp.add_apply] at h
  by_cases h1 : 0 < owedS c 0 g ()
  · exact Or.inl (owedS_pos h1)
  · right
    by_contra hc
    refine absurd h (not_lt_of_ge ?_)
    rw [Nat.eq_zero_of_not_pos h1]
    unfold owedB
    rw [sum_tally, Finset.sum_eq_zero fun i _ => if_neg fun e => hc ⟨_, e.symm⟩]
    exact Nat.le_refl 0

/-- The staging's waits are below everything owed. -/
theorem mayWait_stage (c : Dev nD) (q : DmaSem sig) (hq : lvN (q : Fin 162).val = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases O₀_pos hg with ⟨t, -, -, rfl⟩ | ⟨d, rfl⟩ <;> (rw [L_tc]; exact Finset.mem_singleton_self _))
      (fun p hp => by rw [Finset.mem_singleton.mp hp]; exact hq.le)
      (fun g u hg => by
        rcases O₀_pos hg with ⟨t, h1, h2, rfl⟩ | ⟨d, rfl⟩
        · exact lt_of_lt_of_le (by decide) (floorS_le c 0 t h1 h2)
        · exact Nat.one_pos)
  · rw [MayWait_zero]
    iintro -
    iempintro

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ (|={Set.univ}=> iprop(start m c ∗ emp) : sProp 𝕄) := by
  iintro ⟨-, Hlev, Hcr, -, HG⟩
  imod (start_of m c) $$ [Hlev Hcr HG] with H
  · isplitl [Hlev]; · iexact Hlev
    isplitl [Hcr]; · iexact Hcr
    iexact HG
  imodintro
  isplitl [H]; · iexact H
  iempintro

/-- The region's start. -/
theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl]
  unfold Φ₀
  iintro ⟨Hs, -, Hr⟩
  isplitl [Hs]; · iexact Hs
  iexact Hr

/-- The region's end. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl]
  unfold Φ₁
  exact Entails.refl _

/-- The staging's waits are allowed. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by revert s; revert w; decide +kernel) _ (by
      rcases t with ⟨_ | _, ht⟩
      · exact Or.inl rfl
      · exact Or.inr rfl)

/-! ## The run -/

/-- What a window's array holds after the run. -/
def finalA (c : Dev nD) (w : Fin cfg0.W) : Buf (Elt F) ((cfg0.win w).arr.view.loc (c : Thread nD τ)) := (dats m ρ 0 c).arrAt w cfg0.N

/-- Every device's arrays hold what they should. -/
def QC : PUnit × MemSt nD τ sig (Elt F) → Prop := fun r =>
  ∀ c : Dev nD, ∀ w : Fin cfg0.W, r.2.mem ((cfg0.win w).arr.view.loc (c : Thread nD τ)) = finalA m ρ c w

/-- From any memory with every counter at zero, the program ends on every device; its
    arrays then hold the computed contents and every counter is at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_mesh m) $$ HX with HG
      imodintro
      isplitl [HP]; · iexact HP
      iexact HG)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The argument ends as it was. -/
theorem finalA_x (c : Dev nD) : finalA m ρ c (0 : Fin 2) = m ((c : Thread nD τ).loc main_arg0) :=
  (dats (F := F) m ρ 0 c).arrAt_in (0 : Fin 2) rfl _

/-- The result ends as the body left it. -/
theorem finalA_o (c : Dev nD) : finalA m ρ c (1 : Fin 2) = (outV m : (cc0_stg1_0 : Ref sig .tc).ty.Contents (Elt F)) := by
  unfold finalA
  have hw : ((cfg0.win (1 : Fin 2)).blk t0_0).view.read (Elt F) ((dats m ρ 0 c).arrAt (1 : Fin 2) cfg0.N)
      = (dats m ρ 0 c).flushed (1 : Fin 2) t0_0 := by
    rw [show cfg0.N = t0_0.val + 1 from rfl, (dats m ρ 0 c).arrAt_succ (1 : Fin 2) t0_0,
      if_pos (show (cfg0.win (1 : Fin 2)).flush t0_0 = true from by decide +kernel)]
    exact View.read_write_univ _ _
  have hr : ∀ f : Buf (Elt F) ((c : Thread nD τ).loc main_v1), (win0_1.blk t0_0).view.read (Elt F) f = f := fun f =>
    Memref.read_access_unit_zero (Elt F) main_v1
      (show (fun a => (win0_1.index t0_0) a * main_v1.ty.shape.size a) = fun _ => 0 from funext fun a => by fin_cases a <;> decide)
      (fun a => by fin_cases a <;> decide) f
  exact (hr _).symm.trans (hw.trans (funext fun _ => rfl))

end Cert.AllReduce
-- ==== Proof.Value.lean ====
module

public import proofs.«01_k».proof.Proof.Finish
public import proofs.«01_k».proof.Proof.Gen.ReferenceIdeal.Run
public import Idealize.ShloMosaic.Lib.Layout
public import Idealize.ShloMosaic.Lib.Pointwise.Reduce
public import Idealize.ShloMosaic.Lib.Pointwise.Reshape
public import Idealize.ShloMosaic.Lib.ValueLayout

@[expose] public section

set_option maxRecDepth 8000

/-!
# The value

Over the extended reals the result's element is the sum, over the sixteen devices, of the
argument's element at the same place. The devices add in different orders; addition does not mind.
-/

noncomputable section

namespace Cert.AllReduce

open Cert.KernelIdeal Cert.KernelIdeal.Gen
open Idealize.ShloMosaic Idealize.ShloMosaic.TcCoe

section Read
variable {F : FTy → Type} [FloatOps F]
variable (m : (ℓ : Loc nD τ sig) → Buf (Elt F) ℓ)

/-- The staged argument is the argument. -/
theorem xstg_eq (c : Dev nD) : xstg m c = m ((c : Thread nD τ).loc main_arg0) :=
  Memref.read_access_unit_zero (Elt F) main_arg0
    (show (fun a => (win0_0.index (0 : Fin 1)) a * main_arg0.ty.shape.size a) = fun _ => 0 from
      funext fun a => by fin_cases a <;> decide)
    (fun a => by fin_cases a <;> decide) (m ((c : Thread nD τ).loc main_arg0))

/-- The sixteen row blocks at an element: the argument's row `64 b + r`. -/
theorem pay1_at (v : Vec F S1x1024x1024 .bf16) (y : S16x64x1024.Idx) (k : S1x1024x1024.Idx)
    (h1 : (k 1).val = 64 * (y 0).val + (y 1).val) (h2 : (k 2).val = (y 2).val) : k0_pay1 v y = v k := by
  have h0 : (k 0).val = 0 := by have := (k 0).isLt; change (k 0).val < 1 at this; omega
  refine (show _ = v (Shape.reshapeEquiv _ (Shape.reshapeEquiv _ (Shape.reshapeEquiv _ y))) from rfl).trans (congrArg v ?_)
  rw [Shape.reshapeEquiv_reshapeEquiv, Shape.reshapeEquiv_reshapeEquiv]
  refine Shape.reshapeEquiv_eq_of_vals _ y k _ _ (rowMajor_val3 k 1048576 1024 rfl rfl) (rowMajor_val3 y 65536 1024 rfl rfl) ?_
  rw [h0, h1, h2]
  omega

/-- The place of an element of a slab in the whole argument of a device. -/
def inArg (b : Fin 16) (h : Fin 2) (x : S32x1024.Idx) : S1x1024x1024.Idx :=
  ix3 (0 : Fin 1) (⟨64 * b.val + 32 * h.val + (x 0).val, by
    have := b.isLt; have := h.isLt; have : (x 0).val < 32 := (x 0).isLt; omega⟩ : Fin 1024) (⟨(x 1).val, (x 1).isLt⟩ : Fin 1024)

/-- A slab of a device's argument at an element. -/
theorem xV_at (c : Dev nD) (b : Fin 16) (h : Fin 2) (x : S32x1024.Idx) :
    xV m c b h x = m ((c : Thread nD τ).loc main_arg0) (inArg b h x) := by
  have e : (sl16 stB b h).view.emb x
      = (Rect.unit (s := S16x64x1024) (o3 b h) S1x32x1024.size (inb16 b h)).emb
          (ix3 (0 : Fin 1) (⟨(x 0).val, (x 0).isLt⟩ : Fin 32) (⟨(x 1).val, (x 1).isLt⟩ : Fin 1024)) := by
    refine congrArg (Rect.unit (s := S16x64x1024) (o3 b h) S1x32x1024.size (inb16 b h)).emb ?_
    refine Shape.reshapeEquiv_eq_of_vals _ x _ _ _ (rowMajor_val3 _ 32768 1024 rfl rfl) (rowMajor_val2 x 1024 rfl) ?_
    show 0 * 32768 + (x 0).val * 1024 + (x 1).val = _
    omega
  refine (show _ = stC m c ((sl16 stB b h).view.emb x) from rfl).trans ?_
  rw [e]
  unfold stC
  rw [xstg_eq]
  refine pay1_at _ _ (inArg b h x) ?_ ?_
  · show 64 * b.val + 32 * h.val + (x 0).val = 64 * (b.val + 1 * 0) + (32 * h.val + 1 * (x 0).val)
    omega
  · show (x 1).val = 0 + 1 * (x 1).val
    omega

end Read

/-! ## Sums -/

/-- Four terms added from any one of them on, round, are the sum of the four. -/
theorem sum_from (g : Fin 4 → EReal) (z : Fin 4) : g z + g (z + 1) + g (z + 2) + g (z + 3) = ∑ k, g k := by
  rw [← Equiv.sum_comp (Equiv.addLeft z) g, Fin.sum_univ_four]
  show _ = g (z + 0) + g (z + 1) + g (z + 2) + g (z + 3)
  rw [add_zero]

/-- Planes and places together are the devices. -/
theorem sum_dev (a : Dev nD → EReal) : ∑ z : Fin 4, ∑ w : Fin 4, a (dev z w) = ∑ c : Dev nD, a c := by
  rw [← Fintype.sum_prod_type' (fun z w => a (dev z w))]
  refine Fintype.sum_bijective (fun p : Fin 4 × Fin 4 => dev p.1 p.2) ?_ _ _ fun _ => rfl
  exact Function.bijective_iff_has_inverse.mpr ⟨fun c => (cz c, cw c),
    fun p => Prod.ext (cz_dev p.1 p.2) (cw_dev p.1 p.2), fun c => dev_eta c⟩

section Ideal
variable (m : (ℓ : Loc nD τ sig) → Buf (Elt Ideal) ℓ)

/-- A device's plane sum at an element. -/
theorem sumV_at (z w zp : Fin 4) (h : Fin 2) (x : S32x1024.Idx) :
    sumV m (dev z w) zp h x = ∑ k : Fin 4, (xV m (dev z k) (blk zp w) h x : EReal) := by
  rw [← sum_from (fun k => (xV m (dev z k) (blk zp w) h x : EReal)) w]
  unfold sumV
  rw [cz_dev, cw_dev]
  rfl

/-- A device's finished block at an element: the sum over all devices. -/
theorem cfV_at (z w : Fin 4) (h : Fin 2) (x : S32x1024.Idx) :
    cfV m (dev z w) h x = ∑ c : Dev nD, (xV m c (blk z w) h x : EReal) := by
  rw [← sum_dev, ← sum_from (fun k => ∑ j : Fin 4, (xV m (dev k j) (blk z w) h x : EReal)) z]
  unfold cfV finV cbV
  rw [cz_dev, cw_dev]
  rw [← sumV_at m z w z h x, ← sumV_at m (z + 1) w z h x, ← sumV_at m (z + 2) w z h x, ← sumV_at m (z + 3) w z h x]
  rfl

/-- The argument of the reference: all the devices' arguments, one above another. -/
abbrev Whole : Type := (⟨3, ![16, 1024, 1024]⟩ : Shape).Idx → EReal

/-- The reference's result, as its operations compute it. -/
def refV (X : Whole) : S1024x1024.Idx → EReal :=
  truncf (F := Ideal) (φ := .f32) .bf16 (Host.reduceAdd (extf (F := Ideal) (φ := .bf16) .f32 X Cert.ReferenceIdeal.Gen.bitsLt_bf16_f32)
    (constant Cert.ReferenceIdeal.S_ .f32 0x00000000#32) Cert.ReferenceIdeal.Gen.reducesTo_S16x1024x1024_S1024x1024_d0
    Cert.ReferenceIdeal.Gen.h_S_) Cert.ReferenceIdeal.Gen.bitsLt_bf16_f32

/-- The reference's result at an element: the sum over all devices. -/
theorem refV_at (X : Whole) (i : S1024x1024.Idx) :
    refV X i = ∑ k : Fin 16, X (ix3 k (⟨(i 0).val, (i 0).isLt⟩ : Fin 1024) (⟨(i 1).val, (i 1).isLt⟩ : Fin 1024)) :=
  (Ideal.hostReduceAdd_r3_a0 Cert.ReferenceIdeal.Gen.reducesTo_S16x1024x1024_S1024x1024_d0 X
    (Ideal.ofBits .f32 0x00000000#32) i).trans (by rw [Ideal.ofBits_zero_f32, zero_add]; rfl)

/-- The two programs' results agree. -/
theorem outV_eq_refV (X : Whole)
    (hX : ∀ c : Dev nD, m ((c : Thread nD τ).loc main_arg0)
      = Layout.block ⟨3, ![1, 1024, 1024]⟩ ⟨3, ![16, 1024, 1024]⟩ 0 16 c X) : outV m = refV X := by
  funext i
  have i0 : (i 0).val < 1024 := (i 0).isLt
  refine Eq.trans ?_ (refV_at X i).symm
  refine (cfV_at m (f4 ((i 0).val / 64 / 4)) (f4 ((i 0).val / 64)) (f2 ((i 0).val / 32)) (inSlab i)).trans ?_
  refine Finset.sum_congr (M := EReal) rfl fun c _ => ?_
  rw [xV_at, hX c, Layout.block_apply]
  refine congrArg X (funext fun a => Fin.ext ?_)
  match a with
  | ⟨0, _⟩ => show c.val * 1 + 0 = c.val; omega
  | ⟨1, _⟩ =>
    show 64 * (4 * ((i 0).val / 64 / 4 % 4) + (i 0).val / 64 % 4) + 32 * ((i 0).val / 32 % 2) + (i 0).val % 32 = (i 0).val
    omega
  | ⟨2, _⟩ => rfl

end Ideal

end Cert.AllReduce
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Lib.Quiescent
public import Idealize.ShloMosaic.Init

@[expose] public section

set_option maxRecDepth 100000

noncomputable section

namespace Cert.Proof

open Idealize.ShloMosaic Idealize.SL.Sem

/-- The run, for any float values: the devices keep their arguments and leave every semaphore at zero. -/
theorem frame_any {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F))
      (onTc (τ := Cert.KernelIdeal.τ) (Cert.KernelIdeal.main (F := F))) ⟨m, fun _ => 0, ρ⟩
      (fun r => (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))
        ∧ r.2.sem = fun _ => 0) :=
  (θ_run Cert.KernelIdeal.defs _ _).mono
    (fun _ h => ⟨fun c => (h.1 c (0 : Fin 2)).trans (Cert.AllReduce.finalA_x m ρ c), h.2⟩)
    (Cert.AllReduce.run_main m ρ)

set_option smartUnfolding false in
/-- The kernel on machine floats: the same program as its ideal reading, so the same run. -/
theorem frame_kernel : Cert.quiescent_Kernel (hKernel := Cert.Kernel.Gen.facts) :=
  fun m ρ _ => frame_any (F := Bits) m ρ

/-- The kernel over the extended reals. -/
theorem frame_ideal : Cert.quiescent_KernelIdeal (hKernelIdeal := Cert.KernelIdeal.Gen.facts) :=
  fun m ρ _ => frame_any (F := Ideal) m ρ

/-- The reference runs, keeps its argument, and has no semaphores. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- Every device of the kernel ends with the reference's result: the sum over the devices. -/
theorem algebraic : Cert.algebraic_KernelIdeal_ReferenceIdeal (hKernelIdeal := Cert.KernelIdeal.Gen.facts)
    (hReferenceIdeal := Cert.ReferenceIdeal.Gen.facts) := fun m ρ m' ρ' _ hX =>
  ⟨Cert.AllReduce.refV (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨((h.1 c (1 : Fin 2)).trans (Cert.AllReduce.finalA_o (F := Ideal) m ρ c)).trans
          (Cert.AllReduce.outV_eq_refV m _ hX),
        (h.1 c (0 : Fin 2)).trans (Cert.AllReduce.finalA_x (F := Ideal) m ρ c)⟩)
      (Cert.AllReduce.run_main (F := Ideal) m ρ),
    (θ_run Cert.ReferenceIdeal.defs _ _).mono (fun _ h => h 0) (Cert.ReferenceIdeal.Value.run (F := Ideal) m' ρ')⟩

/-- All the claims. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
